-- ==== Defs.lean ====
def Pre_Kernel [hPre_plan_range : Cert.Pre_plan_range.Facts] (m : (ℓ : Loc Cert.Kernel.nD Cert.Kernel.τ Cert.Kernel.sig) → Buf (Elt Bits) ℓ) : Prop :=
  ∀ c : Dev Cert.Kernel.nD,
    (Cert.Pre_plan_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_plan_range : Cert.Pre_plan_range.Facts] (m : (ℓ : Loc Cert.KernelIdeal.nD Cert.KernelIdeal.τ Cert.KernelIdeal.sig) → Buf (Elt Ideal) ℓ) : Prop :=
  ∀ c : Dev Cert.KernelIdeal.nD,
    (Cert.Pre_plan_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Last [hPre_slot_range : Cert.Pre_slot_range.Facts] (m : (ℓ : Loc Cert.Last.nD Cert.Last.τ Cert.Last.sig) → Buf (Elt Bits) ℓ) : Prop :=
  ∀ c : Dev Cert.Last.nD,
    (Cert.Pre_slot_range.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7))) = (fun _ => 1#1)

def Pre_LastIdeal [hPre_slot_range : Cert.Pre_slot_range.Facts] (m : (ℓ : Loc Cert.LastIdeal.nD Cert.LastIdeal.τ Cert.LastIdeal.sig) → Buf (Elt Ideal) ℓ) : Prop :=
  ∀ c : Dev Cert.LastIdeal.nD,
    (Cert.Pre_slot_range.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_slot_range [hPre_slot_range : Cert.Pre_slot_range.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_slot_range.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7))) = (fun _ => 1#1)

def quiescent_Kernel [hKernel : Cert.Kernel.Facts] [hPre_plan_range : Cert.Pre_plan_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_plan_range : Cert.Pre_plan_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Last [hLast : Cert.Last.Facts] [hPre_slot_range : Cert.Pre_slot_range.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] [hPre_slot_range : Cert.Pre_slot_range.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7))
      ∧ r.2.sem = fun _ => 0)

def quiescent_LastReferenceIdeal_pre_slot_range [hLastReferenceIdeal : Cert.LastReferenceIdeal.Facts] [hPre_slot_range : Cert.Pre_slot_range.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_slot_range m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v24) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Last_LastIdeal : Prop :=
  True

def algebraic_LastIdeal_LastReferenceIdeal [hLastIdeal : Cert.LastIdeal.Facts] [hLastReferenceIdeal : Cert.LastReferenceIdeal.Facts] [hPre_slot_range : Cert.Pre_slot_range.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v12)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v12) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v53) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hLast : Cert.Last.Facts) (hLastIdeal : Cert.LastIdeal.Facts) (hLastReferenceIdeal : Cert.LastReferenceIdeal.Facts) (hPre_plan_range : Cert.Pre_plan_range.Facts) (hPre_finite_routing : Cert.Pre_finite_routing.Facts) (hPre_slot_range : Cert.Pre_slot_range.Facts),
    quiescent_Kernel (hKernel := hKernel) (hPre_plan_range := hPre_plan_range)
    ∧ quiescent_KernelIdeal (hKernelIdeal := hKernelIdeal) (hPre_plan_range := hPre_plan_range)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ quiescent_InProj (hInProj := hInProj)
    ∧ quiescent_InProjIdeal (hInProjIdeal := hInProjIdeal)
    ∧ quiescent_InProjReferenceIdeal (hInProjReferenceIdeal := hInProjReferenceIdeal)
    ∧ quiescent_Last (hLast := hLast) (hPre_slot_range := hPre_slot_range)
    ∧ quiescent_LastIdeal (hLastIdeal := hLastIdeal) (hPre_slot_range := hPre_slot_range)
    ∧ quiescent_LastReferenceIdeal (hLastReferenceIdeal := hLastReferenceIdeal)
    ∧ quiescent_LastReferenceIdeal_pre_slot_range (hLastReferenceIdeal := hLastReferenceIdeal) (hPre_slot_range := hPre_slot_range)
    ∧ preserves_Kernel_KernelIdeal
    ∧ algebraic_KernelIdeal_ReferenceIdeal_pre_finite_routing (hKernelIdeal := hKernelIdeal) (hReferenceIdeal := hReferenceIdeal) (hPre_finite_routing := hPre_finite_routing)
    ∧ preserves_InProj_InProjIdeal
    ∧ algebraic_InProjIdeal_InProjReferenceIdeal (hInProjIdeal := hInProjIdeal) (hInProjReferenceIdeal := hInProjReferenceIdeal)
    ∧ preserves_Last_LastIdeal
    ∧ algebraic_LastIdeal_LastReferenceIdeal (hLastIdeal := hLastIdeal) (hLastReferenceIdeal := hLastReferenceIdeal) (hPre_slot_range := hPre_slot_range)
-- ==== Pre_finite_routing.lean ====
abbrev S16384x1024 : Shape := ⟨2, ![16384, 1024]⟩
abbrev S36 : Shape := ⟨1, ![36]⟩
abbrev S18432 : Shape := ⟨1, ![18432]⟩
abbrev S2x1024x4 : Shape := ⟨3, ![2, 1024, 4]⟩
abbrev S2x4 : Shape := ⟨2, ![2, 4]⟩
abbrev S2x1024x16 : Shape := ⟨3, ![2, 1024, 16]⟩
abbrev S2x16 : Shape := ⟨2, ![2, 16]⟩
abbrev S2x16x1024x512 : Shape := ⟨4, ![2, 16, 1024, 512]⟩
abbrev S2x16x512x1024 : Shape := ⟨4, ![2, 16, 512, 1024]⟩
abbrev S_ : Shape := ⟨0, ![]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x16 : Shape := ⟨3, ![1, 1024, 16]⟩
abbrev S1024x16 : Shape := ⟨2, ![1024, 16]⟩
abbrev S1x16 : Shape := ⟨2, ![1, 16]⟩
abbrev S16 : Shape := ⟨1, ![16]⟩

class Facts : Prop where
  bcast_S_S36 : S_.BroadcastsInDim S36 (![] : Fin 0 → Fin S36.rank)
  reducesTo_S36_S_d0 : S36.ReducesTo [0] S_
  h_S_ : 0 < S_.numel
  bcast_S_S18432 : S_.BroadcastsInDim S18432 (![] : Fin 0 → Fin S18432.rank)
  reducesTo_S18432_S_d0 : S18432.ReducesTo [0] S_
  bcast_S_S16384x1024 : S_.BroadcastsInDim S16384x1024 (![] : Fin 0 → Fin S16384x1024.rank)
  reducesTo_S16384x1024_S_d0_1 : S16384x1024.ReducesTo [0, 1] S_
  slices_S2x1024x4_S1x1024x4_0_0_0 : S2x1024x4.Slices ![0, 0, 0] S1x1024x4
  shapeCasts_S1x1024x4_S1024x4 : S1x1024x4.ShapeCasts S1024x4
  bcast_S_S1024x4 : S_.BroadcastsInDim S1024x4 (![] : Fin 0 → Fin S1024x4.rank)
  reducesTo_S1024x4_S_d0_1 : S1024x4.ReducesTo [0, 1] S_
  slices_S2x4_S1x4_0_0 : S2x4.Slices ![0, 0] S1x4
  shapeCasts_S1x4_S4 : S1x4.ShapeCasts S4
  bcast_S_S4 : S_.BroadcastsInDim S4 (![] : Fin 0 → Fin S4.rank)
  reducesTo_S4_S_d0 : S4.ReducesTo [0] S_
  slices_S2x1024x16_S1x1024x16_0_0_0 : S2x1024x16.Slices ![0, 0, 0] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_
  slices_S2x16_S1x16_0_0 : S2x16.Slices ![0, 0] S1x16
  shapeCasts_S1x16_S16 : S1x16.ShapeCasts S16
  bcast_S_S16 : S_.BroadcastsInDim S16 (![] : Fin 0 → Fin S16.rank)
  reducesTo_S16_S_d0 : S16.ReducesTo [0] S_

variable [Facts]

def fn_part2 {F : FTy → Type} [FloatOps F] (main_arg6 : FVec F S2x16 .f32) (main_v31 : IVec S_ 1) (main_v34 : FVec F S1024x16 .f32) (main_cst_10 : FVec F S_ .f32) : IVec S_ 1 :=
  let main_v35 : FVec F S1024x16 .f32 := broadcastInDim S1024x16 ![] bcast_S_S1024x16 main_cst_10
  let main_v36 : IVec S1024x16 1 := cmpf .olt main_v34 main_v35
  let main_c_11 : IVec S_ 1 := constantI S_ 1 1#1
  let main_v37 : IVec S_ 1 := (fun x v => Host.reduce IntOp.andi x v reducesTo_S1024x16_S_d0_1 h_S_) main_v36 main_c_11
  let main_v38 : IVec S_ 1 := andi main_v31 main_v37
  let main_v39 : FVec F S1x16 .f32 := (extractStridedSlice S1x16 ![0, 0] · slices_S2x16_S1x16_0_0) main_arg6
  let main_v40 : FVec F S16 .f32 := shapeCast S16 main_v39 shapeCasts_S1x16_S16
  let main_v41 : FVec F S16 .f32 := Host.absf main_v40
  let main_cst_12 : FVec F S_ .f32 := constant S_ .f32 0x7F800000#32
  let main_v42 : FVec F S16 .f32 := broadcastInDim S16 ![] bcast_S_S16 main_cst_12
  let main_v43 : IVec S16 1 := cmpf .olt main_v41 main_v42
  let main_c_13 : IVec S_ 1 := constantI S_ 1 1#1
  let main_v44 : IVec S_ 1 := (fun x v => Host.reduce IntOp.andi x v reducesTo_S16_S_d0 h_S_) main_v43 main_c_13
  let main_v45 : IVec S_ 1 := andi main_v38 main_v44
  main_v45

def fn_part1 {F : FTy → Type} [FloatOps F] (main_arg3 : FVec F S2x1024x4 .f32) (main_arg4 : FVec F S2x4 .f32) (main_arg5 : FVec F S2x1024x16 .f32) (main_arg6 : FVec F S2x16 .f32) (main_v12 : IVec S_ 1) (main_v15 : IVec S16384x1024 1) (main_c_5 : IVec S_ 1) : IVec S_ 1 :=
  let main_v16 : IVec S_ 1 := (fun x v => Host.reduce IntOp.andi x v reducesTo_S16384x1024_S_d0_1 h_S_) main_v15 main_c_5
  let main_v17 : IVec S_ 1 := andi main_v12 main_v16
  let main_v18 : FVec F S1x1024x4 .f32 := (extractStridedSlice S1x1024x4 ![0, 0, 0] · slices_S2x1024x4_S1x1024x4_0_0_0) main_arg3
  let main_v19 : FVec F S1024x4 .f32 := shapeCast S1024x4 main_v18 shapeCasts_S1x1024x4_S1024x4
  let main_v20 : FVec F S1024x4 .f32 := Host.absf main_v19
  let main_cst_6 : FVec F S_ .f32 := constant S_ .f32 0x7F800000#32
  let main_v21 : FVec F S1024x4 .f32 := broadcastInDim S1024x4 ![] bcast_S_S1024x4 main_cst_6
  let main_v22 : IVec S1024x4 1 := cmpf .olt main_v20 main_v21
  let main_c_7 : IVec S_ 1 := constantI S_ 1 1#1
  let main_v23 : IVec S_ 1 := (fun x v => Host.reduce IntOp.andi x v reducesTo_S1024x4_S_d0_1 h_S_) main_v22 main_c_7
  let main_v24 : IVec S_ 1 := andi main_v17 main_v23
  let main_v25 : FVec F S1x4 .f32 := (extractStridedSlice S1x4 ![0, 0] · slices_S2x4_S1x4_0_0) main_arg4
  let main_v26 : FVec F S4 .f32 := shapeCast S4 main_v25 shapeCasts_S1x4_S4
  let main_v27 : FVec F S4 .f32 := Host.absf main_v26
  let main_cst_8 : FVec F S_ .f32 := constant S_ .f32 0x7F800000#32
  let main_v28 : FVec F S4 .f32 := broadcastInDim S4 ![] bcast_S_S4 main_cst_8
  let main_v29 : IVec S4 1 := cmpf .olt main_v27 main_v28
  let main_c_9 : IVec S_ 1 := constantI S_ 1 1#1
  let main_v30 : IVec S_ 1 := (fun x v => Host.reduce IntOp.andi x v reducesTo_S4_S_d0 h_S_) main_v29 main_c_9
  let main_v31 : IVec S_ 1 := andi main_v24 main_v30
  let main_v32 : FVec F S1x1024x16 .f32 := (extractStridedSlice S1x1024x16 ![0, 0, 0] · slices_S2x1024x16_S1x1024x16_0_0_0) main_arg5
  let main_v33 : FVec F S1024x16 .f32 := shapeCast S1024x16 main_v32 shapeCasts_S1x1024x16_S1024x16
  let main_v34 : FVec F S1024x16 .f32 := Host.absf main_v33
  let main_cst_10 : FVec F S_ .f32 := constant S_ .f32 0x7F800000#32
  fn_part2 (F := F) main_arg6 main_v31 main_v34 main_cst_10

def fn {F : FTy → Type} [FloatOps F] (main_arg0 : FVec F S16384x1024 .f32) (main_arg1 : IVec S36 32) (main_arg2 : IVec S18432 32) (main_arg3 : FVec F S2x1024x4 .f32) (main_arg4 : FVec F S2x4 .f32) (main_arg5 : FVec F S2x1024x16 .f32) (main_arg6 : FVec F S2x16 .f32) (main_arg7 : FVec F S2x16x1024x512 .f32) (main_arg8 : FVec F S2x16x1024x512 .f32) (main_arg9 : FVec F S2x16x512x1024 .f32) : IVec S_ 1 :=
  let main_c : IVec S_ 32 := constantI S_ 32 0#32
  let main_v0 : IVec S36 32 := broadcastInDim S36 ![] bcast_S_S36 main_c
  let main_v1 : IVec S36 1 := cmpi .sge main_arg1 main_v0
  let main_c_0 : IVec S_ 32 := constantI S_ 32 4#32
  let main_v2 : IVec S36 32 := broadcastInDim S36 ![] bcast_S_S36 main_c_0
  let main_v3 : IVec S36 1 := cmpi .sle main_arg1 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  let main_c_2 : IVec S_ 32 := constantI S_ 32 0#32
  let main_v6 : IVec S18432 32 := broadcastInDim S18432 ![] bcast_S_S18432 main_c_2
  let main_v7 : IVec S18432 1 := cmpi .sge main_arg2 main_v6
  let main_c_3 : IVec S_ 32 := constantI S_ 32 16384#32
  let main_v8 : IVec S18432 32 := broadcastInDim S18432 ![] bcast_S_S18432 main_c_3
  let main_v9 : IVec S18432 1 := cmpi .slt main_arg2 main_v8
  let main_v10 : IVec S18432 1 := andi main_v7 main_v9
  let main_c_4 : IVec S_ 1 := constantI S_ 1 1#1
  let main_v11 : IVec S_ 1 := (fun x v => Host.reduce IntOp.andi x v reducesTo_S18432_S_d0 h_S_) main_v10 main_c_4
  let main_v12 : IVec S_ 1 := andi main_v5 main_v11
  let main_v13 : FVec F S16384x1024 .f32 := Host.absf main_arg0
  let main_cst : FVec F S_ .f32 := constant S_ .f32 0x7F800000#32
  let main_v14 : FVec F S16384x1024 .f32 := broadcastInDim S16384x1024 ![] bcast_S_S16384x1024 main_cst
  let main_v15 : IVec S16384x1024 1 := cmpf .olt main_v13 main_v14
  let main_c_5 : IVec S_ 1 := constantI S_ 1 1#1
  fn_part1 (F := F) main_arg3 main_arg4 main_arg5 main_arg6 main_v12 main_v15 main_c_5
-- ==== Pre_plan_range.lean ====
abbrev S16384x1024 : Shape := ⟨2, ![16384, 1024]⟩
abbrev S36 : Shape := ⟨1, ![36]⟩
abbrev S18432 : Shape := ⟨1, ![18432]⟩
abbrev S2x1024x4 : Shape := ⟨3, ![2, 1024, 4]⟩
abbrev S2x4 : Shape := ⟨2, ![2, 4]⟩
abbrev S2x1024x16 : Shape := ⟨3, ![2, 1024, 16]⟩
abbrev S2x16 : Shape := ⟨2, ![2, 16]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel
  bcast_S_S18432 : S_.BroadcastsInDim S18432 (![] : Fin 0 → Fin S18432.rank)
  reducesTo_S18432_S_d0 : S18432.ReducesTo [0] S_

variable [Facts]

def fn {F : FTy → Type} [FloatOps F] (main_arg0 : FVec F S16384x1024 .f32) (main_arg1 : IVec S36 32) (main_arg2 : IVec S18432 32) (main_arg3 : FVec F S2x1024x4 .f32) (main_arg4 : FVec F S2x4 .f32) (main_arg5 : FVec F S2x1024x16 .f32) (main_arg6 : FVec F S2x16 .f32) (main_arg7 : FVec F S2x16x1024x512 .f32) (main_arg8 : FVec F S2x16x1024x512 .f32) (main_arg9 : FVec F S2x16x512x1024 .f32) : IVec S_ 1 :=
  let main_c : IVec S_ 32 := constantI S_ 32 0#32
  let main_v0 : IVec S36 32 := broadcastInDim S36 ![] bcast_S_S36 main_c
  let main_v1 : IVec S36 1 := cmpi .sge main_arg1 main_v0
  let main_c_0 : IVec S_ 32 := constantI S_ 32 4#32
  let main_v2 : IVec S36 32 := broadcastInDim S36 ![] bcast_S_S36 main_c_0
  let main_v3 : IVec S36 1 := cmpi .sle main_arg1 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  let main_c_2 : IVec S_ 32 := constantI S_ 32 0#32
  let main_v6 : IVec S18432 32 := broadcastInDim S18432 ![] bcast_S_S18432 main_c_2
  let main_v7 : IVec S18432 1 := cmpi .sge main_arg2 main_v6
  let main_c_3 : IVec S_ 32 := constantI S_ 32 16384#32
  let main_v8 : IVec S18432 32 := broadcastInDim S18432 ![] bcast_S_S18432 main_c_3
  let main_v9 : IVec S18432 1 := cmpi .slt main_arg2 main_v8
  let main_v10 : IVec S18432 1 := andi main_v7 main_v9
  let main_c_4 : IVec S_ 1 := constantI S_ 1 1#1
  let main_v11 : IVec S_ 1 := (fun x v => Host.reduce IntOp.andi x v reducesTo_S18432_S_d0 h_S_) main_v10 main_c_4
  let main_v12 : IVec S_ 1 := andi main_v5 main_v11
  main_v12
-- ==== Pre_slot_range.lean ====
abbrev S16384x1024 : Shape := ⟨2, ![16384, 1024]⟩
abbrev S147456x128 : Shape := ⟨2, ![147456, 128]⟩
abbrev S16384 : Shape := ⟨1, ![16384]⟩
abbrev S2x8x2048x256 : Shape := ⟨4, ![2, 8, 2048, 256]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1024 .f32) (main_arg1 : FVec F S147456x128 .f32) (main_arg2 : IVec S16384 32) (main_arg3 : FVec F S2x8x2048x256 .f32) (main_arg4 : FVec F S2x1024 .f32) (main_arg5 : FVec F S2x1024x1024 .f32) (main_arg6 : FVec F S2x256x1024 .f32) (main_arg7 : FVec F S1024 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 18432#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x1024 : Shape := ⟨2, ![16384, 1024]⟩
abbrev S36 : Shape := ⟨1, ![36]⟩
abbrev S18432 : Shape := ⟨1, ![18432]⟩
abbrev S2x1024x4 : Shape := ⟨3, ![2, 1024, 4]⟩
abbrev S2x4 : Shape := ⟨2, ![2, 4]⟩
abbrev S2x1024x16 : Shape := ⟨3, ![2, 1024, 16]⟩
abbrev S2x16 : Shape := ⟨2, ![2, 16]⟩
abbrev S2x16x1024x512 : Shape := ⟨4, ![2, 16, 1024, 512]⟩
abbrev S2x16x512x1024 : Shape := ⟨4, ![2, 16, 512, 1024]⟩
abbrev S1x1024x4 : Shape := ⟨3, ![1, 1024, 4]⟩
abbrev S1024x4 : Shape := ⟨2, ![1024, 4]⟩
abbrev S1x1024x16 : Shape := ⟨3, ![1, 1024, 16]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S1x4 : Shape := ⟨2, ![1, 4]⟩
abbrev S4 : Shape := ⟨1, ![4]⟩
abbrev S1x16 : Shape := ⟨2, ![1, 16]⟩
abbrev S16 : Shape := ⟨1, ![16]⟩
abbrev S20 : Shape := ⟨1, ![20]⟩
abbrev S128 : Shape := ⟨1, ![128]⟩
abbrev S131072x128 : Shape := ⟨2, ![131072, 128]⟩
abbrev S1x128 : Shape := ⟨2, ![1, 128]⟩
abbrev S2x4x4x1024x512 : Shape := ⟨5, ![2, 4, 4, 1024, 512]⟩
abbrev S2x4x4x512x1024 : Shape := ⟨5, ![2, 4, 4, 512, 1024]⟩
abbrev S147456x128 : Shape := ⟨2, ![147456, 128]⟩
abbrev S1x1x4x1024x512 : Shape := ⟨5, ![1, 1, 4, 1024, 512]⟩
abbrev S1 : Shape := ⟨1, ![1]⟩
abbrev S1x1x4x512x1024 : Shape := ⟨5, ![1, 1, 4, 512, 1024]⟩
abbrev S4096x128 : Shape := ⟨2, ![4096, 128]⟩
abbrev S2x4096x128 : Shape := ⟨3, ![2, 4096, 128]⟩
abbrev S2 : Shape := ⟨1, ![2]⟩
abbrev S1x8x128 : Shape := ⟨3, ![1, 8, 128]⟩
abbrev S8x128 : Shape := ⟨2, ![8, 128]⟩
abbrev S1x4096x128 : Shape := ⟨3, ![1, 4096, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x1x1x1024x512 : Shape := ⟨5, ![1, 1, 1, 1024, 512]⟩
abbrev S1024x512 : Shape := ⟨2, ![1024, 512]⟩
abbrev S512x512 : Shape := ⟨2, ![512, 512]⟩
abbrev S1x1x1x512x1024 : Shape := ⟨5, ![1, 1, 1, 512, 1024]⟩

abbrev nBuf : Space → Nat
  | .hbm => 33
  | .vmem => 11
  | .smem => 2
  | _ => 0

abbrev bufTy : (tb : Table) → Fin (tcTables nBuf tb) → BufTy
  | .hbm, ⟨0, _⟩ => ⟨S16384x1024, .f32⟩
  | .hbm, ⟨1, _⟩ => ⟨S2x1024x4, .f32⟩
  | .hbm, ⟨2, _⟩ => ⟨S2x4, .f32⟩
  | .hbm, ⟨3, _⟩ => ⟨S2x1024x16, .f32⟩
  | .hbm, ⟨4, _⟩ => ⟨S2x16, .f32⟩
  | .hbm, ⟨5, _⟩ => ⟨S2x16x1024x512, .f32⟩
  | .hbm, ⟨6, _⟩ => ⟨S2x16x1024x512, .f32⟩
  | .hbm, ⟨7, _⟩ => ⟨S2x16x512x1024, .f32⟩
  | .hbm, ⟨8, _⟩ => ⟨S1x1024x4, .f32⟩
  | .hbm, ⟨9, _⟩ => ⟨S1024x4, .f32⟩
  | .hbm, ⟨10, _⟩ => ⟨S1x1024x16, .f32⟩
  | .hbm, ⟨11, _⟩ => ⟨S1024x16, .f32⟩
  | .hbm, ⟨12, _⟩ => ⟨S1024x20, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1x4, .f32⟩
  | .hbm, ⟨17, _⟩ => ⟨S4, .f32⟩
  | .hbm, ⟨18, _⟩ => ⟨S1x16, .f32⟩
  | .hbm, ⟨19, _⟩ => ⟨S16, .f32⟩
  | .hbm, ⟨20, _⟩ => ⟨S20, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S131072x128, .f32⟩
  | .hbm, ⟨25, _⟩ => ⟨S1x128, .f32⟩
  | .hbm, ⟨26, _⟩ => ⟨S2x16x1024x512, .bf16⟩
  | .hbm, ⟨27, _⟩ => ⟨S2x16x1024x512, .bf16⟩
  | .hbm, ⟨28, _⟩ => ⟨S2x16x512x1024, .bf16⟩
  | .hbm, ⟨29, _⟩ => ⟨S2x4x4x1024x512, .bf16⟩
  | .hbm, ⟨30, _⟩ => ⟨S2x4x4x1024x512, .bf16⟩
  | .hbm, ⟨31, _⟩ => ⟨S2x4x4x512x1024, .bf16⟩
  | .hbm, ⟨32, _⟩ => ⟨S147456x128, .f32⟩
  | .local _ .vmem, ⟨0, _⟩ => ⟨S1024x128, .f32⟩
  | .local _ .vmem, ⟨1, _⟩ => ⟨S1x128, .f32⟩
  | .local _ .vmem, ⟨2, _⟩ => ⟨S1x1x4x1024x512, .bf16⟩
  | .local _ .vmem, ⟨3, _⟩ => ⟨S1x1x4x1024x512, .bf16⟩
  | .local _ .vmem, ⟨4, _⟩ => ⟨S1x1x4x1024x512, .bf16⟩
  | .local _ .vmem, ⟨5, _⟩ => ⟨S1x1x4x1024x512, .bf16⟩
  | .local _ .vmem, ⟨6, _⟩ => ⟨S1x1x4x512x1024, .bf16⟩
  | .local _ .vmem, ⟨7, _⟩ => ⟨S1x1x4x512x1024, .bf16⟩
  | .local _ .vmem, ⟨8, _⟩ => ⟨S4096x128, .f32⟩
  | .local _ .vmem, ⟨9, _⟩ => ⟨S4096x128, .f32⟩
  | .local _ .vmem, ⟨10, _⟩ => ⟨S2x4096x128, .f32⟩
  | .local _ .smem, ⟨0, _⟩ => ⟨S36, .i32⟩
  | .local _ .smem, ⟨1, _⟩ => ⟨S18432, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_20 : BitVec 32 := 0#32
  let c512_i32 : BitVec 32 := 512#32
  let v41 : BitVec 32 := Scalar.addi c0_i32_20 c512_i32
  let c1_i32_21 : BitVec 32 := 1#32
  ⟨c0_i32_20, v41, c1_i32_21⟩
def k0_off2 (i : grid0.Coords) (k0_t1 : Fin k0_t1_loop.trips) : Fin 1 → Nat :=
  let arg0 : BitVec 32 := BitVec.ofNat 32 (i 0).val
  let c512_i32_23 : BitVec 32 := 512#32
  let v42 : BitVec 32 := Scalar.muli arg0 c512_i32_23
  let c0_i32_20 : BitVec 32 := 0#32
  let c1_i32_21 : BitVec 32 := 1#32
  let arg12 : BitVec 32 := Scf.iv c0_i32_20 c1_i32_21 k0_t1
  let v43 : BitVec 32 := Scalar.addi v42 arg12
  let v44 : Index := Scalar.indexCast v43
  ![v44.toNat]
def k0_mult1 (v45 : BitVec 32) : BitVec 32 :=
  let c8_i32 : BitVec 32 := 8#32
  let v46 : BitVec 32 := Scalar.muli v45 c8_i32
  v46

def k0_mult2 (k0_t1 : Fin k0_t1_loop.trips) : BitVec 32 :=
  let c0_i32_20 : BitVec 32 := 0#32
  let c1_i32_21 : BitVec 32 := 1#32
  let arg12 : BitVec 32 := Scf.iv c0_i32_20 c1_i32_21 k0_t1
  let c8_i32_24 : BitVec 32 := 8#32
  let v48 : BitVec 32 := Scalar.muli arg12 c8_i32_24
  v48
def k0_off3 (i : grid0.Coords) : Fin 1 → Nat :=
  let arg0 : BitVec 32 := BitVec.ofNat 32 (i 0).val
  let c2_i32_14 : BitVec 32 := 2#32
  let c0_i32_15 : BitVec 32 := 0#32
  let v31 : BitVec 1 := Scalar.cmpi .eq c2_i32_14 c0_i32_15
  let c1_i32_16 : BitVec 32 := 1#32
  let v32 : BitVec 32 := Scalar.select v31 c1_i32_16 c2_i32_14
  let v33 : BitVec 32 := Scalar.remsi arg0 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  ![v40.toNat]
def k0_off4 (i : grid0.Coords) (k0_t1 : Fin k0_t1_loop.trips) : Fin 3 → Nat :=
  let arg0 : BitVec 32 := BitVec.ofNat 32 (i 0).val
  let c2_i32_14 : BitVec 32 := 2#32
  let c0_i32_15 : BitVec 32 := 0#32
  let v31 : BitVec 1 := Scalar.cmpi .eq c2_i32_14 c0_i32_15
  let c1_i32_16 : BitVec 32 := 1#32
  let v32 : BitVec 32 := Scalar.select v31 c1_i32_16 c2_i32_14
  let v33 : BitVec 32 := Scalar.remsi arg0 v32
  let c0_i32_18 : BitVec 32 := 0#32
  let v35 : BitVec 1 := Scalar.cmpi .slt v33 c0_i32_18
  let c0_i32_19 : BitVec 32 := 0#32
  let v36 : BitVec 1 := Scalar.cmpi .slt v32 c0_i32_19
  let v37 : BitVec 1 := Scalar.xori v35 v36
  let c0_i32_17 : BitVec 32 := 0#32
  let v34 : BitVec 1 := Scalar.cmpi .ne v33 c0_i32_17
  let v38 : BitVec 1 := Scalar.andi v37 v34
  let v39 : BitVec 32 := Scalar.addi v33 v32
  let v40 : BitVec 32 := Scalar.select v38 v39 v33
  let c0_i32_20 : BitVec 32 := 0#32
  let c1_i32_21 : BitVec 32 := 1#32
  let arg12 : BitVec 32 := Scf.iv c0_i32_20 c1_i32_21 k0_t1
  let c8_i32_24 : BitVec 32 := 8#32
  let v48 : BitVec 32 := Scalar.muli arg12 c8_i32_24
  let v49 : BitVec 32 := v48
  let c0_i32_25 : BitVec 32 := 0#32
  ![v40.toNat, v49.toNat, 0]
def k0_off5 (v45 : BitVec 32) : Fin 2 → Nat :=
  let c8_i32 : BitVec 32 := 8#32
  let v46 : BitVec 32 := Scalar.muli v45 c8_i32
  let v47 : BitVec 32 := v46
  let c0_i32_26 : BitVec 32 := 0#32
  ![v47.toNat, 0]

def k0_chk1 (i : grid0.Coords) (v45 : BitVec 32) : Prop :=
  (∀ (k0_h1 : k0_cond1 i = 1#1), 8 ∣ (k0_mult1 v45).toNat) ∧
  (∀ (k0_h1 : k0_cond1 i = 1#1), ∀ a, (k0_off5 v45) a + S8x128.size a ≤ S131072x128.size a)
theorem k0_mult1_dvd : ∀ (i : grid0.Coords) (v45 : BitVec 32) (k0_hw1 : k0_chk1 i v45), ∀ (k0_h1 : k0_cond1 i = 1#1), 8 ∣ (k0_mult1 v45).toNat := fun i v45 k0_hw1 k0_h1 => k0_hw1.1 k0_h1
theorem k0_off5_inb : ∀ (i : grid0.Coords) (v45 : BitVec 32) (k0_hw1 : k0_chk1 i v45), ∀ (k0_h1 : k0_cond1 i = 1#1), ∀ a, (k0_off5 v45) a + S8x128.size a ≤ S131072x128.size a := fun i v45 k0_hw1 k0_h1 => k0_hw1.2 k0_h1

def k0_cond2 (i : grid0.Coords) : BitVec 1 :=
  let arg0 : BitVec 32 := BitVec.ofNat 32 (i 0).val
  let c1_i32 : BitVec 32 := 1#32
  let v5 : BitVec 32 := Scalar.addi arg0 c1_i32
  let c36_i32 : BitVec 32 := 36#32
  let v6 : BitVec 1 := Scalar.cmpi .slt v5 c36_i32
  let v7 : BitVec 32 := Scalar.extui v6
  let c0_i32_1 : BitVec 32 := 0#32
  let v8 : BitVec 1 := Scalar.cmpi .ne v7 c0_i32_1
  v8

@[reducible] def k0_t2_loop : Scf.Loop 32 :=
  let c0_i32_21 : BitVec 32 := 0#32
  let c512_i32 : BitVec 32 := 512#32
  let v42 : BitVec 32 := Scalar.addi c0_i32_21 c512_i32
  let c1_i32_22 : BitVec 32 := 1#32
  ⟨c0_i32_21, v42, c1_i32_22⟩
def k0_off6 (i : grid0.Coords) (k0_t2 : Fin k0_t2_loop.trips) : Fin 1 → Nat :=
  let arg0 : BitVec 32 := BitVec.ofNat 32 (i 0).val
  let c1_i32_14 : BitVec 32 := 1#32
  let v31 : BitVec 32 := Scalar.addi arg0 c1_i32_14
  let c512_i32_24 : BitVec 32 := 512#32
  let v43 : BitVec 32 := Scalar.muli v31 c512_i32_24
  let c0_i32_21 : BitVec 32 := 0#32
  let c1_i32_22 : BitVec 32 := 1#32
  let arg12 : BitVec 32 := Scf.iv c0_i32_21 c1_i32_22 k0_t2
  let v44 : BitVec 32 := Scalar.addi v43 arg12
  let v45 : Index := Scalar.indexCast v44
  ![v45.toNat]
def k0_mult3 (v46 : BitVec 32) : BitVec 32 :=
  let c8_i32 : BitVec 32 := 8#32
  let v47 : BitVec 32 := Scalar.muli v46 c8_i32
  v47

def k0_mult4 (k0_t2 : Fin k0_t2_loop.trips) : BitVec 32 :=
  let c0_i32_21 : BitVec 32 := 0#32
  let c1_i32_22 : BitVec 32 := 1#32
  let arg12 : BitVec 32 := Scf.iv c0_i32_21 c1_i32_22 k0_t2
  let c8_i32_25 : BitVec 32 := 8#32
  let v49 : BitVec 32 := Scalar.muli arg12 c8_i32_25
  v49
def k0_off7 (i : grid0.Coords) : Fin 1 → Nat :=
  let arg0 : BitVec 32 := BitVec.ofNat 32 (i 0).val
  let c1_i32_14 : BitVec 32 := 1#32
  let v31 : BitVec 32 := Scalar.addi arg0 c1_i32_14
  let c2_i32_15 : BitVec 32 := 2#32
  let c0_i32_16 : BitVec 32 := 0#32
  let v32 : BitVec 1 := Scalar.cmpi .eq c2_i32_15 c0_i32_16
  let c1_i32_17 : BitVec 32 := 1#32
  let v33 : BitVec 32 := Scalar.select v32 c1_i32_17 c2_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  ![v41.toNat]
def k0_off8 (i : grid0.Coords) (k0_t2 : Fin k0_t2_loop.trips) : Fin 3 → Nat :=
  let arg0 : BitVec 32 := BitVec.ofNat 32 (i 0).val
  let c1_i32_14 : BitVec 32 := 1#32
  let v31 : BitVec 32 := Scalar.addi arg0 c1_i32_14
  let c2_i32_15 : BitVec 32 := 2#32
  let c0_i32_16 : BitVec 32 := 0#32
  let v32 : BitVec 1 := Scalar.cmpi .eq c2_i32_15 c0_i32_16
  let c1_i32_17 : BitVec 32 := 1#32
  let v33 : BitVec 32 := Scalar.select v32 c1_i32_17 c2_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c0_i32_21 : BitVec 32 := 0#32
  let c1_i32_22 : BitVec 32 := 1#32
  let arg12 : BitVec 32 := Scf.iv c0_i32_21 c1_i32_22 k0_t2
  let c8_i32_25 : BitVec 32 := 8#32
  let v49 : BitVec 32 := Scalar.muli arg12 c8_i32_25
  let v50 : BitVec 32 := v49
  let c0_i32_26 : BitVec 32 := 0#32
  ![v41.toNat, v50.toNat, 0]
def k0_off9 (v46 : BitVec 32) : Fin 2 → Nat :=
  let c8_i32 : BitVec 32 := 8#32
  let v47 : BitVec 32 := Scalar.muli v46 c8_i32
  let v48 : BitVec 32 := v47
  let c0_i32_27 : BitVec 32 := 0#32
  ![v48.toNat, 0]

def k0_chk2 (i : grid0.Coords) (v46 : BitVec 32) : Prop :=
  (∀ (k0_h2 : k0_cond2 i = 1#1), 8 ∣ (k0_mult3 v46).toNat) ∧
  (∀ (k0_h2 : k0_cond2 i = 1#1), ∀ a, (k0_off9 v46) a + S8x128.size a ≤ S131072x128.size a)
theorem k0_mult3_dvd : ∀ (i : grid0.Coords) (v46 : BitVec 32) (k0_hw2 : k0_chk2 i v46), ∀ (k0_h2 : k0_cond2 i = 1#1), 8 ∣ (k0_mult3 v46).toNat := fun i v46 k0_hw2 k0_h2 => k0_hw2.1 k0_h2
theorem k0_off9_inb : ∀ (i : grid0.Coords) (v46 : BitVec 32) (k0_hw2 : k0_chk2 i v46), ∀ (k0_h2 : k0_cond2 i = 1#1), ∀ a, (k0_off9 v46) a + S8x128.size a ≤ S131072x128.size a := fun i v46 k0_hw2 k0_h2 => k0_hw2.2 k0_h2

def k0_mult5 : BitVec 32 :=
  let c0_i32_7 : BitVec 32 := 0#32
  c0_i32_7
def k0_off10 (i : grid0.Coords) : Fin 1 → Nat :=
  let arg0 : BitVec 32 := BitVec.ofNat 32 (i 0).val
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi arg0 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  ![v18.toNat]
def k0_off11 (i : grid0.Coords) : Fin 3 → Nat :=
  let arg0 : BitVec 32 := BitVec.ofNat 32 (i 0).val
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi arg0 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_8 : BitVec 32 := 0#32
  let c0_i32_9 : BitVec 32 := 0#32
  ![v18.toNat, 0, 0]
def k0_off12 (i : grid0.Coords) : Fin 3 → Nat :=
  let arg0 : BitVec 32 := BitVec.ofNat 32 (i 0).val
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi arg0 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_14 : BitVec 32 := 0#32
  let c0_i32_15 : BitVec 32 := 0#32
  ![v18.toNat, 0, 0]
def k0_cond3 (v1 : BitVec 32) : BitVec 1 :=
  let c4_i32 : BitVec 32 := 4#32
  let v25 : BitVec 1 := Scalar.cmpi .slt v1 c4_i32
  let v26 : BitVec 32 := Scalar.extui v25
  let c0_i32_11 : BitVec 32 := 0#32
  let v27 : BitVec 1 := Scalar.cmpi .ne v26 c0_i32_11
  v27

def k0_cond4 (v1 : BitVec 32) : BitVec 1 :=
  let c4_i32_12 : BitVec 32 := 4#32
  let v28 : BitVec 1 := Scalar.cmpi .sge v1 c4_i32_12
  let v29 : BitVec 32 := Scalar.extui v28
  let c0_i32_13 : BitVec 32 := 0#32
  let v30 : BitVec 1 := Scalar.cmpi .ne v29 c0_i32_13
  v30

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c3_i32 : BitVec 32 := 3#32
  let v2 : BitVec 32 := Scalar.minsi v1 c3_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v2.toNat, c0_i32_0.toNat, c0_i32_1.toNat, c0_i32_2.toNat]

def cc0_transform_4 (k0_off1_inb : ∀ i : grid0.Coords, ∀ a, (k0_off1 i) a + S1.size a ≤ S36.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c3_i32 : BitVec 32 := 3#32
  let v2 : BitVec 32 := Scalar.minsi v1 c3_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v2.toNat, c0_i32_0.toNat, c0_i32_1.toNat, c0_i32_2.toNat]

def cc0_transform_5 (k0_off1_inb : ∀ i : grid0.Coords, ∀ a, (k0_off1 i) a + S1.size a ≤ S36.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c3_i32 : BitVec 32 := 3#32
  let v2 : BitVec 32 := Scalar.minsi v1 c3_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v2.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S36 : Shape := ⟨1, ![36]⟩
abbrev S18432 : Shape := ⟨1, ![18432]⟩
abbrev S2x1024x4 : Shape := ⟨3, ![2, 1024, 4]⟩
abbrev S2x4 : Shape := ⟨2, ![2, 4]⟩
abbrev S2x1024x16 : Shape := ⟨3, ![2, 1024, 16]⟩
abbrev S2x16 : Shape := ⟨2, ![2, 16]⟩
abbrev S2x16x1024x512 : Shape := ⟨4, ![2, 16, 1024, 512]⟩
abbrev S2x16x512x1024 : Shape := ⟨4, ![2, 16, 512, 1024]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x16 : Shape := ⟨3, ![1, 1024, 16]⟩
abbrev S1024x16 : Shape := ⟨2, ![1024, 16]⟩
abbrev S1x16 : Shape := ⟨2, ![1, 16]⟩
abbrev S16 : Shape := ⟨1, ![16]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S_ : Shape := ⟨0, ![]⟩
abbrev S18432x1 : Shape := ⟨2, ![18432, 1]⟩
abbrev S18432x1024 : Shape := ⟨2, ![18432, 1024]⟩
abbrev S18432x4 : Shape := ⟨2, ![18432, 4]⟩
abbrev S18432x16 : Shape := ⟨2, ![18432, 16]⟩
abbrev S18432x4x4 : Shape := ⟨3, ![18432, 4, 4]⟩
abbrev S18432x4x1 : Shape := ⟨3, ![18432, 4, 1]⟩
abbrev S18432x2 : Shape := ⟨2, ![18432, 2]⟩
abbrev S18432x2x1 : Shape := ⟨3, ![18432, 2, 1]⟩
abbrev S1x1x4 : Shape := ⟨3, ![1, 1, 4]⟩
abbrev S18432x2x4 : Shape := ⟨3, ![18432, 2, 4]⟩
abbrev S18432x1x4 : Shape := ⟨3, ![18432, 1, 4]⟩
abbrev S18432x16x512 : Shape := ⟨3, ![18432, 16, 512]⟩
abbrev S18432x16x1 : Shape := ⟨3, ![18432, 16, 1]⟩
abbrev S36x512 : Shape := ⟨2, ![36, 512]⟩
abbrev S147456x128 : Shape := ⟨2, ![147456, 128]⟩

abbrev nBuf : Space → Nat
  | .hbm => 135
  | .vmem => 0
  | .smem => 0
  | _ => 0

abbrev hbmTy0_0 (i : Nat) : BufTy := match i % 128 with
  | 0 => ⟨S16384x1024, .f32⟩
  | 1 => ⟨S36, .i32⟩
  | 2 => ⟨S18432, .i32⟩
  | 3 => ⟨S2x1024x4, .f32⟩
  | 4 => ⟨S2x4, .f32⟩
  | 5 => ⟨S2x1024x16, .f32⟩
  | 6 => ⟨S2x16, .f32⟩
  | 7 => ⟨S2x16x1024x512, .f32⟩
  | 8 => ⟨S2x16x1024x512, .f32⟩
  | 9 => ⟨S2x16x512x1024, .f32⟩
  | 10 => ⟨S1x1024x4, .f32⟩
  | 11 => ⟨S1024x4, .f32⟩
  | 12 => ⟨S1x4, .f32⟩
  | 13 => ⟨S4, .f32⟩
  | 14 => ⟨S1x1024x16, .f32⟩
  | 15 => ⟨S1024x16, .f32⟩
  | 16 => ⟨S1x16, .f32⟩
  | 17 => ⟨S16, .f32⟩
  | 18 => ⟨S1x16x1024x512, .f32⟩
  | 19 => ⟨S16x1024x512, .f32⟩
  | 20 => ⟨S1x16x1024x512, .f32⟩
  | 21 => ⟨S16x1024x512, .f32⟩
  | 22 => ⟨S1x16x512x1024, .f32⟩
  | 23 => ⟨S16x512x1024, .f32⟩
  | 24 => ⟨S_, .i32⟩
  | 25 => ⟨S18432, .i32⟩
  | 26 => ⟨S18432, .i1⟩
  | 27 => ⟨S_, .i32⟩
  | 28 => ⟨S18432, .i32⟩
  | 29 => ⟨S18432, .i32⟩
  | 30 => ⟨S18432, .i32⟩
  | 31 => ⟨S18432x1, .i32⟩
  | 32 => ⟨S18432x1024, .f32⟩
  | 33 => ⟨S18432x4, .f32⟩
  | 34 => ⟨S1x4, .f32⟩
  | 35 => ⟨S18432x4, .f32⟩
  | 36 => ⟨S18432x4, .f32⟩
  | 37 => ⟨S_, .f32⟩
  | 38 => ⟨S18432, .f32⟩
  | 39 => ⟨S_, .f32⟩
  | 40 => ⟨S18432, .f32⟩
  | 41 => ⟨S18432, .f32⟩
  | 42 => ⟨S18432x1, .f32⟩
  | 43 => ⟨S18432x4, .f32⟩
  | 44 => ⟨S18432x4, .f32⟩
  | 45 => ⟨S18432x4, .f32⟩
  | 46 => ⟨S_, .f32⟩
  | 47 => ⟨S18432, .f32⟩
  | 48 => ⟨S18432x1, .f32⟩
  | 49 => ⟨S18432x4, .f32⟩
  | 50 => ⟨S18432x4, .f32⟩
  | 51 => ⟨S18432x1, .f32⟩
  | 52 => ⟨S18432x1, .i32⟩
  | 53 => ⟨S18432, .i32⟩
  | 54 => ⟨S18432x1, .i32⟩
  | 55 => ⟨S1x4, .i32⟩
  | 56 => ⟨S18432x4, .i32⟩
  | 57 => ⟨S18432x4, .i32⟩
  | 58 => ⟨S18432x4, .i1⟩
  | 59 => ⟨S18432x4, .f32⟩
  | 60 => ⟨S18432x4, .f32⟩
  | 61 => ⟨S_, .f32⟩
  | 62 => ⟨S18432, .f32⟩
  | 63 => ⟨S18432x16, .f32⟩
  | 64 => ⟨S1x16, .f32⟩
  | 65 => ⟨S18432x16, .f32⟩
  | 66 => ⟨S18432x16, .f32⟩
  | 67 => ⟨S18432x4x4, .f32⟩
  | 68 => ⟨S18432x4x1, .f32⟩
  | 69 => ⟨S18432x4x4, .f32⟩
  | 70 => ⟨S18432x4x4, .f32⟩
  | 71 => ⟨S_, .f32⟩
  | 72 => ⟨S18432x4, .f32⟩
  | 73 => ⟨S18432x2, .f32⟩
  | 74 => ⟨S18432x2, .i32⟩
  | 75 => ⟨S_, .f32⟩
  | 76 => ⟨S18432, .f32⟩
  | 77 => ⟨S_, .f32⟩
  | 78 => ⟨S18432, .f32⟩
  | 79 => ⟨S18432, .f32⟩
  | 80 => ⟨S18432x1, .f32⟩
  | 81 => ⟨S18432x2, .f32⟩
  | 82 => ⟨S18432x2, .f32⟩
  | 83 => ⟨S18432x2, .f32⟩
  | 84 => ⟨S_, .f32⟩
  | 85 => ⟨S18432, .f32⟩
  | 86 => ⟨S18432x1, .f32⟩
  | 87 => ⟨S18432x2, .f32⟩
  | 88 => ⟨S18432x2, .f32⟩
  | 89 => ⟨S18432x1, .f32⟩
  | 90 => ⟨S18432x2, .f32⟩
  | 91 => ⟨S18432x2, .f32⟩
  | 92 => ⟨S18432x2x1, .i32⟩
  | 93 => ⟨S1x1x4, .i32⟩
  | 94 => ⟨S18432x2x4, .i32⟩
  | 95 => ⟨S18432x2x4, .i32⟩
  | 96 => ⟨S18432x2x4, .i1⟩
  | 97 => ⟨S18432x2x4, .f32⟩
  | 98 => ⟨S18432x2x1, .f32⟩
  | 99 => ⟨S18432x2x4, .f32⟩
  | 100 => ⟨S18432x2x4, .f32⟩
  | 101 => ⟨S_, .f32⟩
  | 102 => ⟨S18432x4, .f32⟩
  | 103 => ⟨S18432x4x1, .f32⟩
  | 104 => ⟨S18432x1x4, .f32⟩
  | 105 => ⟨S18432x4x4, .f32⟩
  | 106 => ⟨S18432x4x4, .f32⟩
  | 107 => ⟨S18432x4x4, .f32⟩
  | 108 => ⟨S18432x16, .f32⟩
  | 109 => ⟨S18432x16x512, .f32⟩
  | 110 => ⟨S18432x16x512, .f32⟩
  | 111 => ⟨S18432x16x512, .f32⟩
  | 112 => ⟨S_, .f32⟩
  | 113 => ⟨S18432x16x512, .f32⟩
  | 114 => ⟨S18432x16x512, .f32⟩
  | 115 => ⟨S_, .f32⟩
  | 116 => ⟨S18432x16x512, .f32⟩
  | 117 => ⟨S18432x16x512, .f32⟩
  | 118 => ⟨S18432x16x512, .f32⟩
  | 119 => ⟨S18432x16x512, .f32⟩
  | 120 => ⟨S18432x16x512, .f32⟩
  | 121 => ⟨S18432x16x1, .f32⟩
  | 122 => ⟨S18432x16x512, .f32⟩
  | 123 => ⟨S18432x16x512, .f32⟩
  | 124 => ⟨S18432x1024, .f32⟩
  | 125 => ⟨S36x512, .i32⟩
  | 126 => ⟨S18432, .i32⟩
  | 127 => ⟨S18432, .i1⟩
  | _ => ⟨S16384x1024, .f32⟩

abbrev hbmTy0_1 (i : Nat) : BufTy := match i % 128 with
  | 0 => ⟨S18432x1, .i1⟩
  | 1 => ⟨S_, .f32⟩
  | 2 => ⟨S_, .f32⟩
  | 3 => ⟨S18432x1024, .i1⟩
  | 4 => ⟨S18432x1024, .f32⟩
  | 5 => ⟨S18432x1024, .f32⟩
  | 6 => ⟨S147456x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_values : Ref sig .tc := ⟨.hbm, 51, rfl⟩
abbrev main_indices : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_values_5 : Ref sig .tc := ⟨.hbm, 73, rfl⟩
abbrev main_indices_6 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_11 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v86 : Ref sig .tc := ⟨.hbm, 133, rfl⟩
abbrev main_v87 : Ref sig .tc := ⟨.hbm, 134, rfl⟩

abbrev nD : Nat := 1
abbrev τ : Topo := Topo.v7x

variable {F : FTy → Type} [FloatOps F]
-- ==== InProj.lean ====
abbrev S8x2048x1024 : Shape := ⟨3, ![8, 2048, 1024]⟩
abbrev S2x1024 : Shape := ⟨2, ![2, 1024]⟩
abbrev S2x1024x2840 : Shape := ⟨3, ![2, 1024, 2840]⟩
abbrev S16384x1024 : Shape := ⟨2, ![16384, 1024]⟩
abbrev S1x1024 : Shape := ⟨2, ![1, 1024]⟩
abbrev S1024 : Shape := ⟨1, ![1024]⟩
abbrev S1x1024x2840 : Shape := ⟨3, ![1, 1024, 2840]⟩
abbrev S1024x2840 : Shape := ⟨2, ![1024, 2840]⟩
abbrev S1024x24 : Shape := ⟨2, ![1024, 24]⟩
abbrev S1024x12 : Shape := ⟨2, ![1024, 12]⟩
abbrev S_ : Shape := ⟨0, ![]⟩
abbrev S1024x128 : Shape := ⟨2, ![1024, 128]⟩
abbrev S1024x2816 : Shape := ⟨2, ![1024, 2816]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 22
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x2840, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024x2840, .f32⟩
  | .hbm, ⟨8, _⟩ => ⟨S1024x2840, .f32⟩
  | .hbm, ⟨9, _⟩ => ⟨S1024x24, .f32⟩
  | .hbm, ⟨10, _⟩ => ⟨S1024x12, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x12, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x2816, .f32⟩
  | .hbm, ⟨19, _⟩ => ⟨S1024x3072, .f32⟩
  | .hbm, ⟨20, _⟩ => ⟨S1024x3072, .bf16⟩
  | .hbm, ⟨21, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjReferenceIdeal.lean ====
abbrev S8x2048x1024 : Shape := ⟨3, ![8, 2048, 1024]⟩
abbrev S2x1024 : Shape := ⟨2, ![2, 1024]⟩
abbrev S2x1024x2840 : Shape := ⟨3, ![2, 1024, 2840]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x2840 : Shape := ⟨3, ![1, 1024, 2840]⟩
abbrev S1024x2840 : Shape := ⟨2, ![1024, 2840]⟩
abbrev S8x2048x2840 : Shape := ⟨3, ![8, 2048, 2840]⟩
abbrev S8x2048x24 : Shape := ⟨3, ![8, 2048, 24]⟩
abbrev S8x2048x2x12 : Shape := ⟨4, ![8, 2048, 2, 12]⟩
abbrev S8x2048x2x128 : Shape := ⟨4, ![8, 2048, 2, 128]⟩
abbrev S8x2048x256 : Shape := ⟨3, ![8, 2048, 256]⟩
abbrev S8x2048x2816 : Shape := ⟨3, ![8, 2048, 2816]⟩
abbrev S8x2048x3072 : Shape := ⟨3, ![8, 2048, 3072]⟩
abbrev S16384x3072 : Shape := ⟨2, ![16384, 3072]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x2840, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x2840, .f32⟩
  | .hbm, ⟨22, _⟩ => ⟨S1024x2840, .f32⟩
  | .hbm, ⟨23, _⟩ => ⟨S8x2048x2840, .f32⟩
  | .hbm, ⟨24, _⟩ => ⟨S8x2048x24, .f32⟩
  | .hbm, ⟨25, _⟩ => ⟨S8x2048x2x12, .f32⟩
  | .hbm, ⟨26, _⟩ => ⟨S_, .i32⟩
  | .hbm, ⟨27, _⟩ => ⟨S_, .f32⟩
  | .hbm, ⟨28, _⟩ => ⟨S8x2048x2x128, .f32⟩
  | .hbm, ⟨29, _⟩ => ⟨S8x2048x256, .f32⟩
  | .hbm, ⟨30, _⟩ => ⟨S8x2048x2816, .f32⟩
  | .hbm, ⟨31, _⟩ => ⟨S8x2048x3072, .f32⟩
  | .hbm, ⟨32, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Last.lean ====
abbrev S16384x1024 : Shape := ⟨2, ![16384, 1024]⟩
abbrev S147456x128 : Shape := ⟨2, ![147456, 128]⟩
abbrev S16384 : Shape := ⟨1, ![16384]⟩
abbrev S2x8x2048x256 : Shape := ⟨4, ![2, 8, 2048, 256]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S2x16384x256 : Shape := ⟨3, ![2, 16384, 256]⟩
abbrev S1x1024 : Shape := ⟨2, ![1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S1x512x256 : Shape := ⟨3, ![1, 512, 256]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x4096x128 : Shape := ⟨3, ![1, 4096, 128]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S8x2048x1024 : Shape := ⟨3, ![8, 2048, 1024]⟩

abbrev nBuf : Space → Nat
  | .hbm => 20
  | .vmem => 11
  | .smem => 1
  | _ => 0

abbrev bufTy : (tb : Table) → Fin (tcTables nBuf tb) → BufTy
  | .hbm, ⟨0, _⟩ => ⟨S16384x1024, .f32⟩
  | .hbm, ⟨1, _⟩ => ⟨S147456x128, .f32⟩
  | .hbm, ⟨2, _⟩ => ⟨S2x8x2048x256, .f32⟩
  | .hbm, ⟨3, _⟩ => ⟨S2x1024, .f32⟩
  | .hbm, ⟨4, _⟩ => ⟨S2x1024x1024, .f32⟩
  | .hbm, ⟨5, _⟩ => ⟨S2x256x1024, .f32⟩
  | .hbm, ⟨6, _⟩ => ⟨S1024, .f32⟩
  | .hbm, ⟨7, _⟩ => ⟨S2x16384x256, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x1024, .f32⟩
  | .hbm, ⟨12, _⟩ => ⟨S1024x1024, .f32⟩
  | .hbm, ⟨13, _⟩ => ⟨S1024x1024, .bf16⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S1x1024, .f32⟩
  | .hbm, ⟨18, _⟩ => ⟨S16384x1024, .f32⟩
  | .hbm, ⟨19, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x4096x128, .f32⟩
  | .local _ .smem, ⟨0, _⟩ => ⟨S16384, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_63 : BitVec 32 := 0#32
  let c512_i32 : BitVec 32 := 512#32
  let v102 : BitVec 32 := Scalar.addi c0_i32_63 c512_i32
  let c1_i32_64 : BitVec 32 := 1#32
  ⟨c0_i32_63, v102, c1_i32_64⟩
def k0_off1 (i : grid0.Coords) (k0_t1 : Fin k0_t1_loop.trips) : Fin 1 → Nat :=
  let arg0 : BitVec 32 := BitVec.ofNat 32 (i 0).val
  let c512_i32_66 : BitVec 32 := 512#32
  let v103 : BitVec 32 := Scalar.muli arg0 c512_i32_66
  let c0_i32_63 : BitVec 32 := 0#32
  let c1_i32_64 : BitVec 32 := 1#32
  let arg12 : BitVec 32 := Scf.iv c0_i32_63 c1_i32_64 k0_t1
  let v104 : BitVec 32 := Scalar.addi v103 arg12
  let v105 : Index := Scalar.indexCast v104
  ![v105.toNat]
def k0_mult1 (v106 : BitVec 32) : BitVec 32 :=
  let c8_i32 : BitVec 32 := 8#32
  let v107 : BitVec 32 := Scalar.muli v106 c8_i32
  v107

def k0_mult2 (k0_t1 : Fin k0_t1_loop.trips) : BitVec 32 :=
  let c0_i32_63 : BitVec 32 := 0#32
  let c1_i32_64 : BitVec 32 := 1#32
  let arg12 : BitVec 32 := Scf.iv c0_i32_63 c1_i32_64 k0_t1
  let c8_i32_67 : BitVec 32 := 8#32
  let v109 : BitVec 32 := Scalar.muli arg12 c8_i32_67
  v109
def k0_off2 (i : grid0.Coords) : Fin 1 → Nat :=
  let arg0 : BitVec 32 := BitVec.ofNat 32 (i 0).val
  let c2_i32_57 : BitVec 32 := 2#32
  let c0_i32_58 : BitVec 32 := 0#32
  let v92 : BitVec 1 := Scalar.cmpi .eq c2_i32_57 c0_i32_58
  let c1_i32_59 : BitVec 32 := 1#32
  let v93 : BitVec 32 := Scalar.select v92 c1_i32_59 c2_i32_57
  let v94 : BitVec 32 := Scalar.remsi arg0 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  ![v101.toNat]
def k0_off3 (i : grid0.Coords) (k0_t1 : Fin k0_t1_loop.trips) : Fin 3 → Nat :=
  let arg0 : BitVec 32 := BitVec.ofNat 32 (i 0).val
  let c2_i32_57 : BitVec 32 := 2#32
  let c0_i32_58 : BitVec 32 := 0#32
  let v92 : BitVec 1 := Scalar.cmpi .eq c2_i32_57 c0_i32_58
  let c1_i32_59 : BitVec 32 := 1#32
  let v93 : BitVec 32 := Scalar.select v92 c1_i32_59 c2_i32_57
  let v94 : BitVec 32 := Scalar.remsi arg0 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c0_i32_63 : BitVec 32 := 0#32
  let c1_i32_64 : BitVec 32 := 1#32
  let arg12 : BitVec 32 := Scf.iv c0_i32_63 c1_i32_64 k0_t1
  let c8_i32_67 : BitVec 32 := 8#32
  let v109 : BitVec 32 := Scalar.muli arg12 c8_i32_67
  let v110 : BitVec 32 := v109
  let c0_i32_68 : BitVec 32 := 0#32
  ![v101.toNat, v110.toNat, 0]
def k0_off4 (v106 : BitVec 32) : Fin 2 → Nat :=
  let c8_i32 : BitVec 32 := 8#32
  let v107 : BitVec 32 := Scalar.muli v106 c8_i32
  let v108 : BitVec 32 := v107
  let c0_i32_69 : BitVec 32 := 0#32
  ![v108.toNat, 0]

def k0_chk1 (i : grid0.Coords) (v106 : BitVec 32) : Prop :=
  (∀ (k0_h1 : k0_cond1 i = 1#1), 8 ∣ (k0_mult1 v106).toNat) ∧
  (∀ (k0_h1 : k0_cond1 i = 1#1), ∀ a, (k0_off4 v106) a + S8x128.size a ≤ S147456x128.size a)
theorem k0_mult1_dvd : ∀ (i : grid0.Coords) (v106 : BitVec 32) (k0_hw1 : k0_chk1 i v106), ∀ (k0_h1 : k0_cond1 i = 1#1), 8 ∣ (k0_mult1 v106).toNat := fun i v106 k0_hw1 k0_h1 => k0_hw1.1 k0_h1
theorem k0_off4_inb : ∀ (i : grid0.Coords) (v106 : BitVec 32) (k0_hw1 : k0_chk1 i v106), ∀ (k0_h1 : k0_cond1 i = 1#1), ∀ a, (k0_off4 v106) a + S8x128.size a ≤ S147456x128.size a := fun i v106 k0_hw1 k0_h1 => k0_hw1.2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_64 : BitVec 32 := 0#32
  let c512_i32 : BitVec 32 := 512#32
  let v103 : BitVec 32 := Scalar.addi c0_i32_64 c512_i32
  let c1_i32_65 : BitVec 32 := 1#32
  ⟨c0_i32_64, v103, c1_i32_65⟩
def k0_off5 (i : grid0.Coords) (k0_t2 : Fin k0_t2_loop.trips) : Fin 1 → Nat :=
  let arg0 : BitVec 32 := BitVec.ofNat 32 (i 0).val
  let c1_i32_57 : BitVec 32 := 1#32
  let v92 : BitVec 32 := Scalar.addi arg0 c1_i32_57
  let c512_i32_67 : BitVec 32 := 512#32
  let v104 : BitVec 32 := Scalar.muli v92 c512_i32_67
  let c0_i32_64 : BitVec 32 := 0#32
  let c1_i32_65 : BitVec 32 := 1#32
  let arg12 : BitVec 32 := Scf.iv c0_i32_64 c1_i32_65 k0_t2
  let v105 : BitVec 32 := Scalar.addi v104 arg12
  let v106 : Index := Scalar.indexCast v105
  ![v106.toNat]
def k0_mult3 (v107 : BitVec 32) : BitVec 32 :=
  let c8_i32 : BitVec 32 := 8#32
  let v108 : BitVec 32 := Scalar.muli v107 c8_i32
  v108

def k0_mult4 (k0_t2 : Fin k0_t2_loop.trips) : BitVec 32 :=
  let c0_i32_64 : BitVec 32 := 0#32
  let c1_i32_65 : BitVec 32 := 1#32
  let arg12 : BitVec 32 := Scf.iv c0_i32_64 c1_i32_65 k0_t2
  let c8_i32_68 : BitVec 32 := 8#32
  let v110 : BitVec 32 := Scalar.muli arg12 c8_i32_68
  v110
def k0_off6 (i : grid0.Coords) : Fin 1 → Nat :=
  let arg0 : BitVec 32 := BitVec.ofNat 32 (i 0).val
  let c1_i32_57 : BitVec 32 := 1#32
  let v92 : BitVec 32 := Scalar.addi arg0 c1_i32_57
  let c2_i32_58 : BitVec 32 := 2#32
  let c0_i32_59 : BitVec 32 := 0#32
  let v93 : BitVec 1 := Scalar.cmpi .eq c2_i32_58 c0_i32_59
  let c1_i32_60 : BitVec 32 := 1#32
  let v94 : BitVec 32 := Scalar.select v93 c1_i32_60 c2_i32_58
  let v95 : BitVec 32 := Scalar.remsi v92 v94
  let c0_i32_62 : BitVec 32 := 0#32
  let v97 : BitVec 1 := Scalar.cmpi .slt v95 c0_i32_62
  let c0_i32_63 : BitVec 32 := 0#32
  let v98 : BitVec 1 := Scalar.cmpi .slt v94 c0_i32_63
  let v99 : BitVec 1 := Scalar.xori v97 v98
  let c0_i32_61 : BitVec 32 := 0#32
  let v96 : BitVec 1 := Scalar.cmpi .ne v95 c0_i32_61
  let v100 : BitVec 1 := Scalar.andi v99 v96
  let v101 : BitVec 32 := Scalar.addi v95 v94
  let v102 : BitVec 32 := Scalar.select v100 v101 v95
  ![v102.toNat]
def k0_off7 (i : grid0.Coords) (k0_t2 : Fin k0_t2_loop.trips) : Fin 3 → Nat :=
  let arg0 : BitVec 32 := BitVec.ofNat 32 (i 0).val
  let c1_i32_57 : BitVec 32 := 1#32
  let v92 : BitVec 32 := Scalar.addi arg0 c1_i32_57
  let c2_i32_58 : BitVec 32 := 2#32
  let c0_i32_59 : BitVec 32 := 0#32
  let v93 : BitVec 1 := Scalar.cmpi .eq c2_i32_58 c0_i32_59
  let c1_i32_60 : BitVec 32 := 1#32
  let v94 : BitVec 32 := Scalar.select v93 c1_i32_60 c2_i32_58
  let v95 : BitVec 32 := Scalar.remsi v92 v94
  let c0_i32_62 : BitVec 32 := 0#32
  let v97 : BitVec 1 := Scalar.cmpi .slt v95 c0_i32_62
  let c0_i32_63 : BitVec 32 := 0#32
  let v98 : BitVec 1 := Scalar.cmpi .slt v94 c0_i32_63
  let v99 : BitVec 1 := Scalar.xori v97 v98
  let c0_i32_61 : BitVec 32 := 0#32
  let v96 : BitVec 1 := Scalar.cmpi .ne v95 c0_i32_61
  let v100 : BitVec 1 := Scalar.andi v99 v96
  let v101 : BitVec 32 := Scalar.addi v95 v94
  let v102 : BitVec 32 := Scalar.select v100 v101 v95
  let c0_i32_64 : BitVec 32 := 0#32
  let c1_i32_65 : BitVec 32 := 1#32
  let arg12 : BitVec 32 := Scf.iv c0_i32_64 c1_i32_65 k0_t2
  let c8_i32_68 : BitVec 32 := 8#32
  let v110 : BitVec 32 := Scalar.muli arg12 c8_i32_68
  let v111 : BitVec 32 := v110
  let c0_i32_69 : BitVec 32 := 0#32
  ![v102.toNat, v111.toNat, 0]
def k0_off8 (v107 : BitVec 32) : Fin 2 → Nat :=
  let c8_i32 : BitVec 32 := 8#32
  let v108 : BitVec 32 := Scalar.muli v107 c8_i32
  let v109 : BitVec 32 := v108
  let c0_i32_70 : BitVec 32 := 0#32
  ![v109.toNat, 0]

def k0_chk2 (i : grid0.Coords) (v107 : BitVec 32) : Prop :=
  (∀ (k0_h2 : k0_cond2 i = 1#1), 8 ∣ (k0_mult3 v107).toNat) ∧
  (∀ (k0_h2 : k0_cond2 i = 1#1), ∀ a, (k0_off8 v107) a + S8x128.size a ≤ S147456x128.size a)
theorem k0_mult3_dvd : ∀ (i : grid0.Coords) (v107 : BitVec 32) (k0_hw2 : k0_chk2 i v107), ∀ (k0_h2 : k0_cond2 i = 1#1), 8 ∣ (k0_mult3 v107).toNat := fun i v107 k0_hw2 k0_h2 => k0_hw2.1 k0_h2
theorem k0_off8_inb : ∀ (i : grid0.Coords) (v107 : BitVec 32) (k0_hw2 : k0_chk2 i v107), ∀ (k0_h2 : k0_cond2 i = 1#1), ∀ a, (k0_off8 v107) a + S8x128.size a ≤ S147456x128.size a := fun i v107 k0_hw2 k0_h2 => k0_hw2.2 k0_h2

def k0_mult5 : BitVec 32 :=
  let c0_i32_7 : BitVec 32 := 0#32
  c0_i32_7
def k0_off9 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off10 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_8 : BitVec 32 := 0#32
  let c0_i32_9 : BitVec 32 := 0#32
  ![v16.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastReferenceIdeal.lean ====
abbrev S16384x1024 : Shape := ⟨2, ![16384, 1024]⟩
abbrev S147456x128 : Shape := ⟨2, ![147456, 128]⟩
abbrev S16384 : Shape := ⟨1, ![16384]⟩
abbrev S2x8x2048x256 : Shape := ⟨4, ![2, 8, 2048, 256]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S18432x1024 : Shape := ⟨2, ![18432, 1024]⟩
abbrev S_ : Shape := ⟨0, ![]⟩
abbrev S16384x1 : Shape := ⟨2, ![16384, 1]⟩
abbrev S8x2048x1024 : Shape := ⟨3, ![8, 2048, 1024]⟩
abbrev S1x1024 : Shape := ⟨2, ![1, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S147456x128, .f32⟩
  | .hbm, ⟨2, _⟩ => ⟨S16384, .i32⟩
  | .hbm, ⟨3, _⟩ => ⟨S2x8x2048x256, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S1024, .f32⟩
  | .hbm, ⟨8, _⟩ => ⟨S18432x1024, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x1024, .f32⟩
  | .hbm, ⟨18, _⟩ => ⟨S16384x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S1x1024x1024, .f32⟩
  | .hbm, ⟨39, _⟩ => ⟨S1024x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S1x8x2048x256, .f32⟩
  | .hbm, ⟨50, _⟩ => ⟨S8x2048x256, .f32⟩
  | .hbm, ⟨51, _⟩ => ⟨S1x256x1024, .f32⟩
  | .hbm, ⟨52, _⟩ => ⟨S256x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Plan.lean ====
/-
  What the preconditions say of the tables: every tile's group word is at most 4, every slot's token word below 16384,
  every token's position below 18432.
-/
module

public import proofs.«01_k».proof.Pre_plan_range
public import proofs.«01_k».proof.Pre_slot_range
public import Idealize.ShloMosaic.Lib.ReduceAll
public import Idealize.ShloMosaic.Lib.Affine

@[expose] public section

namespace Cert.Plan

open Idealize.ShloMosaic

/-- A signed word between 0 and 4 is at most 4 as an unsigned one. -/
theorem small {v : BitVec 32} {b : ℕ} (hb : b < 2 ^ 31) (h0 : (0#32).toInt ≤ v.toInt) (h1 : v.toInt ≤ (b : ℤ)) : v.toNat ≤ b := by
  rw [show (0#32).toInt = 0 from rfl] at h0
  have hl := v.isLt
  rw [BitVec.toInt_eq_toNat_cond] at h0 h1
  split at h0 <;> split at h1 <;> omega

open Cert.Pre_plan_range in
/-- The printed condition, read at every word of the two tables. -/
theorem of_plan [Facts] {F : FTy → Type} [FloatOps F] (a0 : FVec F S16384x1024 .f32) (a1 : IVec S36 32) (a2 : IVec S18432 32) (a3 : FVec F S2x1024x4 .f32) (a4 : FVec F S2x4 .f32) (a5 : FVec F S2x1024x16 .f32) (a6 : FVec F S2x16 .f32) (a7 a8 : FVec F S2x16x1024x512 .f32) (a9 : FVec F S2x16x512x1024 .f32)
    (h : fn a0 a1 a2 a3 a4 a5 a6 a7 a8 a9 = fun _ => 1#1) : (∀ i, (a1 i).toNat ≤ 4) ∧ ∀ i, (a2 i).toNat < 16384 := by
  haveI : Subsingleton S_.Idx := ⟨fun x y => funext fun k => k.elim0⟩
  have h0 := congrFun h (fun k => k.elim0)
  dsimp only [fn, andi] at h0
  obtain ⟨hA, hB⟩ := IntOp.andi_eq_one.1 h0
  refine ⟨fun i => ?_, fun i => ?_⟩
  · obtain ⟨hl, hu⟩ := IntOp.andi_eq_one.1 (Host.reduce_andi_all _ _ _ _ _ hA i)
    exact small (by decide) (IntOp.cmpi_sge.1 hl) (IntOp.cmpi_sle.1 hu)
  · obtain ⟨hl, hu⟩ := IntOp.andi_eq_one.1 (Host.reduce_andi_all _ _ _ _ _ hB i)
    have h1 : (a2 i).toInt < 16384 := IntOp.cmpi_slt.1 hu
    exact Nat.lt_succ_of_le (small (b := 16383) (by decide) (IntOp.cmpi_sge.1 hl) (by push_cast; omega))

open Cert.Pre_slot_range in
/-- The condition on the positions, read at every word. -/
theorem of_slot [Facts] {F : FTy → Type} [FloatOps F] (a0 : FVec F S16384x1024 .f32) (a1 : FVec F S147456x128 .f32) (a2 : IVec S16384 32) (a3 : FVec F S2x8x2048x256 .f32)
    (a4 : FVec F S2x1024 .f32) (a5 : FVec F S2x1024x1024 .f32) (a6 : FVec F S2x256x1024 .f32) (a7 : FVec F S1024 .f32)
    (h : fn a0 a1 a2 a3 a4 a5 a6 a7 = fun _ => 1#1) : ∀ i, (a2 i).toNat < 18432 := by
  haveI : Subsingleton S_.Idx := ⟨fun x y => funext fun k => k.elim0⟩
  have h0 := congrFun h (fun k => k.elim0)
  dsimp only [fn] at h0
  intro i
  obtain ⟨hl, hu⟩ := IntOp.andi_eq_one.1 (Host.reduce_andi_all _ _ _ _ _ h0 i)
  have h1 : (a2 i).toInt < 18432 := IntOp.cmpi_slt.1 hu
  exact Nat.lt_succ_of_le (small (b := 18431) (by decide) (IntOp.cmpi_sge.1 hl) (by push_cast; omega))

end Cert.Plan

end
-- ==== Proof.Ref.lean ====
module

public import proofs.«01_k».proof.Proof.Gen.ReferenceIdeal.Run
public import proofs.«01_k».proof.Proof.Gen.ReferenceIdeal.Read

@[expose] public section
-- ==== Proof.MoeIdeal.Gather.lean ====
/-
  The gather of the routed mixture of experts: the sets of elements its row copies touch, the copies' two ends at
  closed-form offsets, what the scratch buffer holds once a tile's copies have landed, and the issue of one copy.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordArith.Masks
public import Idealize.ShloMosaic.Lib.ValueLayout
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The operands the body reaches by itself -/

/-- The table of tile groups, in scalar memory. -/
abbrev grpM : Memref sig .tc .smem S36 .i32 := Memref.whole main_arg1
/-- The table of slot tokens, in scalar memory. -/
abbrev tabM : Memref sig .tc .smem S18432 .i32 := Memref.whole main_arg2
/-- The staged activations, eight rows of 128 lanes a token. -/
abbrev stgM : Memref sig .tc .hbm S131072x128 .f32 := Memref.whole main_v12
/-- The scratch the copies fill, two slots. -/
abbrev scrM : Memref sig .tc .vmem S2x4096x128 .f32 := Memref.whole cc0_scratch0

abbrev TabBuf (c : Dev nD) : Type := Buf (Elt F) (tabM.view.loc (c : Thread nD τ))
abbrev StgBuf (c : Dev nD) : Type := Buf (Elt F) (stgM.view.loc (c : Thread nD τ))
abbrev ScrBuf (c : Dev nD) : Type := Buf (Elt F) (scrM.view.loc (c : Thread nD τ))

/-- The two cells of the scratch's slots. -/
def cell (s : ℕ) : DmaSem sig := if s = 0 then 10 else 11

abbrev semR (o : Fin 1 → ℕ) (h : ∀ a, o a + S1.size a ≤ S2.size a) : DmaSem sig :=
  ((cc0_scratch1.slice (Rect.unit (s := S2) o S1.size h)).squeeze S_ squeezes_S1_S_).sem
abbrev dstR (o : Fin 3 → ℕ) (h : ∀ a, o a + S1x8x128.size a ≤ S2x4096x128.size a) : Memref sig .tc .vmem S8x128 .f32 :=
  (scrM.slice (Rect.unit (s := S2x4096x128) o S1x8x128.size h) (fun _ => rfl)).squeeze S8x128 squeezes_S1x8x128_S8x128
abbrev srcR (o : Fin 2 → ℕ) (h : ∀ a, o a + S8x128.size a ≤ S131072x128.size a) : Memref sig .tc .hbm S8x128 .f32 :=
  stgM.slice (Rect.unit (s := S131072x128) o S8x128.size h) (fun _ => rfl)

theorem semR_eq {s : ℕ} (hs : s < 2) (h) : semR ![s] h = cell s := by
  have hv : (semR ![s] h).val = 10 + s := by
    show 10 + (Shape.rowMajor _ _ : ℕ) = _
    rw [Shape.rowMajor_val_one]
    refine congrArg (10 + ·) ((ValueKit.rect_emb_unit_val _ _ _ _ 0).trans ?_)
    have hz := (Shape.reshapeEquiv (squeezes_S1_S_).numel_eq (fun i => i.elim0) 0).isLt
    have hz' : (Shape.reshapeEquiv (squeezes_S1_S_).numel_eq (fun i => i.elim0) 0).val < 1 := hz
    show s + (Shape.reshapeEquiv (squeezes_S1_S_).numel_eq (fun i => i.elim0) 0).val = s
    omega
  interval_cases s
  · exact Fin.ext hv
  · exact Fin.ext hv

/-! ## The sets of elements -/

/-- The elements of slot `s`. -/
def slotSet (s : ℕ) : Finset S2x4096x128.Idx := Finset.univ.filter fun i => (i 0).val = s
/-- The elements of slot `s` that copy `j` fills. -/
def rowSet (s j : ℕ) : Finset S2x4096x128.Idx := Finset.univ.filter fun i => (i 0).val = s ∧ (i 1).val / 8 = j
/-- The elements of the staged activations that are token `r`'s. -/
def srcSet (r : ℕ) : Finset S131072x128.Idx := Finset.univ.filter fun i => (i 0).val / 8 = r

theorem dstR_set {s j : ℕ} (h) : (dstR ![s, 8 * j, 0] h).view.set = rowSet s j := by
  rw [show (dstR ![s, 8 * j, 0] h).view.set = ((View.whole cc0_scratch0).slice (Rect.unit (s := S2x4096x128) ![s, 8 * j, 0] S1x8x128.size h)).set from View.set_reshape _ _]
  ext i
  refine ValueKit.mem_set_slice_whole_iff cc0_scratch0 _ i ?_
  rw [Rect.mem_set_unit, ValueKit.forall_fin_iff_conj]
  have h2 : (i 2).val < 128 := (i 2).isLt
  unfold rowSet
  rw [Finset.mem_filter]
  show ((s ≤ (i 0).val ∧ (i 0).val < s + 1) ∧ (8 * j ≤ (i 1).val ∧ (i 1).val < 8 * j + 8) ∧ (0 ≤ (i 2).val ∧ (i 2).val < 0 + 128)) ↔ _
  constructor
  · rintro ⟨⟨a, b⟩, ⟨d, e⟩, -⟩; exact ⟨Finset.mem_univ _, by omega, by omega⟩
  · rintro ⟨-, a, b⟩; exact ⟨by omega, by omega, by omega⟩

theorem srcR_set {r : ℕ} (h) : (srcR ![8 * r, 0] h).view.set = srcSet r := by
  ext i
  refine ValueKit.mem_set_slice_whole_iff main_v12 _ i ?_
  rw [Rect.mem_set_unit, ValueKit.forall_fin_iff_conj]
  have h2 : (i 1).val < 128 := (i 1).isLt
  unfold srcSet
  rw [Finset.mem_filter]
  show ((8 * r ≤ (i 0).val ∧ (i 0).val < 8 * r + 8) ∧ (0 ≤ (i 1).val ∧ (i 1).val < 0 + 128)) ↔ _
  constructor
  · rintro ⟨⟨a, b⟩, -⟩; exact ⟨Finset.mem_univ _, by omega⟩
  · rintro ⟨-, a⟩; exact ⟨by omega, by omega⟩

theorem rowSet_disjoint (s : ℕ) (j j' : ℕ) (h : j ≠ j') : Disjoint (rowSet s j) (rowSet s j') := by
  rw [Finset.disjoint_left]; intro i hi hi'
  unfold rowSet at hi hi'; rw [Finset.mem_filter] at hi hi'
  exact h (hi.2.2.symm.trans hi'.2.2)

theorem slotSet_biUnion (s : ℕ) : slotSet s = (Finset.univ : Finset (Fin 512)).biUnion fun j => rowSet s j.val := by
  ext i
  have h1 : (i 1).val < 4096 := (i 1).isLt
  unfold slotSet rowSet
  simp only [Finset.mem_filter, Finset.mem_univ, true_and, Finset.mem_biUnion]
  constructor
  · intro h; exact ⟨⟨(i 1).val / 8, by omega⟩, h, rfl⟩
  · rintro ⟨_, h, _⟩; exact h

theorem slot_disjoint : Disjoint (slotSet 0) (slotSet 1) := by
  rw [Finset.disjoint_left]; intro i hi hi'
  unfold slotSet at hi hi'; rw [Finset.mem_filter] at hi hi'
  exact absurd (hi.2.symm.trans hi'.2) (by decide)

theorem slot_univ : (Finset.univ : Finset S2x4096x128.Idx) \ slotSet 0 = slotSet 1 := by
  ext i
  have h1 : (i 0).val < 2 := (i 0).isLt
  unfold slotSet
  simp only [Finset.mem_filter, Finset.mem_univ, true_and, Finset.mem_sdiff]
  omega

/-! ## What a tile's copies leave -/

/-- Slot token `n` of the table. -/
def tabAt (tab : S18432.Idx → BitVec 32) (n : ℕ) : BitVec 32 :=
  tab (ValueIdx.ix1 (⟨n % 18432, Nat.mod_lt _ (by decide)⟩ : Fin 18432))
/-- The token of slot `j` of tile `T`. -/
def tok (tab : S18432.Idx → BitVec 32) (T j : ℕ) : ℕ := (tabAt tab (512 * T + j)).toNat

/-- A slot of the scratch once tile `T`'s copies have landed: row `8 j + k` is row `k` of slot `j`'s token. -/
def gath (f : S131072x128.Idx → Elt F .f32) (tk : ℕ → ℕ) : S2x4096x128.Idx → Elt F .f32 := fun i =>
  f (ValueIdx.ix2 (⟨(8 * tk ((i 1).val / 8) + (i 1).val % 8) % 131072, Nat.mod_lt _ (by decide)⟩ : Fin 131072) (⟨(i 2).val, (i 2).isLt⟩ : Fin 128))

/-- A copy's write over anything is the gathered contents on the copy's own elements. -/
theorem write_gath (c : Dev nD) (f : StgBuf (F := F) c) (fd : ScrBuf (F := F) c) (tk : ℕ → ℕ) {s j : ℕ} (ht : tk j < 16384) (h h') :
    ∀ i ∈ rowSet s j, (View.write (Elt F) (dstR ![s, 8 * j, 0] h).view (show (dstR ![s, 8 * j, 0] h).view.ty.Contents (Elt F) from fd) (ReadAs.same.apply (View.read (Elt F) (srcR ![8 * tk j, 0] h').view (show (srcR ![8 * tk j, 0] h').view.ty.Contents (Elt F) from f))) Finset.univ) i
      = gath f tk i := by
  intro i hi
  rw [← dstR_set h] at hi
  obtain ⟨y, -, rfl⟩ := Finset.mem_map.mp hi
  refine (View.write_emb_of_mem _ _ (Finset.mem_univ y)).trans ?_
  have hy0 : (y 0).val < 8 := (y 0).isLt
  have hy1 : (y 1).val < 128 := (y 1).isLt
  have hy : y = ValueIdx.ix2 (⟨(y 0).val, hy0⟩ : Fin 8) (⟨(y 1).val, hy1⟩ : Fin 128) := by
    funext a; refine Fin.cases rfl (fun a => ?_) a; exact Fin.cases rfl (fun a => a.elim0) a
  set e := (dstR ![s, 8 * j, 0] h).view.emb y with he
  have e0 : e = (Rect.unit (s := S2x4096x128) ![s, 8 * j, 0] S1x8x128.size h).emb (ValueIdx.ix3 (⟨0, Nat.one_pos⟩ : Fin 1) (⟨(y 0).val, hy0⟩ : Fin 8) (⟨(y 1).val, hy1⟩ : Fin 128)) := by
    refine (congrArg (dstR ![s, 8 * j, 0] h).view.emb hy).trans ?_
    show (Rect.unit (s := S2x4096x128) ![s, 8 * j, 0] S1x8x128.size h).emb (Shape.reshapeEquiv _ _) = _
    exact congrArg _ (reshapeEquiv_ix2_1ab _ _ _)
  have e1 : (e 1).val = 8 * j + (y 0).val := by rw [e0]; exact ValueKit.rect_emb_unit_val _ _ _ _ 1
  have e2 : (e 2).val = (y 1).val := by rw [e0]; exact (ValueKit.rect_emb_unit_val _ _ _ _ 2).trans (Nat.zero_add _)
  show f ((Rect.unit (s := S131072x128) ![8 * tk j, 0] S8x128.size h').emb y) = gath f tk e
  unfold gath
  congr 1
  have q1 : (e 1).val / 8 = j := by omega
  have q2 : (e 1).val % 8 = (y 0).val := by omega
  funext a
  refine Fin.cases ?_ (fun a => ?_) a
  · apply Fin.ext
    refine (ValueKit.rect_emb_unit_val _ _ _ _ 0).trans ?_
    show 8 * tk j + (y 0).val = (8 * tk ((e 1).val / 8) + (e 1).val % 8) % 131072
    rw [q1, q2, Nat.mod_eq_of_lt (by omega)]
  · refine Fin.cases ?_ (fun a => a.elim0) a
    apply Fin.ext
    refine (ValueKit.rect_emb_unit_val _ _ _ _ 1).trans ?_
    show 0 + (y 1).val = (e 2).val
    omega

/-! ## The deliveries of a tile's copies -/

/-- The units one copy pays on its cell. -/
abbrev unitsN : ℕ := (scrM.view.ref.dmaCredit S8x128 .f32)

/-- What copy `j` delivers: its eight rows of slot `s` at the gathered contents, its share of its token back. -/
def deliv (c : Dev nD) (s : ℕ) (q : PosShare TreeShare) (f : StgBuf (F := F) c) (tk : ℕ → ℕ) (j : Fin 512) : sProp 𝕄 :=
  iprop((scrM.view.loc (c : Thread nD τ) ↦[rowSet s j.val]{fullShare} gath f tk)
    ∗ (stgM.view.loc (c : Thread nD τ) ↦[srcSet (tk j.val)]{Transfers.shareTok q 512 j} f))

instance deliv_storable (c : Dev nD) (s : ℕ) (q : PosShare TreeShare) (f : StgBuf (F := F) c) (tk : ℕ → ℕ) (j : Fin 512) :
    Storable (upEmb : UEmb _ 𝕄) (deliv c s q f tk j) := by
  unfold deliv; infer_instance

/-- The batch of a tile's copies into slot `s`, `j` issued. -/
abbrev bat (c : Dev nD) (s : ℕ) (q : PosShare TreeShare) (f : StgBuf (F := F) c) (tk : ℕ → ℕ) (j : ℕ) : sProp 𝕄 :=
  Transfers.Batch (countersEmb (U := Pipeline.UD sig nD τ)) (c : Thread nD τ) (SemLoc.dma (cell s)) () unitsN (deliv c s q f tk) j 0

/-- Issue copy `j` of a tile: its rows of the slot at anything and its share of its token go into the batch. -/
theorem issue (c : Dev nD) {s : ℕ} (hs : s < 2) (q : PosShare TreeShare) (f : StgBuf (F := F) c) (fd : ScrBuf (F := F) c) (tk : ℕ → ℕ) (j : Fin 512)
    (ht : tk j.val < 16384) {o3 : Fin 1 → ℕ} {o4 : Fin 3 → ℕ} {o5 : Fin 2 → ℕ} (e3 : o3 = ![s]) (e4 : o4 = ![s, 8 * j.val, 0]) (e5 : o5 = ![8 * tk j.val, 0])
    {h3 h4 h5} {hsrc hdst hsem} {k : PUnit → Prog (TpuEff nD τ sig (Elt F) Λ₀ .tc) PUnit} {Q : PUnit → sProp 𝕄} :
    iprop((stgM.view.loc (c : Thread nD τ) ↦[srcSet (tk j.val)]{Transfers.shareTok q 512 j} f)
        ∗ (scrM.view.loc (c : Thread nD τ) ↦[rowSet s j.val]{fullShare} fd) ∗ bat c s q f tk j.val)
      ⊢ iprop((bat c s q f tk (j.val + 1) -∗ wp frame (wpE (defs₀ (F := F)) Variants.none c none) Set.univ (k ⟨⟩) Q)
          -∗ wp frame (wpE (defs₀ (F := F)) Variants.none c none) Set.univ
              (.op (.enqueueDma (srcR o5 h5) (.here (dstR o4 h4)) (.dma (semR o3 h3)) hsrc hdst hsem) k) Q) := by
  subst e3 e4 e5
  have hset := srcR_set (r := tk j.val) h5
  have hc : semR ![s] h3 = cell s := semR_eq hs h3
  generalize hx : semR ![s] h3 = x at hsem hc ⊢
  subst hc
  rw [← hset, ← dstR_set h4]
  have hN : (dstR ![s, 8 * j.val, 0] h4).view.amount (SemLoc.dma (semR ![s] h3)) = unitsN := rfl
  have hD : iprop(((dstR ![s, 8 * j.val, 0] h4).view.loc (c : Thread nD τ) ↦[(dstR ![s, 8 * j.val, 0] h4).view.set]{fullShare}
        (View.write (Elt F) (dstR ![s, 8 * j.val, 0] h4).view (show (dstR ![s, 8 * j.val, 0] h4).view.ty.Contents (Elt F) from fd) (ReadAs.same.apply (View.read (Elt F) (srcR ![8 * tk j.val, 0] h5).view (show (srcR ![8 * tk j.val, 0] h5).view.ty.Contents (Elt F) from f))) Finset.univ))
        ∗ ((srcR ![8 * tk j.val, 0] h5).view.loc (c : Thread nD τ) ↦[(srcR ![8 * tk j.val, 0] h5).view.set]{Transfers.shareTok q 512 j} f))
      ⊢ (deliv c s q f tk ⟨j.val, j.isLt⟩ : sProp 𝕄) := by
    unfold deliv
    rw [dstR_set h4, hset]
    iintro ⟨H1, H2⟩
    isplitl [H1]
    · ihave H1 := (Entails.of_eq (pointsTo_congr (write_gath c f fd tk ht h4 h5))) $$ H1
      iexact H1
    iexact H2
  have key := Transfers.wp_dmaBatch (countersEmb (U := Pipeline.UD sig nD τ)) Variants.none (c : Thread nD τ) none (defs := defs₀ (F := F))
    (src := srcR ![8 * tk j.val, 0] h5) (via := ReadAs.same) (dst := dstR ![s, 8 * j.val, 0] h4) (hsrc := hsrc) (hdst := hdst) (hsem := hsem)
    (k := k) (Q := Q) (q := Transfers.shareTok q 512 j) (u := 0) () unitsN hN (Finset.Subset.refl _) j.isLt (Nat.zero_le _) hD
  exact key

end Cert.KernelIdeal.Moe

end
-- ==== Proof.MoeIdeal.Issue.lean ====
/-
  The two loops that start a tile's row copies, and the wait that drains them: closed forms of the offsets the loops
  compute, one trip, a whole loop, and the slot's states before, while and after a tile's copies fly.
-/
module

public import proofs.«01_k».proof.Proof.MoeIdeal.Gather

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Closed forms -/

theorem coord_val : ∀ t : Fin grid0.N, (grid0.coords t 0).val = t.val := by decide +kernel
theorem trips1 : k0_t1_loop.trips = 512 := by decide +kernel
theorem trips2 : k0_t2_loop.trips = 512 := by decide +kernel
theorem off1_eq : ∀ t : Fin grid0.N, k0_off1 (grid0.coords t) = ![t.val] := by decide +kernel
theorem off3_eq : ∀ t : Fin grid0.N, k0_off3 (grid0.coords t) = ![t.val % 2] := by decide +kernel
theorem off7_eq : ∀ t : Fin grid0.N, k0_off7 (grid0.coords t) = ![(t.val + 1) % 2] := by decide +kernel
theorem off10_eq : ∀ t : Fin grid0.N, k0_off10 (grid0.coords t) = ![t.val % 2] := by decide +kernel
theorem off11_eq : ∀ t : Fin grid0.N, k0_off11 (grid0.coords t) = ![t.val % 2, 0, 0] := by decide +kernel
theorem off12_eq : ∀ t : Fin grid0.N, k0_off12 (grid0.coords t) = ![t.val % 2, 0, 0] := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 < 36 := by decide +kernel

theorem iv_val (k : ℕ) (hk : k < 512) : (Scf.iv 0#32 1#32 k).toNat = k := WordArith.toNat_iv_zero_one _ (by omega)

theorem lin_val (a k : ℕ) (ha : a < 40) (hk : k < 512) : (BitVec.ofNat 32 a * 512#32 + Scf.iv 0#32 1#32 k).toNat = 512 * a + k := by
  rw [BitVec.toNat_add, BitVec.toNat_mul, iv_val k hk, BitVec.toNat_ofNat, BitVec.toNat_ofNat]; omega

theorem off2_eq (t : Fin grid0.N) (k : Fin k0_t1_loop.trips) : k0_off2 (grid0.coords t) k = ![512 * t.val + k.val] := by
  have ht : t.val < 36 := N_0 ▸ t.isLt
  have hk : k.val < 512 := trips1 ▸ k.isLt
  show ![(BitVec.ofNat 32 (grid0.coords t 0).val * 512#32 + Scf.iv 0#32 1#32 k.val).toNat] = _
  rw [coord_val, lin_val _ _ (by omega) hk]

theorem off6_eq (t : Fin grid0.N) (k : Fin k0_t2_loop.trips) : k0_off6 (grid0.coords t) k = ![512 * (t.val + 1) + k.val] := by
  have ht : t.val < 36 := N_0 ▸ t.isLt
  have hk : k.val < 512 := trips2 ▸ k.isLt
  show ![((BitVec.ofNat 32 (grid0.coords t 0).val + 1#32) * 512#32 + Scf.iv 0#32 1#32 k.val).toNat] = _
  rw [coord_val, show BitVec.ofNat 32 t.val + 1#32 = BitVec.ofNat 32 (t.val + 1) from (BitVec.ofNat_add ..).symm, lin_val _ _ (by omega) hk]

theorem mul8_iv (k : ℕ) (hk : k < 512) : (Scf.iv 0#32 1#32 k * 8#32).toNat = 8 * k := by
  rw [BitVec.toNat_mul, iv_val k hk, BitVec.toNat_ofNat]; omega

theorem off4_eq (t : Fin grid0.N) (k : Fin k0_t1_loop.trips) : k0_off4 (grid0.coords t) k = ![t.val % 2, 8 * k.val, 0] := by
  have hk : k.val < 512 := trips1 ▸ k.isLt
  have h3 : k0_off3 (grid0.coords t) 0 = t.val % 2 := congrFun (off3_eq t) 0
  show ![k0_off3 (grid0.coords t) 0, (Scf.iv 0#32 1#32 k.val * 8#32).toNat, 0] = _
  rw [h3, mul8_iv _ hk]

theorem off8_eq (t : Fin grid0.N) (k : Fin k0_t2_loop.trips) : k0_off8 (grid0.coords t) k = ![(t.val + 1) % 2, 8 * k.val, 0] := by
  have hk : k.val < 512 := trips2 ▸ k.isLt
  have h3 : k0_off7 (grid0.coords t) 0 = (t.val + 1) % 2 := congrFun (off7_eq t) 0
  show ![k0_off7 (grid0.coords t) 0, (Scf.iv 0#32 1#32 k.val * 8#32).toNat, 0] = _
  rw [h3, mul8_iv _ hk]

theorem mul8_val (v : BitVec 32) (h : v.toNat < 16384) : (v * 8#32).toNat = 8 * v.toNat := by
  rw [BitVec.toNat_mul, BitVec.toNat_ofNat]; omega

theorem off5_eq (v : BitVec 32) (h : v.toNat < 16384) : k0_off5 v = ![8 * v.toNat, 0] := by
  show ![(v * 8#32).toNat, 0] = _
  rw [mul8_val v h]

theorem off9_eq (v : BitVec 32) (h : v.toNat < 16384) : k0_off9 v = ![8 * v.toNat, 0] := by
  show ![(v * 8#32).toNat, 0] = _
  rw [mul8_val v h]

theorem tok_inb (n : ℕ) (h : n < 16384) : ∀ a, (![8 * n, 0] : Fin 2 → ℕ) a + S8x128.size a ≤ S131072x128.size a := by
  rw [ValueKit.forall_fin_iff_conj]
  show 8 * n + 8 ≤ 131072 ∧ 0 + 128 ≤ 128
  omega

theorem chk1_of (i : grid0.Coords) (v : BitVec 32) (h : v.toNat < 16384) : k0_chk1 i v :=
  ⟨fun _ => by show 8 ∣ (v * 8#32).toNat; rw [mul8_val v h]; exact ⟨_, rfl⟩, fun _ => by rw [off5_eq v h]; exact tok_inb _ h⟩

theorem chk2_of (i : grid0.Coords) (v : BitVec 32) (h : v.toNat < 16384) : k0_chk2 i v :=
  ⟨fun _ => by show 8 ∣ (v * 8#32).toNat; rw [mul8_val v h]; exact ⟨_, rfl⟩, fun _ => by rw [off9_eq v h]; exact tok_inb _ h⟩

/-! ## A word of the token table -/

/-- The body's read of the table's word `n`. -/
theorem load_tab (c : Dev nD) (tab : S18432.Idx → BitVec 32) (qt : PosShare TreeShare) {n : ℕ} {o : Fin 1 → ℕ} (e : o = ![n]) {h} {h1 hp}
    {k : BitVec 32 → Prog (TpuEff nD τ sig (Elt F) Λ₀ .tc) PUnit} {Q : PUnit → sProp 𝕄} :
    (tabM.view.loc (c : Thread nD τ) ↦{qt} (show TabBuf (F := F) c from tab))
      ⊢ iprop(((tabM.view.loc (c : Thread nD τ) ↦{qt} (show TabBuf (F := F) c from tab)) -∗ wp frame (wpE (defs₀ (F := F)) Variants.none c none) Set.univ (k (tabAt tab n)) Q)
          -∗ wp frame (wpE (defs₀ (F := F)) Variants.none c none) Set.univ
              (smemLoad tabM (Rect.unit (s := S18432) o S1.size h) h1 hp >>= k) Q) := by
  subst e
  have hn : n < 18432 := by have := h 0; change n + 1 ≤ 18432 at this; omega
  have key := wp_smemLoadElt (defs := defs₀ (F := F)) Variants.none (c : Thread nD τ) none Set.univ (Γ := PendingWaitsCtx.empty) (m := tabM) (r := Rect.unit (s := S18432) ![n] S1.size h) (hw := View.loads_smem_one hp h1)
    (x := Shape.Idx.first (h1.symm ▸ Nat.one_pos)) (k := k) (Q := Q) (q := qt) (f := (show TabBuf (F := F) c from tab)) (S := Finset.univ) (Finset.subset_univ _)
  have hv : ((tabM.access (Rect.unit (s := S18432) ![n] S1.size h)).read (Elt F) (show TabBuf (F := F) c from tab) (Shape.Idx.first (h1.symm ▸ Nat.one_pos)) : BitVec 32) = tabAt tab n := by
    show tab ((Rect.unit (s := S18432) ![n] S1.size h).emb (Shape.Idx.first (h1.symm ▸ Nat.one_pos))) = tab _
    congr 1
    funext a
    refine Fin.cases ?_ (fun a => a.elim0) a
    apply Fin.ext
    refine (ValueKit.rect_emb_unit_val _ _ _ _ 0).trans ?_
    have hz : (Shape.Idx.first (s := (Rect.unit (s := S18432) ![n] S1.size h).shape) (h1.symm ▸ Nat.one_pos) 0).val < 1 := Fin.isLt _
    show n + (Shape.Idx.first (s := (Rect.unit (s := S18432) ![n] S1.size h).shape) (h1.symm ▸ Nat.one_pos) 0).val = n % 18432
    rw [Nat.mod_eq_of_lt hn]; omega
  rw [hv] at key
  exact key

/-! ## The slot's states -/

abbrev tabPt (c : Dev nD) (qt : PosShare TreeShare) (tab : S18432.Idx → BitVec 32) : sProp 𝕄 :=
  tabM.view.loc (c : Thread nD τ) ↦{qt} (show TabBuf (F := F) c from tab)

/-- What a copy has still to be given: its rows of the slot, at anything, and its share of its token. -/
abbrev want (c : Dev nD) (s : ℕ) (q : PosShare TreeShare) (f : StgBuf (F := F) c) (fd : ScrBuf (F := F) c) (tk : ℕ → ℕ) (j : Fin 512) : sProp 𝕄 :=
  iprop((stgM.view.loc (c : Thread nD τ) ↦[srcSet (tk j.val)]{Transfers.shareTok q 512 j} f)
    ∗ (scrM.view.loc (c : Thread nD τ) ↦[rowSet s j.val]{fullShare} fd))

/-- The loop's invariant before trip `k`: the table, what the trips left need, the batch with `k` issued. -/
def inv (c : Dev nD) (s : ℕ) (q qt : PosShare TreeShare) (tab : S18432.Idx → BitVec 32) (f : StgBuf (F := F) c) (fd : ScrBuf (F := F) c) (tk : ℕ → ℕ) (k : ℕ) : sProp 𝕄 :=
  iprop(tabPt c qt tab ∗ bigSep (Transfers.pending k) (want c s q f fd tk) ∗ bat c s q f tk k)

/-- The slot at rest: its counter at zero, its elements at anything, its share of the staged activations. -/
def Idle (c : Dev nD) (s : ℕ) (q : PosShare TreeShare) (f : StgBuf (F := F) c) : sProp 𝕄 :=
  iprop(semVal ((c : Thread nD τ), SemLoc.dma (cell s)) 0
    ∗ (∃ fd : ScrBuf (F := F) c, scrM.view.loc (c : Thread nD τ) ↦[slotSet s]{fullShare} fd)
    ∗ (stgM.view.loc (c : Thread nD τ) ↦{q} f))

/-- The slot's copies in flight: the batch, every copy's share of the tokens it does not read, what is left of the share. -/
def Flying (c : Dev nD) (s : ℕ) (q : PosShare TreeShare) (f : StgBuf (F := F) c) (tk : ℕ → ℕ) : sProp 𝕄 :=
  iprop(bat c s q f tk 512
    ∗ bigSep Finset.univ (fun j : Fin 512 => (stgM.view.loc (c : Thread nD τ) ↦[Finset.univ \ srcSet (tk j.val)]{Transfers.shareTok q 512 j} f))
    ∗ (stgM.view.loc (c : Thread nD τ) ↦{Transfers.shareDrop q 512} f))

/-- The slot's copies landed: its counter at zero, its elements at the gathered contents, its share back. -/
def Landed (c : Dev nD) (s : ℕ) (q : PosShare TreeShare) (f : StgBuf (F := F) c) (tk : ℕ → ℕ) : sProp 𝕄 :=
  iprop(semVal ((c : Thread nD τ), SemLoc.dma (cell s)) 0
    ∗ (scrM.view.loc (c : Thread nD τ) ↦[slotSet s]{fullShare} (show ScrBuf (F := F) c from gath f tk))
    ∗ (stgM.view.loc (c : Thread nD τ) ↦{q} f))

theorem Landed_idle (c : Dev nD) (s : ℕ) (q : PosShare TreeShare) (f : StgBuf (F := F) c) (tk : ℕ → ℕ) : Landed c s q f tk ⊢ Idle c s q f := by
  unfold Landed Idle
  iintro ⟨H1, H2, H3⟩
  isplitl [H1]; · iexact H1
  isplitl [H2]; · iexists _; iexact H2
  iexact H3

theorem sep_out {I : Type} (S : Finset I) (Φ Ψ : I → sProp 𝕄) : bigSep S (fun i => iprop(Φ i ∗ Ψ i)) ⊢ iprop(bigSep S Φ ∗ bigSep S Ψ) :=
  Entails.of_eq (bigSep_sep S Φ Ψ)
theorem sep_in {I : Type} (S : Finset I) (Φ Ψ : I → sProp 𝕄) : iprop(bigSep S Φ ∗ bigSep S Ψ) ⊢ bigSep S (fun i => iprop(Φ i ∗ Ψ i)) :=
  Entails.of_eq (bigSep_sep S Φ Ψ).symm
theorem pending_out {n : ℕ} (Φ : Fin n → sProp 𝕄) {k : ℕ} (hk : k < n) :
    bigSep (Transfers.pending k) Φ ⊢ iprop(Φ ⟨k, hk⟩ ∗ bigSep (Transfers.pending (k + 1)) Φ) :=
  Entails.of_eq (by rw [Transfers.pending_succ hk, bigSep_insert (Transfers.not_mem_pending_succ hk)]; rfl)
theorem pieces_eq {ℓ : Loc nD τ sig} {q : PosShare TreeShare} {f : Buf (Elt F) ℓ} (S : Finset (Idx ℓ)) (K : Fin 512 → Finset (Idx ℓ))
    (hd : ∀ j j', j ≠ j' → Disjoint (K j) (K j')) (hS : ∀ i, i ∈ S ↔ ∃ j, i ∈ K j) :
    (ℓ ↦[S]{q} f : sProp 𝕄) = bigSep Finset.univ (fun j => ℓ ↦[K j]{q} f) := by
  have e : S = Finset.univ.biUnion K := by
    ext i; rw [hS, Finset.mem_biUnion]; simp
  rw [e]; exact pointsTo_biUnion Finset.univ K fun j _ j' _ h => hd j j' h
theorem mem_slot_iff (s : ℕ) (i : S2x4096x128.Idx) : i ∈ slotSet s ↔ ∃ j : Fin 512, i ∈ rowSet s j.val := by
  constructor
  · intro hi
    have h1 : (i 1).val < 4096 := (i 1).isLt
    refine ⟨⟨(i 1).val / 8, by omega⟩, ?_⟩
    unfold slotSet at hi; unfold rowSet
    rw [Finset.mem_filter] at hi ⊢
    exact ⟨hi.1, hi.2, rfl⟩
  · rintro ⟨j, hj⟩
    unfold rowSet at hj; unfold slotSet
    rw [Finset.mem_filter] at hj ⊢
    exact ⟨hj.1, hj.2.1⟩
theorem slot_pieces (c : Dev nD) (s : ℕ) (fd : ScrBuf (F := F) c) :
    (scrM.view.loc (c : Thread nD τ) ↦[slotSet s]{fullShare} fd : sProp 𝕄)
      = bigSep Finset.univ (fun j : Fin 512 => (scrM.view.loc (c : Thread nD τ) ↦[rowSet s j.val]{fullShare} fd)) :=
  pieces_eq (ℓ := scrM.view.loc (c : Thread nD τ)) (slotSet s) (fun j : Fin 512 => rowSet s j.val)
    (fun j j' h => rowSet_disjoint s j.val j'.val fun e => h (Fin.ext e)) (mem_slot_iff s)

/-- A slot at rest is what the loop starts from. -/
theorem idle_start (c : Dev nD) (s : ℕ) (q : PosShare TreeShare) (f : StgBuf (F := F) c) (tk : ℕ → ℕ) :
    Idle c s q f ⊢ |={Set.univ}=> iprop(∃ fd : ScrBuf (F := F) c, bigSep (Transfers.pending 0) (want c s q f fd tk) ∗ bat c s q f tk 0
      ∗ bigSep Finset.univ (fun j : Fin 512 => (stgM.view.loc (c : Thread nD τ) ↦[Finset.univ \ srcSet (tk j.val)]{Transfers.shareTok q 512 j} f))
      ∗ (stgM.view.loc (c : Thread nD τ) ↦{Transfers.shareDrop q 512} f)) := by
  unfold Idle
  iintro ⟨Hv, ⟨%fd, Hd⟩, Hs⟩
  imod (Transfers.batch_alloc' (Lvl := ℕ) (countersEmb (U := Pipeline.UD sig nD τ)) (c : Thread nD τ) () unitsN
      (deliv c s q f tk) (sm := SemLoc.dma (cell s)) (E := Set.univ)) $$ Hv with HB
  ihave Hs := (Transfers.pointsTo_toks_split q 512) $$ Hs
  icases Hs with ⟨Hdrop, Hs⟩
  have hsplit : (bigSep Finset.univ (fun i : Fin 512 => (stgM.view.loc (c : Thread nD τ) ↦{Transfers.shareTok q 512 i} f)) : sProp 𝕄)
      ⊢ iprop(bigSep Finset.univ (fun j : Fin 512 => (stgM.view.loc (c : Thread nD τ) ↦[srcSet (tk j.val)]{Transfers.shareTok q 512 j} f))
        ∗ bigSep Finset.univ (fun j : Fin 512 => (stgM.view.loc (c : Thread nD τ) ↦[Finset.univ \ srcSet (tk j.val)]{Transfers.shareTok q 512 j} f))) := by
    exact (bigSep_mono fun j _ => (pointsTo_split_subset (Finset.subset_univ (srcSet (tk j.val)))).1).trans (sep_out _ _ _)
  ihave Hs := hsplit $$ Hs
  icases Hs with ⟨Hs, Hr⟩
  ihave Hd := (Entails.of_eq (slot_pieces c s fd)) $$ Hd
  imodintro
  iexists fd
  isplitl [Hs Hd]
  · rw [Transfers.pending_zero]
    iapply (sep_in (F := F) Finset.univ _ _)
    isplitl [Hs]; · iexact Hs
    iexact Hd
  isplitl [HB]; · iexact HB
  isplitl [Hr]; · iexact Hr
  iexact Hdrop

/-- Every copy landed is the slot landed. -/
theorem landed_of (c : Dev nD) (s : ℕ) (q : PosShare TreeShare) (f : StgBuf (F := F) c) (tk : ℕ → ℕ) :
    iprop(bigSep Finset.univ (deliv c s q f tk) ∗ semVal ((c : Thread nD τ), SemLoc.dma (cell s)) 0
      ∗ bigSep Finset.univ (fun j : Fin 512 => (stgM.view.loc (c : Thread nD τ) ↦[Finset.univ \ srcSet (tk j.val)]{Transfers.shareTok q 512 j} f))
      ∗ (stgM.view.loc (c : Thread nD τ) ↦{Transfers.shareDrop q 512} f)) ⊢ Landed c s q f tk := by
  unfold Landed
  have h1 : (bigSep Finset.univ (deliv c s q f tk) : sProp 𝕄)
      ⊢ iprop(bigSep Finset.univ (fun j : Fin 512 => (scrM.view.loc (c : Thread nD τ) ↦[rowSet s j.val]{fullShare} (show ScrBuf (F := F) c from gath f tk)))
        ∗ bigSep Finset.univ (fun j : Fin 512 => (stgM.view.loc (c : Thread nD τ) ↦[srcSet (tk j.val)]{Transfers.shareTok q 512 j} f))) := by
    exact sep_out _ _ _
  have h2 : (bigSep Finset.univ (fun j : Fin 512 => (scrM.view.loc (c : Thread nD τ) ↦[rowSet s j.val]{fullShare} (show ScrBuf (F := F) c from gath f tk))) : sProp 𝕄)
      ⊢ (scrM.view.loc (c : Thread nD τ) ↦[slotSet s]{fullShare} (show ScrBuf (F := F) c from gath f tk)) := by
    exact Entails.of_eq (slot_pieces c s _).symm
  have h3 : iprop(bigSep Finset.univ (fun j : Fin 512 => (stgM.view.loc (c : Thread nD τ) ↦[srcSet (tk j.val)]{Transfers.shareTok q 512 j} f))
        ∗ bigSep Finset.univ (fun j : Fin 512 => (stgM.view.loc (c : Thread nD τ) ↦[Finset.univ \ srcSet (tk j.val)]{Transfers.shareTok q 512 j} f)))
      ⊢ (bigSep Finset.univ (fun i : Fin 512 => (stgM.view.loc (c : Thread nD τ) ↦{Transfers.shareTok q 512 i} f)) : sProp 𝕄) := by
    exact (sep_in _ _ _).trans (bigSep_mono fun j _ => (pointsTo_split_subset (Finset.subset_univ (srcSet (tk j.val)))).2)
  iintro ⟨HD, Hv, Hr, Hdrop⟩
  ihave HD := h1 $$ HD
  icases HD with ⟨Hd, Hs⟩
  isplitl [Hv]; · iexact Hv
  isplitl [Hd]; · iapply h2; iexact Hd
  iapply (Transfers.pointsTo_toks_join q 512)
  isplitl [Hdrop]; · iexact Hdrop
  iapply h3
  isplitl [Hs]; · iexact Hs
  iexact Hr

/-! ## One trip, and the loops -/

theorem trip1 (c : Dev nD) (t : Fin grid0.N) (h1 : k0_cond1 (grid0.coords t) = 1#1) (q qt : PosShare TreeShare) (tab : S18432.Idx → BitVec 32)
    (htab : ∀ n, (tabAt tab n).toNat < 16384) (f : StgBuf (F := F) c) (fd : ScrBuf (F := F) c)
    {a4 a5 a6 a7 a8 a9 : _} {h4 h5 h6 h7 h8 h9} (k : Fin k0_t1_loop.trips) (acc : Unit) :
    inv c (t.val % 2) q qt tab f fd (tok tab t.val) k.val
      ⊢ wp frame (wpE (defs₀ (F := F)) Variants.none c none) Set.univ
          (k0_t1_body (grid0.coords t) grpM (Memref.isWhole_whole _) tabM (Memref.isWhole_whole _) stgM (Memref.isWhole_whole _) a4 h4 a5 h5 a6 h6 a7 h7 a8 h8 a9 h9
            scrM (Memref.isWhole_whole _) cc0_scratch1 h1 k acc) (fun _ => inv c (t.val % 2) q qt tab f fd (tok tab t.val) (k.val + 1)) := by
  have hk : k.val < 512 := trips1 ▸ k.isLt
  unfold k0_t1_body inv
  iintro ⟨Ht, Hp, HB⟩
  ihave Hp := (pending_out (F := F) _ hk) $$ Hp
  icases Hp with ⟨⟨Hs, Hd⟩, Hrest⟩
  iapply (load_tab c tab qt (off2_eq t k)) $$ Ht
  iintro Ht
  iapply (wp_assume (c := (c : Thread nD τ)) Variants.none none Set.univ (chk1_of _ _ (htab _)))
  iapply (issue c (s := t.val % 2) (Nat.mod_lt _ (by decide)) q f fd (tok tab t.val) ⟨k.val, hk⟩ (htab _) (off3_eq t) (off4_eq t k) (off5_eq _ (htab _))) $$ [Hs Hd HB]
  · isplitl [Hs]; · iexact Hs
    isplitl [Hd]; · iexact Hd
    iexact HB
  iintro HB
  iapply (Entails.of_eq (wp_pure ..).symm)
  imodintro
  isplitl [Ht]; · iexact Ht
  isplitl [Hrest]; · iexact Hrest
  iexact HB

theorem trip2 (c : Dev nD) (t : Fin grid0.N) (h1 : k0_cond2 (grid0.coords t) = 1#1) (q qt : PosShare TreeShare) (tab : S18432.Idx → BitVec 32)
    (htab : ∀ n, (tabAt tab n).toNat < 16384) (f : StgBuf (F := F) c) (fd : ScrBuf (F := F) c)
    {a4 a5 a6 a7 a8 a9 : _} {h4 h5 h6 h7 h8 h9} (k : Fin k0_t2_loop.trips) (acc : Unit) :
    inv c ((t.val + 1) % 2) q qt tab f fd (tok tab (t.val + 1)) k.val
      ⊢ wp frame (wpE (defs₀ (F := F)) Variants.none c none) Set.univ
          (k0_t2_body (grid0.coords t) grpM (Memref.isWhole_whole _) tabM (Memref.isWhole_whole _) stgM (Memref.isWhole_whole _) a4 h4 a5 h5 a6 h6 a7 h7 a8 h8 a9 h9
            scrM (Memref.isWhole_whole _) cc0_scratch1 h1 k acc) (fun _ => inv c ((t.val + 1) % 2) q qt tab f fd (tok tab (t.val + 1)) (k.val + 1)) := by
  have hk : k.val < 512 := trips2 ▸ k.isLt
  unfold k0_t2_body inv
  iintro ⟨Ht, Hp, HB⟩
  ihave Hp := (pending_out (F := F) _ hk) $$ Hp
  icases Hp with ⟨⟨Hs, Hd⟩, Hrest⟩
  iapply (load_tab c tab qt (off6_eq t k)) $$ Ht
  iintro Ht
  iapply (wp_assume (c := (c : Thread nD τ)) Variants.none none Set.univ (chk2_of _ _ (htab _)))
  iapply (issue c (s := (t.val + 1) % 2) (Nat.mod_lt _ (by decide)) q f fd (tok tab (t.val + 1)) ⟨k.val, hk⟩ (htab _) (off7_eq t) (off8_eq t k) (off9_eq _ (htab _))) $$ [Hs Hd HB]
  · isplitl [Hs]; · iexact Hs
    isplitl [Hd]; · iexact Hd
    iexact HB
  iintro HB
  iapply (Entails.of_eq (wp_pure ..).symm)
  imodintro
  isplitl [Ht]; · iexact Ht
  isplitl [Hrest]; · iexact Hrest
  iexact HB

/-- The first loop takes its slot from rest into flight. -/
theorem loop1 (c : Dev nD) (t : Fin grid0.N) (h1 : k0_cond1 (grid0.coords t) = 1#1) (q qt : PosShare TreeShare) (tab : S18432.Idx → BitVec 32)
    (htab : ∀ n, (tabAt tab n).toNat < 16384) (f : StgBuf (F := F) c)
    {a4 a5 a6 a7 a8 a9 : _} {h4 h5 h6 h7 h8 h9} {ok} {Q : Unit → sProp 𝕄} :
    iprop(tabPt c qt tab ∗ Idle c (t.val % 2) q f ∗ (iprop(tabPt c qt tab ∗ Flying c (t.val % 2) q f (tok tab t.val)) -∗ Q ()))
      ⊢ wp frame (wpE (defs₀ (F := F)) Variants.none c none) Set.univ
          (Scf.Loop.for k0_t1_loop ok ⟨⟩ (k0_t1_body (grid0.coords t) grpM (Memref.isWhole_whole _) tabM (Memref.isWhole_whole _) stgM (Memref.isWhole_whole _) a4 h4 a5 h5 a6 h6 a7 h7 a8 h8 a9 h9
            scrM (Memref.isWhole_whole _) cc0_scratch1 h1)) Q := by
  iintro ⟨Ht, Hi, Hk⟩
  imod (idle_start c (t.val % 2) q f (tok tab t.val)) $$ Hi with ⟨%fd, Hw, HB, Hr, Hd⟩
  iapply (Scf.wp_for frame (wpE (defs₀ (F := F)) Variants.none c none) Set.univ k0_t1_loop.lb k0_t1_loop.ub k0_t1_loop.st ok ()
    _ (fun k _ => inv c (t.val % 2) q qt tab f fd (tok tab t.val) k) (fun k acc => trip1 c t h1 q qt tab htab f fd k acc))
  isplitl [Ht Hw HB]
  · unfold inv
    isplitl [Ht]; · iexact Ht
    isplitl [Hw]; · iexact Hw
    iexact HB
  iintro %acc HI
  ihave HI := (Entails.of_eq (congrArg (inv c (t.val % 2) q qt tab f fd (tok tab t.val)) trips1)) $$ HI
  unfold inv
  icases HI with ⟨Ht, -, HB⟩
  iapply Hk
  isplitl [Ht]; · iexact Ht
  unfold Flying
  isplitl [HB]; · iexact HB
  isplitl [Hr]; · iexact Hr
  iexact Hd

/-- The second loop takes its slot from rest into flight. -/
theorem loop2 (c : Dev nD) (t : Fin grid0.N) (h1 : k0_cond2 (grid0.coords t) = 1#1) (q qt : PosShare TreeShare) (tab : S18432.Idx → BitVec 32)
    (htab : ∀ n, (tabAt tab n).toNat < 16384) (f : StgBuf (F := F) c)
    {a4 a5 a6 a7 a8 a9 : _} {h4 h5 h6 h7 h8 h9} {ok} {Q : Unit → sProp 𝕄} :
    iprop(tabPt c qt tab ∗ Idle c ((t.val + 1) % 2) q f ∗ (iprop(tabPt c qt tab ∗ Flying c ((t.val + 1) % 2) q f (tok tab (t.val + 1))) -∗ Q ()))
      ⊢ wp frame (wpE (defs₀ (F := F)) Variants.none c none) Set.univ
          (Scf.Loop.for k0_t2_loop ok ⟨⟩ (k0_t2_body (grid0.coords t) grpM (Memref.isWhole_whole _) tabM (Memref.isWhole_whole _) stgM (Memref.isWhole_whole _) a4 h4 a5 h5 a6 h6 a7 h7 a8 h8 a9 h9
            scrM (Memref.isWhole_whole _) cc0_scratch1 h1)) Q := by
  iintro ⟨Ht, Hi, Hk⟩
  imod (idle_start c ((t.val + 1) % 2) q f (tok tab (t.val + 1))) $$ Hi with ⟨%fd, Hw, HB, Hr, Hd⟩
  iapply (Scf.wp_for frame (wpE (defs₀ (F := F)) Variants.none c none) Set.univ k0_t2_loop.lb k0_t2_loop.ub k0_t2_loop.st ok ()
    _ (fun k _ => inv c ((t.val + 1) % 2) q qt tab f fd (tok tab (t.val + 1)) k) (fun k acc => trip2 c t h1 q qt tab htab f fd k acc))
  isplitl [Ht Hw HB]
  · unfold inv
    isplitl [Ht]; · iexact Ht
    isplitl [Hw]; · iexact Hw
    iexact HB
  iintro %acc HI
  ihave HI := (Entails.of_eq (congrArg (inv c ((t.val + 1) % 2) q qt tab f fd (tok tab (t.val + 1))) trips2)) $$ HI
  unfold inv
  icases HI with ⟨Ht, -, HB⟩
  iapply Hk
  isplitl [Ht]; · iexact Ht
  unfold Flying
  isplitl [HB]; · iexact HB
  isplitl [Hr]; · iexact Hr
  iexact Hd

/-! ## The wait -/

abbrev waitM (o : Fin 3 → ℕ) (h : ∀ a, o a + S1x4096x128.size a ≤ S2x4096x128.size a) : Memref sig .tc .vmem S4096x128 .f32 :=
  (scrM.slice (Rect.unit (s := S2x4096x128) o S1x4096x128.size h) (fun _ => rfl)).squeeze S4096x128 squeezes_S1x4096x128_S4096x128

/-- The wait of a slot's whole size drains every copy of its tile. -/
theorem drain (c : Dev nD) {s : ℕ} (hs : s < 2) (q : PosShare TreeShare) (f : StgBuf (F := F) c) (tk : ℕ → ℕ) {W : Waits sig Unit}
    {o : Fin 1 → ℕ} {o' : Fin 3 → ℕ} (e : o = ![s]) {h h'} {src : Memref sig .tc .hbm S4096x128 .f32} {hsrc hdst}
    {k : PUnit → Prog (TpuEff nD τ sig (Elt F) Λ₀ .tc) PUnit} {Q : PUnit → sProp 𝕄} :
    iprop(Flying c s q f tk ∗ owes (c : Thread nD τ) 0 W)
      ⊢ iprop((iprop(Landed c s q f tk ∗ (∃ W', owes (c : Thread nD τ) 0 W')) -∗ wp frame (wpE (defs₀ (F := F)) Variants.none c none) Set.univ (k ⟨⟩) Q)
          -∗ wp frame (wpE (defs₀ (F := F)) Variants.none c none) Set.univ
              (.op (.waitDma2 (semR o h) src (waitM o' h') hsrc hdst) k) Q) := by
  subst e
  have hc : semR ![s] h = cell s := semR_eq hs h
  generalize semR ![s] h = x at hc ⊢
  subst hc
  unfold Flying
  iintro ⟨⟨HB, Hr, Hd⟩, HW⟩ Hk
  iapply (Transfers.wp_waitBatchAll (countersEmb (U := Pipeline.UD sig nD τ)) Variants.none (c : Thread nD τ) none (defs := defs₀ (F := F))
    (dstw := waitM o' h') (N := unitsN) (n := 512) (u := 0) () rfl (by decide) (show 0 + (waitM o' h').view.dmaCredit = unitsN * 512 from rfl)) $$ [HB HW]
  · isplitl [HB]; · iexact HB
    iexact HW
  iintro ⟨HD, Hv, HW⟩
  iapply Hk
  isplitr [HW]
  · iapply (landed_of c s q f tk)
    isplitl [HD]; · iexact HD
    isplitl [Hv]; · iexact Hv
    isplitl [Hr]; · iexact Hr
    iexact Hd
  iexists _; iexact HW

end Cert.KernelIdeal.Moe

end
-- ==== Proof.MoeIdeal.Compute.lean ====
/-
  One tile's computation, from the rows gathered into a slot to the block stored: what each load reads, the block as a
  function of the gathered rows, the router's and the experts' weights and the group word, and the run of the parts.
-/
module

public import proofs.«01_k».proof.Proof.MoeIdeal.Issue

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Loads and stores of a memref owned at known contents -/

/-- What a load at the coordinates `r` reads of contents `X`. -/
def sub {s : Shape} {α : Type} (r : LoadRect s) (X : s.Idx → α) : r.shape.Idx → α := fun j => X (r.idx j)

/-- A load of an owned memref reads the contents under its coordinates. -/
theorem ld (c : Dev nD) {cs : CoreSpace} {s : Shape} {e : EltTy} (m : Memref sig .tc cs s e) (q : PosShare TreeShare) (X : s.Idx → Elt F e)
    {r : LoadRect s} {hl : m.view.LoadsAt r} {α : Type} {k : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) Variants.none c none) Set.univ (k (sub r X)) Q)
          -∗ wp frame (wpE (defs₀ (F := F)) Variants.none c none) Set.univ (.op (.load m r hl) k) Q) := by
  unfold owns
  iintro ⟨%f, %hf, H⟩ Hk
  iapply (wp_load Variants.none (c : Thread nD τ) none Set.univ (S := m.view.set) (f := f) (View.setOn_subset_set _ _)) $$ H
  iintro H
  have e1 : m.view.readAt (Elt F) r f = sub r X := funext fun j => (View.readAt_apply ..).trans (congrFun hf _)
  rw [e1]
  iapply Hk
  iexists f
  isplitr; · ipureintro; exact hf
  iexact H

/-- A store to an owned memref leaves the contents that agree with the payload under the rectangle and with the old ones off it. -/
theorem st (c : Dev nD) {cs : CoreSpace} {s : Shape} {e : EltTy} (m : Memref sig .tc cs s e) (X X' : s.Idx → Elt F e)
    {r : Rect s} {w : r.shape.Idx → Elt F e} {hx : (m.access r).Stores Finset.univ} {hm} {α : Type} {k : PUnit → Prog (TpuEff nD τ sig (Elt F) Λ₀ .tc) α} {Q : α → sProp 𝕄}
    (h1 : ∀ j, X' (r.emb j) = w j) (h2 : ∀ y, y ∉ r.set → X' y = X y) :
    (owns (c : Thread nD τ) m fullShare X : sProp 𝕄)
      ⊢ iprop((owns (c : Thread nD τ) m fullShare X' -∗ wp frame (wpE (defs₀ (F := F)) Variants.none c none) Set.univ (k ⟨⟩) Q)
          -∗ wp frame (wpE (defs₀ (F := F)) Variants.none c none) Set.univ (.op (.store m r w Finset.univ hx hm) k) Q) := by
  unfold owns
  iintro ⟨%f, %hf, H⟩ Hk
  iapply (wp_store Variants.none (c : Thread nD τ) none Set.univ (m := m) (r := r) (S := m.view.set) (f := f) (View.set_slice_subset _ _)) $$ H
  iintro H
  iapply Hk
  iexists _
  isplitr [H]
  rotate_left
  · iexact H
  ipureintro
  funext y
  by_cases hy : y ∈ r.set
  · obtain ⟨j, rfl⟩ := r.exists_idx_of_mem hy
    exact (View.read_slice_write_emb r f w (Finset.mem_univ j)).trans (h1 j).symm
  · refine (View.read_slice_write_of_not_mem r f w Finset.univ (by rw [Rect.map_emb_univ]; exact hy)).trans ?_
    rw [hf]; exact (h2 y hy).symm

/-! ## The slot read as one array of rows -/

/-- The gathered rows of one slot. -/
def rows (f : S131072x128.Idx → Elt F .f32) (tk : ℕ → ℕ) : S4096x128.Idx → Elt F .f32 := fun i =>
  f (ValueIdx.ix2 (⟨(8 * tk ((i 0).val / 8) + (i 0).val % 8) % 131072, Nat.mod_lt _ (by decide)⟩ : Fin 131072) (⟨(i 1).val, (i 1).isLt⟩ : Fin 128))

theorem waitM_set {s : ℕ} (h) : (waitM ![s, 0, 0] h).view.set = slotSet s := by
  rw [show (waitM ![s, 0, 0] h).view.set = ((View.whole cc0_scratch0).slice (Rect.unit (s := S2x4096x128) ![s, 0, 0] S1x4096x128.size h)).set from View.set_reshape _ _]
  ext i
  refine ValueKit.mem_set_slice_whole_iff cc0_scratch0 _ i ?_
  rw [Rect.mem_set_unit, ValueKit.forall_fin_iff_conj]
  have h2 : (i 2).val < 128 := (i 2).isLt
  have h1 : (i 1).val < 4096 := (i 1).isLt
  unfold slotSet
  rw [Finset.mem_filter]
  show ((s ≤ (i 0).val ∧ (i 0).val < s + 1) ∧ (0 ≤ (i 1).val ∧ (i 1).val < 0 + 4096) ∧ (0 ≤ (i 2).val ∧ (i 2).val < 0 + 128)) ↔ _
  constructor
  · rintro ⟨⟨a, b⟩, -, -⟩; exact ⟨Finset.mem_univ _, by omega⟩
  · rintro ⟨-, a⟩; exact ⟨by omega, by omega, by omega⟩

theorem waitM_read (c : Dev nD) (f : StgBuf (F := F) c) (tk : ℕ → ℕ) {s : ℕ} (h) :
    (waitM ![s, 0, 0] h).view.read (Elt F) (show (waitM ![s, 0, 0] h).view.ty.Contents (Elt F) from gath f tk) = rows f tk := by
  funext y
  have hy0 : (y 0).val < 4096 := (y 0).isLt
  have hy1 : (y 1).val < 128 := (y 1).isLt
  have hy : y = ValueIdx.ix2 (⟨(y 0).val, hy0⟩ : Fin 4096) (⟨(y 1).val, hy1⟩ : Fin 128) := by
    funext a; refine Fin.cases rfl (fun a => ?_) a; exact Fin.cases rfl (fun a => a.elim0) a
  show gath f tk ((waitM ![s, 0, 0] h).view.emb y) = _
  set e := (waitM ![s, 0, 0] h).view.emb y with he
  have e0 : e = (Rect.unit (s := S2x4096x128) ![s, 0, 0] S1x4096x128.size h).emb (ValueIdx.ix3 (⟨0, Nat.one_pos⟩ : Fin 1) (⟨(y 0).val, hy0⟩ : Fin 4096) (⟨(y 1).val, hy1⟩ : Fin 128)) := by
    refine (congrArg (waitM ![s, 0, 0] h).view.emb hy).trans ?_
    show (Rect.unit (s := S2x4096x128) ![s, 0, 0] S1x4096x128.size h).emb (Shape.reshapeEquiv _ _) = _
    exact congrArg _ (ValueIdx.reshapeEquiv_ix2_1ab _ _ _)
  have e1 : (e 1).val = (y 0).val := by rw [e0]; exact (ValueKit.rect_emb_unit_val _ _ _ _ 1).trans (Nat.zero_add _)
  have e2 : (e 2).val = (y 1).val := by rw [e0]; exact (ValueKit.rect_emb_unit_val _ _ _ _ 2).trans (Nat.zero_add _)
  unfold gath rows
  congr 1
  funext a
  refine Fin.cases ?_ (fun a => ?_) a
  · apply Fin.ext
    show (8 * tk ((e 1).val / 8) + (e 1).val % 8) % 131072 = (8 * tk ((y 0).val / 8) + (y 0).val % 8) % 131072
    rw [e1]
  · refine Fin.cases ?_ (fun a => a.elim0) a
    apply Fin.ext
    exact e2

theorem slot_inb (s : ℕ) (hs : s < 2) : ∀ a, (![s, 0, 0] : Fin 3 → ℕ) a + S1x4096x128.size a ≤ S2x4096x128.size a := by
  rw [ValueKit.forall_fin_iff_conj]
  show s + 1 ≤ 2 ∧ 0 + 4096 ≤ 4096 ∧ 0 + 128 ≤ 128
  omega

/-- A landed slot, apart from its elements. -/
def Rest (c : Dev nD) (s : ℕ) (q : PosShare TreeShare) (f : StgBuf (F := F) c) : sProp 𝕄 :=
  iprop(semVal ((c : Thread nD τ), SemLoc.dma (cell s)) 0 ∗ (stgM.view.loc (c : Thread nD τ) ↦{q} f))

theorem Landed_owns (c : Dev nD) (s : ℕ) (q : PosShare TreeShare) (f : StgBuf (F := F) c) (tk : ℕ → ℕ) (h) :
    Landed c s q f tk ⊢ iprop(Rest c s q f ∗ owns (c : Thread nD τ) (waitM ![s, 0, 0] h) fullShare (rows f tk)) := by
  unfold Landed Rest owns
  iintro ⟨H1, H2, H3⟩
  isplitl [H1 H3]
  · isplitl [H1]; · iexact H1
    iexact H3
  iexists (show (waitM ![s, 0, 0] h).view.ty.Contents (Elt F) from gath f tk)
  isplitr [H2]; · ipureintro; exact waitM_read c f tk h
  rw [waitM_set h]
  iexact H2

theorem owns_Idle (c : Dev nD) (s : ℕ) (q : PosShare TreeShare) (f : StgBuf (F := F) c) (X : S4096x128.Idx → Elt F .f32) (h) :
    iprop(Rest c s q f ∗ owns (c : Thread nD τ) (waitM ![s, 0, 0] h) fullShare X) ⊢ Idle c s q f := by
  unfold Idle Rest owns
  iintro ⟨⟨H1, H3⟩, %g, -, H2⟩
  isplitl [H1]; · iexact H1
  isplitl [H2]
  · iexists (show ScrBuf (F := F) c from g)
    rw [waitM_set h]
    iexact H2
  iexact H3

/-! ## The block a tile stores -/

/-- Row residue `k` modulo eight, strided. -/
abbrev lane8 (k : ℕ) (h : ∀ a : Fin 2, S512x128.size a = 0 ∨ (![k, 0] : Fin 2 → ℕ) a + (![8, 1] : Fin 2 → ℕ) a * (S512x128.size a - 1) < S4096x128.size a) : LoadRect S4096x128 := ⟨![k, 0], S512x128.size, ![8, 1], h⟩

section Block
variable (v1 : Elt F .i32) (X : S4096x128.Idx → Elt F .f32) (W : S1024x128.Idx → Elt F .f32) (B : S1x128.Idx → Elt F .f32)
  (G U : S1x1x4x1024x512.Idx → Elt F .bf16) (D : S1x1x4x512x1024.Idx → Elt F .bf16)

/-- The tile's activations, a token a row. -/
abbrev x55 : FVec F S512x1024 .f32 :=
  k0_pay8 (sub (lane8 0 inb_S4096x128_S512x128_0_0_s_8_1) X) (sub (lane8 1 inb_S4096x128_S512x128_1_0_s_8_1) X)
    (sub (lane8 2 inb_S4096x128_S512x128_2_0_s_8_1) X) (sub (lane8 3 inb_S4096x128_S512x128_3_0_s_8_1) X)
    (sub (lane8 4 inb_S4096x128_S512x128_4_0_s_8_1) X) (sub (lane8 5 inb_S4096x128_S512x128_5_0_s_8_1) X)
    (sub (lane8 6 inb_S4096x128_S512x128_6_0_s_8_1) X) (sub (lane8 7 inb_S4096x128_S512x128_7_0_s_8_1) X)
/-- The router's weights as loaded. -/
abbrev w56 : Vec F S1024x128 .f32 := sub (Rect.unit (s := S1024x128) ![0, 0] S1024x128.size inb_S1024x128_S1024x128_0_0).toLoadRect W
/-- The router's biases as loaded. -/
abbrev b71 : Vec F S1x128 .f32 := sub (Rect.unit (s := S1x128) ![0, 0] S1x128.size inb_S1x128_S1x128_0_0).toLoadRect B
abbrev i75 : IVec S512x128 32 := iota .tc S512x128 32 [1] iota_S512x128_d1_w32
/-- Expert 0's gate matrix, as loaded; then the four up and the four down matrices alike. -/
abbrev g0 : Vec F S1x1x1x1024x512 .bf16 := sub (Rect.unit (s := S1x1x4x1024x512) ![0, 0, 0, 0, 0] S1x1x1x1024x512.size inb_S1x1x4x1024x512_S1x1x1x1024x512_0_0_0_0_0).toLoadRect G
abbrev g1 : Vec F S1x1x1x1024x512 .bf16 := sub (Rect.unit (s := S1x1x4x1024x512) ![0, 0, 1, 0, 0] S1x1x1x1024x512.size inb_S1x1x4x1024x512_S1x1x1x1024x512_0_0_1_0_0).toLoadRect G
abbrev g2 : Vec F S1x1x1x1024x512 .bf16 := sub (Rect.unit (s := S1x1x4x1024x512) ![0, 0, 2, 0, 0] S1x1x1x1024x512.size inb_S1x1x4x1024x512_S1x1x1x1024x512_0_0_2_0_0).toLoadRect G
abbrev g3 : Vec F S1x1x1x1024x512 .bf16 := sub (Rect.unit (s := S1x1x4x1024x512) ![0, 0, 3, 0, 0] S1x1x1x1024x512.size inb_S1x1x4x1024x512_S1x1x1x1024x512_0_0_3_0_0).toLoadRect G
abbrev d0 : Vec F S1x1x1x512x1024 .bf16 := sub (Rect.unit (s := S1x1x4x512x1024) ![0, 0, 0, 0, 0] S1x1x1x512x1024.size inb_S1x1x4x512x1024_S1x1x1x512x1024_0_0_0_0_0).toLoadRect D
abbrev d1 : Vec F S1x1x1x512x1024 .bf16 := sub (Rect.unit (s := S1x1x4x512x1024) ![0, 0, 1, 0, 0] S1x1x1x512x1024.size inb_S1x1x4x512x1024_S1x1x1x512x1024_0_0_1_0_0).toLoadRect D
abbrev d2 : Vec F S1x1x1x512x1024 .bf16 := sub (Rect.unit (s := S1x1x4x512x1024) ![0, 0, 2, 0, 0] S1x1x1x512x1024.size inb_S1x1x4x512x1024_S1x1x1x512x1024_0_0_2_0_0).toLoadRect D
abbrev d3 : Vec F S1x1x1x512x1024 .bf16 := sub (Rect.unit (s := S1x1x4x512x1024) ![0, 0, 3, 0, 0] S1x1x1x512x1024.size inb_S1x1x4x512x1024_S1x1x1x512x1024_0_0_3_0_0).toLoadRect D

/-- The logits. -/
abbrev x74 : FVec F S512x128 .f32 := k0_pay9 (x55 X) (w56 W) (b71 B)
abbrev x95 : IVec S512x1 32 := k0_pay13 (x55 X) (w56 W) (b71 B)
abbrev x97 : FVec F S512x1 .f32 := k0_pay14 (x55 X) (w56 W) (b71 B)
abbrev x131 : IVec S512x128 1 := k0_pay17 (x95 X W B) k0_pay15 k0_pay16
abbrev x135 : FVec F S512x1 .f32 := k0_pay19 (x74 X W B) (x95 X W B) k0_pay15 k0_pay16
abbrev x142 : IVec S512x1 32 := k0_pay20 (x74 X W B) i75 (x95 X W B) k0_pay15 k0_pay16
abbrev x146 : FVec F S512x128 .f32 := k0_pay21 (x74 X W B) i75 (x95 X W B) k0_pay15 k0_pay16
abbrev x147 : FVec F S512 .f32 := k0_pay22 (x74 X W B) i75 (x95 X W B) k0_pay15 k0_pay16
/-- The gates of the group's experts, a lane each. -/
abbrev x178 : FVec F S512x128 .f32 := k0_pay23 i75 (x97 X W B) (x131 X W B) (x135 X W B) (x142 X W B) (x146 X W B) (x147 X W B)
abbrev x179 : FVec F S512x1024 .bf16 := k0_pay24 (x55 X)
abbrev x190 : FVec F S512x1 .f32 := k0_pay26 v1 i75 (x97 X W B) (x131 X W B) (x135 X W B) (x142 X W B) (x146 X W B) (x147 X W B)
/-- After expert 0. -/
abbrev x206 : FVec F S512x1024 .f32 := k0_pay27 (x179 X) (k0_pay25 (F := F)) (x190 v1 X W B) (g0 G) (g0 U) (d0 D)
abbrev x215 : FVec F S512x1 .f32 := k0_pay28 v1 (x178 X W B) i75
abbrev x220 : FVec F S512x512 .f32 := k0_pay29 (x179 X) (g1 G)
/-- After expert 1. -/
abbrev x231 : FVec F S512x1024 .f32 := k0_pay31 (x179 X) (x206 v1 X W B G U D) (x215 v1 X W B) (x220 X G) (k0_pay30 (g1 U)) (d1 D)
abbrev x252 : FVec F S512x512 .bf16 := k0_pay32 v1 (x178 X W B) (x179 X) i75 (g2 G) (g2 U)
/-- After every expert. -/
abbrev x281 : FVec F S512x1024 .f32 := k0_pay33 v1 (x178 X W B) (x179 X) i75 (x231 v1 X W B G U D) (x252 v1 X W B G U) (d2 D) (g3 G) (g3 U) (d3 D)
end Block

/-- A block of eight rows a token, from a token a row. -/
def outB (v : S512x1024.Idx → Elt F .f32) : S4096x128.Idx → Elt F .f32 := fun i =>
  v (ValueIdx.ix2 (⟨(i 0).val / 8, by have := (i 0).isLt; change (i 0).val < 4096 at this; omega⟩ : Fin 512)
    (⟨128 * ((i 0).val % 8) + (i 1).val, by have := (i 1).isLt; change (i 1).val < 128 at this; omega⟩ : Fin 1024))

/-- The block once the row residues below `k` are stored over `X0`. -/
def part8 (X0 : S4096x128.Idx → Elt F .f32) (v : S512x1024.Idx → Elt F .f32) (k : ℕ) : S4096x128.Idx → Elt F .f32 := fun i =>
  if (i 0).val % 8 < k then outB v i else X0 i

theorem part8_zero (X0 : S4096x128.Idx → Elt F .f32) (v) : part8 X0 v 0 = X0 := funext fun i => if_neg (Nat.not_lt_zero _)
theorem part8_all (X0 : S4096x128.Idx → Elt F .f32) (v) : part8 X0 v 8 = outB v := funext fun i => if_pos (Nat.mod_lt _ (by decide))

theorem part8_at (X0 : S4096x128.Idx → Elt F .f32) (v : FVec F S512x1024 .f32) {k o : ℕ} (hk : k < 8) (ho : o = 128 * k) (h) (hp) (hs) (j : S512x128.Idx) :
    part8 X0 v (k + 1) ((⟨lane8 k h, hp⟩ : Rect S4096x128).emb j) = extractStridedSlice S512x128 ![0, o] v hs j := by
  subst ho
  have j0 : (j 0).val < 512 := (j 0).isLt
  have j1 : (j 1).val < 128 := (j 1).isLt
  have e0 : ((⟨lane8 k h, hp⟩ : Rect S4096x128).emb j 0).val = k + 8 * (j 0).val := rfl
  have e1 : ((⟨lane8 k h, hp⟩ : Rect S4096x128).emb j 1).val = (j 1).val := (show _ = 0 + 1 * (j 1).val from rfl).trans (by omega)
  unfold part8
  rw [if_pos (by rw [e0]; omega)]
  unfold outB
  refine congrArg v (funext fun a => ?_)
  refine Fin.cases ?_ (fun a => ?_) a
  · apply Fin.ext
    show ((⟨lane8 k h, hp⟩ : Rect S4096x128).emb j 0).val / 8 = 0 + (j 0).val
    rw [e0]; omega
  · refine Fin.cases ?_ (fun a => a.elim0) a
    apply Fin.ext
    show 128 * (((⟨lane8 k h, hp⟩ : Rect S4096x128).emb j 0).val % 8) + ((⟨lane8 k h, hp⟩ : Rect S4096x128).emb j 1).val = 128 * k + (j 1).val
    rw [e0, e1]; omega

theorem part8_off (X0 : S4096x128.Idx → Elt F .f32) (v : FVec F S512x1024 .f32) {k : ℕ} (hk : k < 8) (h) (hp) (y : S4096x128.Idx)
    (hy : y ∉ (⟨lane8 k h, hp⟩ : Rect S4096x128).set) : part8 X0 v (k + 1) y = part8 X0 v k y := by
  have y0 : (y 0).val < 4096 := (y 0).isLt
  have y1 : (y 1).val < 128 := (y 1).isLt
  have hne : (y 0).val % 8 ≠ k := fun e => hy (by
    refine LoadRect.mem_set _ |>.mpr fun a => ?_
    refine Fin.cases ?_ (fun a => ?_) a
    · exact ⟨(y 0).val / 8, (show (y 0).val / 8 < 512 by omega), (show (y 0).val = k + 8 * ((y 0).val / 8) by omega)⟩
    · refine Fin.cases ?_ (fun a => a.elim0) a
      exact ⟨(y 1).val, (show (y 1).val < 128 by omega), (show (y 1).val = 0 + 1 * (y 1).val by omega)⟩)
  unfold part8
  by_cases hlt : (y 0).val % 8 < k
  · rw [if_pos hlt, if_pos (by omega)]
  · rw [if_neg hlt, if_neg (by omega)]

end Cert.KernelIdeal.Moe

end
-- ==== Proof.MoeIdeal.Parts.lean ====
/-
  The run of one tile's computation: each part's loads and stores from the owned operands, and the whole of the taken
  branch, ending at the block of `outB`.
-/
module

public import proofs.«01_k».proof.Proof.MoeIdeal.Compute

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A load of a slot's rows, its offset in closed form. -/
theorem ldW (c : Dev nD) {s : ℕ} (X : S4096x128.Idx → Elt F .f32) {o : Fin 3 → ℕ} (e : o = ![s, 0, 0]) {h0 h}
    {r : LoadRect S4096x128} {hl : (waitM o h).view.LoadsAt r} {α : Type} {k : (r.shape.Idx → Elt F .f32) → Prog (TpuEff nD τ sig (Elt F) Λ₀ .tc) α} {Q : α → sProp 𝕄} :
    (owns (c : Thread nD τ) (waitM ![s, 0, 0] h0) fullShare X : sProp 𝕄)
      ⊢ iprop((owns (c : Thread nD τ) (waitM ![s, 0, 0] h0) fullShare X -∗ wp frame (wpE (defs₀ (F := F)) Variants.none c none) Set.univ (k (sub r X)) Q)
          -∗ wp frame (wpE (defs₀ (F := F)) Variants.none c none) Set.univ (.op (.load (waitM o h) r hl) k) Q) := by
  subst e
  exact ld c _ _ _

section Parts
variable (c : Dev nD) (t : Fin grid0.N)
  (a4 : Memref sig .tc .vmem S1024x128 .f32) (h4 : a4.IsWhole) (a5 : Memref sig .tc .vmem S1x128 .f32) (h5 : a5.IsWhole)
  (a6 : Memref sig .tc .vmem S1x1x4x1024x512 .bf16) (h6 : a6.IsWhole) (a7 : Memref sig .tc .vmem S1x1x4x1024x512 .bf16) (h7 : a7.IsWhole)
  (a8 : Memref sig .tc .vmem S1x1x4x512x1024 .bf16) (h8 : a8.IsWhole) (a9 : Memref sig .tc .vmem S4096x128 .f32) (h9 : a9.IsWhole)
  (v1 : Elt F .i32) (X : S4096x128.Idx → Elt F .f32) (W : S1024x128.Idx → Elt F .f32) (B : S1x128.Idx → Elt F .f32)
  (G U : S1x1x4x1024x512.Idx → Elt F .bf16) (D : S1x1x4x512x1024.Idx → Elt F .bf16)

/-- Part 1 reads the slot's rows and the router's weights. -/
theorem run1 {h0} {Q : _ → sProp 𝕄} :
    iprop(owns (c : Thread nD τ) (waitM ![t.val % 2, 0, 0] h0) fullShare X ∗ owns (c : Thread nD τ) a4 fullShare W ∗ (iprop(owns (c : Thread nD τ) (waitM ![t.val % 2, 0, 0] h0) fullShare X ∗ owns (c : Thread nD τ) a4 fullShare W) -∗ Q ⟨x55 X, w56 W⟩))
      ⊢ wp frame (wpE (defs₀ (F := F)) Variants.none c none) Set.univ
          (k0_part1 (grid0.coords t) grpM (Memref.isWhole_whole _) tabM (Memref.isWhole_whole _) stgM (Memref.isWhole_whole _) a4 h4 a5 h5 a6 h6 a7 h7 a8 h8 a9 h9 scrM (Memref.isWhole_whole _) cc0_scratch1) Q := by
  rw [k0_part1_eq_skeleton]
  unfold k0_part1_skel
  iintro ⟨HX, HW, HQ⟩
  iapply (ldW c X (off12_eq t)) $$ HX
  iintro HX
  iapply (ldW c X (off12_eq t)) $$ HX
  iintro HX
  iapply (ldW c X (off12_eq t)) $$ HX
  iintro HX
  iapply (ldW c X (off12_eq t)) $$ HX
  iintro HX
  iapply (ldW c X (off12_eq t)) $$ HX
  iintro HX
  iapply (ldW c X (off12_eq t)) $$ HX
  iintro HX
  iapply (ldW c X (off12_eq t)) $$ HX
  iintro HX
  iapply (ldW c X (off12_eq t)) $$ HX
  iintro HX
  iapply (ld c a4 fullShare W) $$ HW
  iintro HW
  iapply (Entails.of_eq (wp_pure _ _ _ _ _).symm)
  imodintro
  iapply HQ
  isplitl [HX]; · iexact HX
  iexact HW

/-- Part 2 reads the router's biases. -/
theorem run2 {Q : _ → sProp 𝕄} :
    iprop(owns (c : Thread nD τ) a5 fullShare B ∗ (iprop(owns (c : Thread nD τ) a5 fullShare B) -∗ Q ⟨x74 X W B, i75, x95 X W B, x97 X W B, k0_pay15, k0_pay16⟩))
      ⊢ wp frame (wpE (defs₀ (F := F)) Variants.none c none) Set.univ
          (k0_part2 (grid0.coords t) grpM (Memref.isWhole_whole _) tabM (Memref.isWhole_whole _) stgM (Memref.isWhole_whole _) a4 h4 a5 h5 a6 h6 a7 h7 a8 h8 a9 h9 scrM (Memref.isWhole_whole _) cc0_scratch1 (x55 X) (w56 W)) Q := by
  rw [k0_part2_eq_skeleton]
  unfold k0_part2_skel
  iintro ⟨HB, HQ⟩
  iapply (ld c a5 fullShare B) $$ HB
  iintro HB
  iapply (Entails.of_eq (wp_pure _ _ _ _ _).symm)
  imodintro
  iapply HQ
  iexact HB

/-- Part 3 touches no memory. -/
theorem run3 {Q : _ → sProp 𝕄} :
    iprop((Q ⟨x131 X W B, x135 X W B, x142 X W B, x146 X W B, x147 X W B⟩))
      ⊢ wp frame (wpE (defs₀ (F := F)) Variants.none c none) Set.univ
          (k0_part3 (grid0.coords t) grpM (Memref.isWhole_whole _) tabM (Memref.isWhole_whole _) stgM (Memref.isWhole_whole _) a4 h4 a5 h5 a6 h6 a7 h7 a8 h8 a9 h9 scrM (Memref.isWhole_whole _) cc0_scratch1 (x74 X W B) i75 (x95 X W B) k0_pay15 k0_pay16) Q := by
  rw [k0_part3_eq_skeleton]
  unfold k0_part3_skel
  iintro ⟨HQ⟩
  iapply (Entails.of_eq (wp_pure _ _ _ _ _).symm)
  imodintro
  iexact HQ

/-- Part 4 reads the first gate matrix. -/
theorem run4 {Q : _ → sProp 𝕄} :
    iprop(owns (c : Thread nD τ) a6 fullShare G ∗ (iprop(owns (c : Thread nD τ) a6 fullShare G) -∗ Q ⟨x178 X W B, x179 X, i75, k0_pay25 (F := F), x190 v1 X W B, g0 G⟩))
      ⊢ wp frame (wpE (defs₀ (F := F)) Variants.none c none) Set.univ
          (k0_part4 (grid0.coords t) grpM (Memref.isWhole_whole _) tabM (Memref.isWhole_whole _) stgM (Memref.isWhole_whole _) a4 h4 a5 h5 a6 h6 a7 h7 a8 h8 a9 h9 scrM (Memref.isWhole_whole _) cc0_scratch1 v1 (x55 X) i75 (x97 X W B) (x131 X W B) (x135 X W B) (x142 X W B) (x146 X W B) (x147 X W B)) Q := by
  rw [k0_part4_eq_skeleton]
  unfold k0_part4_skel
  iintro ⟨HG, HQ⟩
  iapply (ld c a6 fullShare G) $$ HG
  iintro HG
  iapply (Entails.of_eq (wp_pure _ _ _ _ _).symm)
  imodintro
  iapply HQ
  iexact HG

/-- Part 5 reads expert 0's other matrices and expert 1's first two. -/
theorem run5 {Q : _ → sProp 𝕄} :
    iprop(owns (c : Thread nD τ) a6 fullShare G ∗ owns (c : Thread nD τ) a7 fullShare U ∗ owns (c : Thread nD τ) a8 fullShare D ∗ (iprop(owns (c : Thread nD τ) a6 fullShare G ∗ owns (c : Thread nD τ) a7 fullShare U ∗ owns (c : Thread nD τ) a8 fullShare D) -∗ Q ⟨x206 v1 X W B G U D, x215 v1 X W B, x220 X G, k0_pay30 (g1 U)⟩))
      ⊢ wp frame (wpE (defs₀ (F := F)) Variants.none c none) Set.univ
          (k0_part5 (grid0.coords t) grpM (Memref.isWhole_whole _) tabM (Memref.isWhole_whole _) stgM (Memref.isWhole_whole _) a4 h4 a5 h5 a6 h6 a7 h7 a8 h8 a9 h9 scrM (Memref.isWhole_whole _) cc0_scratch1 v1 (x178 X W B) (x179 X) i75 (k0_pay25 (F := F)) (x190 v1 X W B) (g0 G)) Q := by
  rw [k0_part5_eq_skeleton]
  unfold k0_part5_skel
  iintro ⟨HG, HU, HD, HQ⟩
  iapply (ld c a7 fullShare U) $$ HU
  iintro HU
  iapply (ld c a8 fullShare D) $$ HD
  iintro HD
  iapply (ld c a6 fullShare G) $$ HG
  iintro HG
  iapply (ld c a7 fullShare U) $$ HU
  iintro HU
  iapply (Entails.of_eq (wp_pure _ _ _ _ _).symm)
  imodintro
  iapply HQ
  isplitl [HG]; · iexact HG
  isplitl [HU]; · iexact HU
  iexact HD

/-- Part 6 reads expert 1's down matrix and expert 2's matrices. -/
theorem run6 {Q : _ → sProp 𝕄} :
    iprop(owns (c : Thread nD τ) a6 fullShare G ∗ owns (c : Thread nD τ) a7 fullShare U ∗ owns (c : Thread nD τ) a8 fullShare D ∗ (iprop(owns (c : Thread nD τ) a6 fullShare G ∗ owns (c : Thread nD τ) a7 fullShare U ∗ owns (c : Thread nD τ) a8 fullShare D) -∗ Q ⟨x231 v1 X W B G U D, x252 v1 X W B G U, d2 D⟩))
      ⊢ wp frame (wpE (defs₀ (F := F)) Variants.none c none) Set.univ
          (k0_part6 (grid0.coords t) grpM (Memref.isWhole_whole _) tabM (Memref.isWhole_whole _) stgM (Memref.isWhole_whole _) a4 h4 a5 h5 a6 h6 a7 h7 a8 h8 a9 h9 scrM (Memref.isWhole_whole _) cc0_scratch1 v1 (x178 X W B) (x179 X) i75 (x206 v1 X W B G U D) (x215 v1 X W B) (x220 X G) (k0_pay30 (g1 U))) Q := by
  rw [k0_part6_eq_skeleton]
  unfold k0_part6_skel
  iintro ⟨HG, HU, HD, HQ⟩
  iapply (ld c a8 fullShare D) $$ HD
  iintro HD
  iapply (ld c a6 fullShare G) $$ HG
  iintro HG
  iapply (ld c a7 fullShare U) $$ HU
  iintro HU
  iapply (ld c a8 fullShare D) $$ HD
  iintro HD
  iapply (Entails.of_eq (wp_pure _ _ _ _ _).symm)
  imodintro
  iapply HQ
  isplitl [HG]; · iexact HG
  isplitl [HU]; · iexact HU
  iexact HD

/-- Part 7 reads expert 3's matrices and stores the first row residue. -/
theorem run7 (X0 : S4096x128.Idx → Elt F .f32) {Q : _ → sProp 𝕄} :
    iprop(owns (c : Thread nD τ) a6 fullShare G ∗ owns (c : Thread nD τ) a7 fullShare U ∗ owns (c : Thread nD τ) a8 fullShare D ∗ owns (c : Thread nD τ) a9 fullShare X0 ∗ (iprop(owns (c : Thread nD τ) a6 fullShare G ∗ owns (c : Thread nD τ) a7 fullShare U ∗ owns (c : Thread nD τ) a8 fullShare D ∗ owns (c : Thread nD τ) a9 fullShare (part8 X0 (x281 v1 X W B G U D) 1)) -∗ Q ⟨x281 v1 X W B G U D, k0_pay35 v1 (x178 X W B) (x179 X) i75 (x231 v1 X W B G U D) (x252 v1 X W B G U) (d2 D) (g3 G) (g3 U) (d3 D)⟩))
      ⊢ wp frame (wpE (defs₀ (F := F)) Variants.none c none) Set.univ
          (k0_part7 (grid0.coords t) grpM (Memref.isWhole_whole _) tabM (Memref.isWhole_whole _) stgM (Memref.isWhole_whole _) a4 h4 a5 h5 a6 h6 a7 h7 a8 h8 a9 h9 scrM (Memref.isWhole_whole _) cc0_scratch1 v1 (x178 X W B) (x179 X) i75 (x231 v1 X W B G U D) (x252 v1 X W B G U) (d2 D)) Q := by
  rw [k0_part7_eq_skeleton]
  unfold k0_part7_skel
  iintro ⟨HG, HU, HD, HO, HQ⟩
  iapply (ld c a6 fullShare G) $$ HG
  iintro HG
  iapply (ld c a7 fullShare U) $$ HU
  iintro HU
  iapply (ld c a8 fullShare D) $$ HD
  iintro HD
  iapply (ld c a9 fullShare X0) $$ HO
  iintro HO
  ihave HO := (Entails.of_eq (congrArg (fun Z => (owns (c : Thread nD τ) a9 fullShare Z : sProp 𝕄)) (part8_zero X0 (x281 v1 X W B G U D)).symm)) $$ HO
  iapply (st c a9 (part8 X0 (x281 v1 X W B G U D) 0) (part8 X0 (x281 v1 X W B G U D) 1) (fun j => part8_at X0 (x281 v1 X W B G U D) (k := 0) (o := 0) (by decide) rfl _ spos_8_1 slices_S512x1024_o0_0_S512x128 j) (fun y hy => part8_off X0 (x281 v1 X W B G U D) (k := 0) (by decide) _ spos_8_1 y hy)) $$ HO
  iintro HO
  iapply (Entails.of_eq (wp_pure _ _ _ _ _).symm)
  imodintro
  iapply HQ
  isplitl [HG]; · iexact HG
  isplitl [HU]; · iexact HU
  isplitl [HD]; · iexact HD
  iexact HO

end Parts

end Cert.KernelIdeal.Moe

end
-- ==== Proof.MoeIdeal.Body.lean ====
/-
  The kernel's body at one grid point: from the slot the point waits on and the slot it fills next, through the wait and
  the tile's computation, to the block stored.
-/
module

public import proofs.«01_k».proof.Proof.MoeIdeal.Parts

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

abbrev GrpBuf (c : Dev nD) : Type := Buf (Elt F) (grpM.view.loc (c : Thread nD τ))

/-- Word `n` of the group table. -/
def grpAt (grp : S36.Idx → BitVec 32) (n : ℕ) : BitVec 32 := grp (ValueIdx.ix1 (⟨n % 36, Nat.mod_lt _ (by decide)⟩ : Fin 36))

abbrev grpPt (c : Dev nD) (qt : PosShare TreeShare) (grp : S36.Idx → BitVec 32) : sProp 𝕄 :=
  grpM.view.loc (c : Thread nD τ) ↦{qt} (show GrpBuf (F := F) c from grp)

/-- The body's read of the group table's word `n`. -/
theorem load_grp (c : Dev nD) (grp : S36.Idx → BitVec 32) (qt : PosShare TreeShare) {n : ℕ} {o : Fin 1 → ℕ} (e : o = ![n]) {h} {h1 hp}
    {k : BitVec 32 → Prog (TpuEff nD τ sig (Elt F) Λ₀ .tc) PUnit} {Q : PUnit → sProp 𝕄} :
    grpPt c qt grp
      ⊢ iprop((grpPt c qt grp -∗ wp frame (wpE (defs₀ (F := F)) Variants.none c none) Set.univ (k (grpAt grp n)) Q)
          -∗ wp frame (wpE (defs₀ (F := F)) Variants.none c none) Set.univ
              (smemLoad grpM (Rect.unit (s := S36) o S1.size h) h1 hp >>= k) Q) := by
  subst e
  have hn : n < 36 := by have := h 0; change n + 1 ≤ 36 at this; omega
  have key := wp_smemLoadElt (defs := defs₀ (F := F)) Variants.none (c : Thread nD τ) none Set.univ (Γ := PendingWaitsCtx.empty) (m := grpM) (r := Rect.unit (s := S36) ![n] S1.size h) (hw := View.loads_smem_one hp h1)
    (x := Shape.Idx.first (h1.symm ▸ Nat.one_pos)) (k := k) (Q := Q) (q := qt) (f := (show GrpBuf (F := F) c from grp)) (S := Finset.univ) (Finset.subset_univ _)
  have hv : ((grpM.access (Rect.unit (s := S36) ![n] S1.size h)).read (Elt F) (show GrpBuf (F := F) c from grp) (Shape.Idx.first (h1.symm ▸ Nat.one_pos)) : BitVec 32) = grpAt grp n := by
    show grp ((Rect.unit (s := S36) ![n] S1.size h).emb (Shape.Idx.first (h1.symm ▸ Nat.one_pos))) = grp _
    congr 1
    funext a
    refine Fin.cases ?_ (fun a => a.elim0) a
    apply Fin.ext
    refine (ValueKit.rect_emb_unit_val _ _ _ _ 0).trans ?_
    have hz : (Shape.Idx.first (s := (Rect.unit (s := S36) ![n] S1.size h).shape) (h1.symm ▸ Nat.one_pos) 0).val < 1 := Fin.isLt _
    show n + (Shape.Idx.first (s := (Rect.unit (s := S36) ![n] S1.size h).shape) (h1.symm ▸ Nat.one_pos) 0).val = n % 36
    rw [Nat.mod_eq_of_lt hn]; omega
  rw [hv] at key
  exact key

theorem cond4_iff (v : BitVec 32) : k0_cond4 v = 1#1 ↔ ¬ k0_cond3 v = 1#1 := by
  have e3 : k0_cond3 v = BitVec.ofBool (decide (v.toInt < 4)) := by
    show Scalar.cmpi .ne (Scalar.extui (BitVec.ofBool (decide (v.toInt < 4))) : BitVec 32) 0#32 = _
    cases decide (v.toInt < 4) <;> rfl
  have e4 : k0_cond4 v = BitVec.ofBool (decide (4 ≤ v.toInt)) := by
    show Scalar.cmpi .ne (Scalar.extui (BitVec.ofBool (decide (4 ≤ v.toInt))) : BitVec 32) 0#32 = _
    cases decide (4 ≤ v.toInt) <;> rfl
  rw [e3, e4]
  by_cases h : v.toInt < 4
  · rw [decide_eq_true h, decide_eq_false (by omega)]; decide
  · rw [decide_eq_false h, decide_eq_true (by omega)]; decide

/-- The slot the point waits on, before it: at rest at the first point, in flight after. -/
def Cur (c : Dev nD) (t : ℕ) (q : PosShare TreeShare) (f : StgBuf (F := F) c) (tab : S18432.Idx → BitVec 32) : sProp 𝕄 :=
  if t = 0 then Idle c (t % 2) q f else Flying c (t % 2) q f (tok tab t)
/-- The other slot, after it: in flight with the next tile, at rest after the last point. -/
def Nxt (c : Dev nD) (t : ℕ) (q : PosShare TreeShare) (f : StgBuf (F := F) c) (tab : S18432.Idx → BitVec 32) : sProp 𝕄 :=
  if t + 1 < 36 then Flying c ((t + 1) % 2) q f (tok tab (t + 1)) else Idle c ((t + 1) % 2) q f

/-- The block point `t` stores. -/
def blk (v1 : Elt F .i32) (X : S4096x128.Idx → Elt F .f32) (W : S1024x128.Idx → Elt F .f32) (B : S1x128.Idx → Elt F .f32)
    (G U : S1x1x4x1024x512.Idx → Elt F .bf16) (D : S1x1x4x512x1024.Idx → Elt F .bf16) : S4096x128.Idx → Elt F .f32 :=
  if k0_cond3 v1 = 1#1 then outB (x281 v1 X W B G U D) else k0_pay7 (F := F)

section Body
variable (c : Dev nD) (t : Fin grid0.N)
  (a4 : Memref sig .tc .vmem S1024x128 .f32) (h4 : a4.IsWhole) (a5 : Memref sig .tc .vmem S1x128 .f32) (h5 : a5.IsWhole)
  (a6 : Memref sig .tc .vmem S1x1x4x1024x512 .bf16) (h6 : a6.IsWhole) (a7 : Memref sig .tc .vmem S1x1x4x1024x512 .bf16) (h7 : a7.IsWhole)
  (a8 : Memref sig .tc .vmem S1x1x4x512x1024 .bf16) (h8 : a8.IsWhole) (a9 : Memref sig .tc .vmem S4096x128 .f32) (h9 : a9.IsWhole)
  (W : S1024x128.Idx → Elt F .f32) (B : S1x128.Idx → Elt F .f32)
  (G U : S1x1x4x1024x512.Idx → Elt F .bf16) (D : S1x1x4x512x1024.Idx → Elt F .bf16)

/-- The operands the pipeline stages. -/
def Staged (c : Dev nD) (Y : S4096x128.Idx → Elt F .f32) : sProp 𝕄 :=
  iprop(owns (c : Thread nD τ) a4 fullShare W ∗ owns (c : Thread nD τ) a5 fullShare B ∗ owns (c : Thread nD τ) a6 fullShare G
    ∗ owns (c : Thread nD τ) a7 fullShare U ∗ owns (c : Thread nD τ) a8 fullShare D ∗ owns (c : Thread nD τ) a9 fullShare Y)

theorem wp_yes {P : Prop} [Decidable P] (h : P) {p : P → Prog (TpuEff nD τ sig (Elt F) Λ₀ .tc) PUnit} {r : ¬ P → Prog (TpuEff nD τ sig (Elt F) Λ₀ .tc) PUnit} {Q : PUnit → sProp 𝕄} :
    wp frame (wpE (defs₀ (F := F)) Variants.none c none) Set.univ (p h) Q ⊢ wp frame (wpE (defs₀ (F := F)) Variants.none c none) Set.univ (dite P p r) Q := by
  rw [dif_pos h]

theorem wp_no {P : Prop} [Decidable P] (h : ¬ P) {p : P → Prog (TpuEff nD τ sig (Elt F) Λ₀ .tc) PUnit} {r : ¬ P → Prog (TpuEff nD τ sig (Elt F) Λ₀ .tc) PUnit} {Q : PUnit → sProp 𝕄} :
    wp frame (wpE (defs₀ (F := F)) Variants.none c none) Set.univ (r h) Q ⊢ wp frame (wpE (defs₀ (F := F)) Variants.none c none) Set.univ (dite P p r) Q := by
  rw [dif_neg h]

/-- The first loop, run at the first point alone: the slot waited on is in flight after it. -/
theorem stage1 (q qt : PosShare TreeShare) (f : StgBuf (F := F) c) (tab : S18432.Idx → BitVec 32)
    (htab : ∀ n, (tabAt tab n).toNat < 16384) {r : Prog (TpuEff nD τ sig (Elt F) Λ₀ .tc) PUnit} {Q : PUnit → sProp 𝕄} :
    iprop(tabPt c qt tab ∗ Cur c t.val q f tab)
      ⊢ iprop((iprop(tabPt c qt tab ∗ Flying c (t.val % 2) q f (tok tab t.val)) -∗ wp frame (wpE (defs₀ (F := F)) Variants.none c none) Set.univ r Q)
        -∗ wp frame (wpE (defs₀ (F := F)) Variants.none c none) Set.univ (if h1 : k0_cond1 (grid0.coords t) = 1#1 then (Scf.Loop.for k0_t1_loop (k0_t1_ok (grid0.coords t) h1) ⟨⟩ (k0_t1_body (grid0.coords t) grpM (Memref.isWhole_whole _) tabM (Memref.isWhole_whole _) stgM (Memref.isWhole_whole _) a4 h4 a5 h5 a6 h6 a7 h7 a8 h8 a9 h9 scrM (Memref.isWhole_whole _) cc0_scratch1 h1) >>= fun _ => r) else r) Q) := by
  iintro ⟨Ht, HC⟩ Hk
  by_cases h : k0_cond1 (grid0.coords t) = 1#1
  · iapply (wp_yes c h)
    have ht : t.val = 0 := (cond1_iff t).mp h
    iapply (Entails.of_eq (wp_bind _ _ _ _ _ _).symm)
    iapply (loop1 c t h q qt tab htab f)
    isplitl [Ht]; · iexact Ht
    isplitl [HC]
    · iapply (Entails.of_eq (show Cur c t.val q f tab = Idle c (t.val % 2) q f from if_pos ht)) $$ HC
    iintro H
    iapply Hk $$ H
  · iapply (wp_no c h)
    have ht : ¬ t.val = 0 := fun e => h ((cond1_iff t).mpr e)
    iapply Hk
    isplitl [Ht]; · iexact Ht
    iapply (Entails.of_eq (show Cur c t.val q f tab = Flying c (t.val % 2) q f (tok tab t.val) from if_neg ht)) $$ HC

/-- The second loop, run at every point but the last. -/
theorem stage2 (q qt : PosShare TreeShare) (f : StgBuf (F := F) c) (tab : S18432.Idx → BitVec 32)
    (htab : ∀ n, (tabAt tab n).toNat < 16384) {r : Prog (TpuEff nD τ sig (Elt F) Λ₀ .tc) PUnit} {Q : PUnit → sProp 𝕄} :
    iprop(tabPt c qt tab ∗ Idle c ((t.val + 1) % 2) q f)
      ⊢ iprop((iprop(tabPt c qt tab ∗ Nxt c t.val q f tab) -∗ wp frame (wpE (defs₀ (F := F)) Variants.none c none) Set.univ r Q)
        -∗ wp frame (wpE (defs₀ (F := F)) Variants.none c none) Set.univ (if h1 : k0_cond2 (grid0.coords t) = 1#1 then (Scf.Loop.for k0_t2_loop (k0_t2_ok (grid0.coords t) h1) ⟨⟩ (k0_t2_body (grid0.coords t) grpM (Memref.isWhole_whole _) tabM (Memref.isWhole_whole _) stgM (Memref.isWhole_whole _) a4 h4 a5 h5 a6 h6 a7 h7 a8 h8 a9 h9 scrM (Memref.isWhole_whole _) cc0_scratch1 h1) >>= fun _ => r) else r) Q) := by
  iintro ⟨Ht, HC⟩ Hk
  by_cases h : k0_cond2 (grid0.coords t) = 1#1
  · iapply (wp_yes c h)
    have ht : t.val + 1 < 36 := (cond2_iff t).mp h
    iapply (Entails.of_eq (wp_bind _ _ _ _ _ _).symm)
    iapply (loop2 c t h q qt tab htab f)
    isplitl [Ht]; · iexact Ht
    isplitl [HC]; · iexact HC
    iintro ⟨Ht, H⟩
    iapply Hk
    isplitl [Ht]; · iexact Ht
    iapply (Entails.of_eq (show Nxt c t.val q f tab = Flying c ((t.val + 1) % 2) q f (tok tab (t.val + 1)) from if_pos ht).symm) $$ H
  · iapply (wp_no c h)
    have ht : ¬ t.val + 1 < 36 := fun e => h ((cond2_iff t).mpr e)
    iapply Hk
    isplitl [Ht]; · iexact Ht
    iapply (Entails.of_eq (show Nxt c t.val q f tab = Idle c ((t.val + 1) % 2) q f from if_neg ht).symm) $$ HC

/-- Every index lies in the rectangle of the block's own sizes. -/
theorem whole_mem (y : S4096x128.Idx) (a : Fin 2) : ∃ j < S4096x128.size a, (y a).val = (![0, 0] : Fin 2 → ℕ) a + 1 * j := by
  refine Fin.cases ⟨(y 0).val, (y 0).isLt, (show (y 0).val = 0 + 1 * (y 0).val by omega)⟩ (fun a => ?_) a
  exact Fin.cases ⟨(y 1).val, (y 1).isLt, (show (y 1).val = 0 + 1 * (y 1).val by omega)⟩ (fun a => a.elim0) a

/-- The body at one grid point. -/
theorem body (q q' qg qt : PosShare TreeShare) (f : StgBuf (F := F) c) (grp : S36.Idx → BitVec 32) (tab : S18432.Idx → BitVec 32)
    (htab : ∀ n, (tabAt tab n).toNat < 16384) (Wt : Waits sig Unit) (X0 : S4096x128.Idx → Elt F .f32) {Q : PUnit → sProp 𝕄} :
    iprop(grpPt c qg grp ∗ tabPt c qt tab ∗ Cur c t.val q f tab ∗ Idle c ((t.val + 1) % 2) q' f ∗ owes (c : Thread nD τ) 0 Wt
        ∗ Staged a4 a5 a6 a7 a8 a9 W B G U D c X0
        ∗ (iprop(grpPt c qg grp ∗ tabPt c qt tab ∗ Idle c (t.val % 2) q f ∗ Nxt c t.val q' f tab ∗ (∃ W', owes (c : Thread nD τ) 0 W')
            ∗ Staged a4 a5 a6 a7 a8 a9 W B G U D c (blk (grpAt grp t.val) (rows f (tok tab t.val)) W B G U D)) -∗ Q ⟨⟩))
      ⊢ wp frame (wpE (defs₀ (F := F)) Variants.none c none) Set.univ
          (cc0_moe_ffn (grid0.coords t) grpM (Memref.isWhole_whole _) tabM (Memref.isWhole_whole _) stgM (Memref.isWhole_whole _) a4 h4 a5 h5 a6 h6 a7 h7 a8 h8 a9 h9 scrM (Memref.isWhole_whole _) cc0_scratch1) Q := by
  have hs : t.val % 2 < 2 := Nat.mod_lt _ (by decide)
  rw [cc0_moe_ffn_eq_skeleton]
  unfold cc0_moe_ffn_skel
  iintro ⟨Hg, Ht, HC, HI, HW, HS, HQ⟩
  iapply (load_grp c grp qg (off1_eq t)) $$ Hg
  iintro Hg
  generalize hv : grpAt grp t.val = v1
  generalize hX : rows f (tok tab t.val) = X
  -- the first loop, at the first point alone
  ihave Hp := (show iprop(tabPt c qt tab ∗ Cur c t.val q f tab) ⊢ iprop(tabPt c qt tab ∗ Cur c t.val q f tab) from .rfl) $$ [Ht HC]
  · isplitl [Ht]; · iexact Ht
    iexact HC
  iapply (stage1 c t a4 h4 a5 h5 a6 h6 a7 h7 a8 h8 a9 h9 q qt f tab htab) $$ Hp
  iintro ⟨Ht, HF⟩
  ihave Hp := (show iprop(tabPt c qt tab ∗ Idle c ((t.val + 1) % 2) q' f) ⊢ iprop(tabPt c qt tab ∗ Idle c ((t.val + 1) % 2) q' f) from .rfl) $$ [Ht HI]
  · isplitl [Ht]; · iexact Ht
    iexact HI
  iapply (stage2 c t a4 h4 a5 h5 a6 h6 a7 h7 a8 h8 a9 h9 q' qt f tab htab) $$ Hp
  iintro ⟨Ht, HN⟩
  -- the wait
  ihave Hp := (show iprop(Flying c (t.val % 2) q f (tok tab t.val) ∗ owes (c : Thread nD τ) 0 Wt) ⊢ iprop(Flying c (t.val % 2) q f (tok tab t.val) ∗ owes (c : Thread nD τ) 0 Wt) from .rfl) $$ [HF HW]
  · isplitl [HF]; · iexact HF
    iexact HW
  iapply (drain c hs q f (tok tab t.val) (off10_eq t)) $$ Hp
  iintro ⟨HL, HW⟩
  ihave HL := (Landed_owns c (t.val % 2) q f (tok tab t.val) (slot_inb _ hs)) $$ HL
  rw [hX]
  icases HL with ⟨HR, HX⟩
  unfold Staged
  icases HS with ⟨HWt, HB, HG, HU, HD, HO⟩
  by_cases h3 : k0_cond3 v1 = 1#1
  · have hb : blk v1 X W B G U D = outB (x281 v1 X W B G U D) := if_pos h3
    have h4' : ¬ k0_cond4 v1 = 1#1 := fun e => (cond4_iff v1).mp e h3
    iapply (wp_yes c h3)
    iapply (Entails.of_eq (wp_bind _ _ _ _ _ _).symm)
    iapply (run1 c t a4 h4 a5 h5 a6 h6 a7 h7 a8 h8 a9 h9 X W)
    isplitl [HX]; · iexact HX
    isplitl [HWt]; · iexact HWt
    iintro ⟨HX, HWt⟩
    iapply (Entails.of_eq (wp_bind _ _ _ _ _ _).symm)
    iapply (run2 c t a4 h4 a5 h5 a6 h6 a7 h7 a8 h8 a9 h9 X W B)
    isplitl [HB]; · iexact HB
    iintro HB
    iapply (Entails.of_eq (wp_bind _ _ _ _ _ _).symm)
    iapply (run3 c t a4 h4 a5 h5 a6 h6 a7 h7 a8 h8 a9 h9 X W B)
    iapply (Entails.of_eq (wp_bind _ _ _ _ _ _).symm)
    iapply (run4 c t a4 h4 a5 h5 a6 h6 a7 h7 a8 h8 a9 h9 v1 X W B G)
    isplitl [HG]; · iexact HG
    iintro HG
    iapply (Entails.of_eq (wp_bind _ _ _ _ _ _).symm)
    iapply (run5 c t a4 h4 a5 h5 a6 h6 a7 h7 a8 h8 a9 h9 v1 X W B G U D)
    isplitl [HG]; · iexact HG
    isplitl [HU]; · iexact HU
    isplitl [HD]; · iexact HD
    iintro ⟨HG, HU, HD⟩
    iapply (Entails.of_eq (wp_bind _ _ _ _ _ _).symm)
    iapply (run6 c t a4 h4 a5 h5 a6 h6 a7 h7 a8 h8 a9 h9 v1 X W B G U D)
    isplitl [HG]; · iexact HG
    isplitl [HU]; · iexact HU
    isplitl [HD]; · iexact HD
    iintro ⟨HG, HU, HD⟩
    iapply (Entails.of_eq (wp_bind _ _ _ _ _ _).symm)
    iapply (run7 c t a4 h4 a5 h5 a6 h6 a7 h7 a8 h8 a9 h9 v1 X W B G U D X0)
    isplitl [HG]; · iexact HG
    isplitl [HU]; · iexact HU
    isplitl [HD]; · iexact HD
    isplitl [HO]; · iexact HO
    iintro ⟨HG, HU, HD, HO⟩
    iapply (ld c a9 fullShare (part8 X0 (x281 v1 X W B G U D) 1)) $$ HO
    iintro HO
    iapply (st c a9 (part8 X0 (x281 v1 X W B G U D) 1) (part8 X0 (x281 v1 X W B G U D) 2) (fun j => part8_at X0 (x281 v1 X W B G U D) (k := 1) (o := 128) (by decide) rfl _ spos_8_1 slices_S512x1024_o0_128_S512x128 j) (fun y hy => part8_off X0 (x281 v1 X W B G U D) (k := 1) (by decide) _ spos_8_1 y hy)) $$ HO
    iintro HO
    iapply (ld c a9 fullShare (part8 X0 (x281 v1 X W B G U D) 2)) $$ HO
    iintro HO
    iapply (st c a9 (part8 X0 (x281 v1 X W B G U D) 2) (part8 X0 (x281 v1 X W B G U D) 3) (fun j => part8_at X0 (x281 v1 X W B G U D) (k := 2) (o := 256) (by decide) rfl _ spos_8_1 slices_S512x1024_o0_256_S512x128 j) (fun y hy => part8_off X0 (x281 v1 X W B G U D) (k := 2) (by decide) _ spos_8_1 y hy)) $$ HO
    iintro HO
    iapply (ld c a9 fullShare (part8 X0 (x281 v1 X W B G U D) 3)) $$ HO
    iintro HO
    iapply (st c a9 (part8 X0 (x281 v1 X W B G U D) 3) (part8 X0 (x281 v1 X W B G U D) 4) (fun j => part8_at X0 (x281 v1 X W B G U D) (k := 3) (o := 384) (by decide) rfl _ spos_8_1 slices_S512x1024_o0_384_S512x128 j) (fun y hy => part8_off X0 (x281 v1 X W B G U D) (k := 3) (by decide) _ spos_8_1 y hy)) $$ HO
    iintro HO
    iapply (ld c a9 fullShare (part8 X0 (x281 v1 X W B G U D) 4)) $$ HO
    iintro HO
    iapply (st c a9 (part8 X0 (x281 v1 X W B G U D) 4) (part8 X0 (x281 v1 X W B G U D) 5) (fun j => part8_at X0 (x281 v1 X W B G U D) (k := 4) (o := 512) (by decide) rfl _ spos_8_1 slices_S512x1024_o0_512_S512x128 j) (fun y hy => part8_off X0 (x281 v1 X W B G U D) (k := 4) (by decide) _ spos_8_1 y hy)) $$ HO
    iintro HO
    iapply (ld c a9 fullShare (part8 X0 (x281 v1 X W B G U D) 5)) $$ HO
    iintro HO
    iapply (st c a9 (part8 X0 (x281 v1 X W B G U D) 5) (part8 X0 (x281 v1 X W B G U D) 6) (fun j => part8_at X0 (x281 v1 X W B G U D) (k := 5) (o := 640) (by decide) rfl _ spos_8_1 slices_S512x1024_o0_640_S512x128 j) (fun y hy => part8_off X0 (x281 v1 X W B G U D) (k := 5) (by decide) _ spos_8_1 y hy)) $$ HO
    iintro HO
    iapply (ld c a9 fullShare (part8 X0 (x281 v1 X W B G U D) 6)) $$ HO
    iintro HO
    iapply (st c a9 (part8 X0 (x281 v1 X W B G U D) 6) (part8 X0 (x281 v1 X W B G U D) 7) (fun j => part8_at X0 (x281 v1 X W B G U D) (k := 6) (o := 768) (by decide) rfl _ spos_8_1 slices_S512x1024_o0_768_S512x128 j) (fun y hy => part8_off X0 (x281 v1 X W B G U D) (k := 6) (by decide) _ spos_8_1 y hy)) $$ HO
    iintro HO
    iapply (ld c a9 fullShare (part8 X0 (x281 v1 X W B G U D) 7)) $$ HO
    iintro HO
    iapply (st c a9 (part8 X0 (x281 v1 X W B G U D) 7) (part8 X0 (x281 v1 X W B G U D) 8) (fun j => part8_at X0 (x281 v1 X W B G U D) (k := 7) (o := 896) (by decide) rfl _ spos_8_1 slices_S512x1024_o0_896_S512x128 j) (fun y hy => part8_off X0 (x281 v1 X W B G U D) (k := 7) (by decide) _ spos_8_1 y hy)) $$ HO
    iintro HO
    iapply (wp_no c h4')
    iapply (Entails.of_eq (wp_pure _ _ _ _ _).symm)
    imodintro
    iapply HQ
    isplitl [Hg]; · iexact Hg
    isplitl [Ht]; · iexact Ht
    isplitl [HR HX]
    · iapply (owns_Idle c (t.val % 2) q f X (slot_inb _ hs))
      isplitl [HR]; · iexact HR
      iexact HX
    isplitl [HN]; · iexact HN
    isplitl [HW]; · iexact HW
    isplitl [HWt]; · iexact HWt
    isplitl [HB]; · iexact HB
    isplitl [HG]; · iexact HG
    isplitl [HU]; · iexact HU
    isplitl [HD]; · iexact HD
    rw [hb, ← part8_all X0 (x281 v1 X W B G U D)]
    iexact HO
  · have hb : blk v1 X W B G U D = k0_pay7 (F := F) := if_neg h3
    iapply (wp_no c h3)
    iapply (wp_yes c ((cond4_iff v1).mpr h3))
    iapply (ld c a9 fullShare X0) $$ HO
    iintro HO
    iapply (st c a9 X0 (k0_pay7 (F := F)) (fun j => rfl) (fun y hy => absurd (LoadRect.mem_set _ |>.mpr fun a => whole_mem y a) hy)) $$ HO
    iintro HO
    iapply (Entails.of_eq (wp_pure _ _ _ _ _).symm)
    imodintro
    iapply HQ
    isplitl [Hg]; · iexact Hg
    isplitl [Ht]; · iexact Ht
    isplitl [HR HX]
    · iapply (owns_Idle c (t.val % 2) q f X (slot_inb _ hs))
      isplitl [HR]; · iexact HR
      iexact HX
    isplitl [HN]; · iexact HN
    isplitl [HW]; · iexact HW
    isplitl [HWt]; · iexact HWt
    isplitl [HB]; · iexact HB
    isplitl [HG]; · iexact HG
    isplitl [HU]; · iexact HU
    isplitl [HD]; · iexact HD
    rw [hb]
    iexact HO

end Body

end Cert.KernelIdeal.Moe

end
-- ==== Proof.MoeIdeal.Sched.lean ====
/-
  The invariant between grid points, the proof data of the pipeline, and the body's obligation at every point.
-/
module

public import proofs.«01_k».proof.Proof.MoeIdeal.Body
public import proofs.«01_k».proof.Proof.Gen.KernelIdeal.Launch
public import Idealize.ShloMosaic.Lib.Pipeline.Frame
public import Idealize.ShloMosaic.Lib.Pipeline.FrameBody

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Between two points -/

/-- Slot `s` before point `n`: in flight with tile `n` if the point waits on it, else at rest. -/
def pend (c : Dev nD) (s n : ℕ) (q : PosShare TreeShare) (f : StgBuf (F := F) c) (tab : S18432.Idx → BitVec 32) : sProp 𝕄 :=
  if 1 ≤ n ∧ n ≤ 35 ∧ n % 2 = s then Flying c s q f (tok tab n) else Idle c s q f

theorem pend_cur (c : Dev nD) (n : ℕ) (h : n < 36) (q : PosShare TreeShare) (f : StgBuf (F := F) c) (tab : S18432.Idx → BitVec 32) :
    pend c (n % 2) n q f tab = Cur c n q f tab := by
  unfold pend Cur
  by_cases h0 : n = 0
  · rw [if_neg (by omega), if_pos h0]
  · rw [if_pos ⟨by omega, by omega, rfl⟩, if_neg h0]
theorem pend_other (c : Dev nD) (n : ℕ) (q : PosShare TreeShare) (f : StgBuf (F := F) c) (tab : S18432.Idx → BitVec 32) :
    pend c ((n + 1) % 2) n q f tab = Idle c ((n + 1) % 2) q f := by
  unfold pend; rw [if_neg (by omega)]
theorem pend_done (c : Dev nD) (n : ℕ) (q : PosShare TreeShare) (f : StgBuf (F := F) c) (tab : S18432.Idx → BitVec 32) :
    pend c (n % 2) (n + 1) q f tab = Idle c (n % 2) q f := by
  unfold pend; rw [if_neg (by omega)]
theorem pend_next (c : Dev nD) (n : ℕ) (h : n < 36) (q : PosShare TreeShare) (f : StgBuf (F := F) c) (tab : S18432.Idx → BitVec 32) :
    pend c ((n + 1) % 2) (n + 1) q f tab = Nxt c n q f tab := by
  unfold pend Nxt
  by_cases h0 : n + 1 < 36
  · rw [if_pos ⟨by omega, by omega, rfl⟩, if_pos h0]
  · rw [if_neg (by omega), if_neg h0]

/-- The share of the tokens slot `s` reads them with. -/
def shr (s : ℕ) : PosShare TreeShare := if s = 0 then fullShare.left else fullShare.right

/-- The invariant before point `n`. -/
def held (c : Dev nD) (f : StgBuf (F := F) c) (grp : S36.Idx → BitVec 32) (tab : S18432.Idx → BitVec 32) (n : ℕ) : sProp 𝕄 :=
  iprop(pend c 0 n (shr 0) f tab ∗ pend c 1 n (shr 1) f tab ∗ (∃ r, prngReg c r)
    ∗ grpPt c fullShare.right grp ∗ tabPt c fullShare.right tab)

/-- The two slots in the order of the point: the one it waits on, the other. -/
theorem two_slots {M : Type} [URA M] (P : ℕ → sProp M) (n : ℕ) : iprop(P 0 ∗ P 1) ⊣⊢ iprop(P (n % 2) ∗ P ((n + 1) % 2)) := by
  rcases (show n % 2 = 0 ∧ (n + 1) % 2 = 1 ∨ n % 2 = 1 ∧ (n + 1) % 2 = 0 by omega) with ⟨h, h'⟩ | ⟨h, h'⟩
  · rw [h, h']
  · rw [h, h']
    constructor
    · iintro ⟨HA, HB⟩; isplitl [HB]; · iexact HB
      iexact HA
    · iintro ⟨HA, HB⟩; isplitl [HB]; · iexact HB
      iexact HA

/-! ## The proof data -/

variable (a : (pcfg0 (F := F)).Adm) (V : (c : Dev nD) → (b : Ref sig .tc) → Buf (Elt F) ((c : Thread nD τ).loc b))

abbrev ms0_0 (t : Fin (cfg0 a).N) : Memref sig .tc .vmem S1024x128 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1x128 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1x1x4x1024x512 .bf16 := spec0_2.stage ((cfg0 a).slots t 2)
abbrev hs0_2 (t : Fin (cfg0 a).N) : (ms0_2 a t).IsWhole := hstage0_2 (((cfg0 a).slots t 2).cast nbuf0_2)
abbrev ms0_3 (t : Fin (cfg0 a).N) : Memref sig .tc .vmem S1x1x4x1024x512 .bf16 := spec0_3.stage ((cfg0 a).slots t 3)
abbrev hs0_3 (t : Fin (cfg0 a).N) : (ms0_3 a t).IsWhole := hstage0_3 (((cfg0 a).slots t 3).cast nbuf0_3)
abbrev ms0_4 (t : Fin (cfg0 a).N) : Memref sig .tc .vmem S1x1x4x512x1024 .bf16 := spec0_4.stage ((cfg0 a).slots t 4)
abbrev hs0_4 (t : Fin (cfg0 a).N) : (ms0_4 a t).IsWhole := hstage0_4 (((cfg0 a).slots t 4).cast nbuf0_4)
abbrev ms0_5 (t : Fin (cfg0 a).N) : Memref sig .tc .vmem S4096x128 .f32 := spec0_5.stage ((cfg0 a).slots t 5)
abbrev hs0_5 (t : Fin (cfg0 a).N) : (ms0_5 a t).IsWhole := hstage0_5 (((cfg0 a).slots t 5).cast nbuf0_5)

def bodyAt0 (t : Fin (cfg0 a).N) : Prog (TpuEff nD τ sig (Elt F) Λ₀ .tc) PUnit :=
  cc0_moe_ffn (grid0.coords t) grpM (Memref.isWhole_whole _) tabM (Memref.isWhole_whole _) stgM (Memref.isWhole_whole _)
    (ms0_0 a t) (hs0_0 a t) (ms0_1 a t) (hs0_1 a t) (ms0_2 a t) (hs0_2 a t) (ms0_3 a t) (hs0_3 a t) (ms0_4 a t) (hs0_4 a t)
    (ms0_5 a t) (hs0_5 a t) scrM (Memref.isWhole_whole _) cc0_scratch1

theorem defs₀_row (t : Fin (cfg0 a).N) :
    defs₀ (F := F) .tc (cfg0 a).body ((cfg0 a).bodyArgs t ((cfg0 a).slots t)) = bodyAt0 a t := by
  unfold defs₀; rw [Defs.onTc_tc]; rfl

/-- The block of window `w` at point `t`: the part of the array its transfers move there. -/
def W0 (c : Dev nD) (t : Fin (cfg0 a).N) : S1024x128.Idx → Elt F .f32 := (((cfg0 a).win 0).blk t).view.read (Elt F) (V c main_v5)
def B0 (c : Dev nD) (t : Fin (cfg0 a).N) : S1x128.Idx → Elt F .f32 := (((cfg0 a).win 1).blk t).view.read (Elt F) (V c main_v13)
def G0 (c : Dev nD) (t : Fin (cfg0 a).N) : S1x1x4x1024x512.Idx → Elt F .bf16 := (((cfg0 a).win 2).blk t).view.read (Elt F) (V c main_v17)
def U0 (c : Dev nD) (t : Fin (cfg0 a).N) : S1x1x4x1024x512.Idx → Elt F .bf16 := (((cfg0 a).win 3).blk t).view.read (Elt F) (V c main_v18)
def D0 (c : Dev nD) (t : Fin (cfg0 a).N) : S1x1x4x512x1024.Idx → Elt F .bf16 := (((cfg0 a).win 4).blk t).view.read (Elt F) (V c main_v19)

/-- The two tables and the tokens, as the region finds them. -/
abbrev grpV (c : Dev nD) : S36.Idx → BitVec 32 := V c main_arg1
abbrev tabV (c : Dev nD) : S18432.Idx → BitVec 32 := V c main_arg2
abbrev stgV (c : Dev nD) : StgBuf (F := F) c := V c main_v12

/-- What point `t` stores. -/
def O0 (c : Dev nD) (t : Fin (cfg0 a).N) : S4096x128.Idx → Elt F .f32 :=
  blk (grpAt (grpV V c) t.val) (rows (stgV V c) (tok (tabV V c) t.val)) (W0 a V c t) (B0 a V c t) (G0 a V c t) (U0 a V c t) (D0 a V c t)

/-- The proof data of the one pipeline on core `c`. -/
def dats (p : Fin 1) (c : Dev nD) : Dat τ (Elt F) Unit ℕ (Pipeline.UD sig nD τ) ℕ (Pipeline.pin (pcfgs (F := F)) (fun _ => a) p) c where
  A w := V c (Pipeline.arrRef spec0 w)
  after w t := match w with
    | ⟨0, _⟩ => W0 a V c t
    | ⟨1, _⟩ => B0 a V c t
    | ⟨2, _⟩ => G0 a V c t
    | ⟨3, _⟩ => U0 a V c t
    | ⟨4, _⟩ => D0 a V c t
    | ⟨5, _⟩ => O0 a V c t
  Φ t := held c (stgV V c) (grpV V c) (tabV V c) t.val
  q _ := fullShare
  owed _ := 0

theorem A_eq (c : Dev nD) (w : Fin (cfg0 a).W) : (dats a V 0 c).A w = V c (Pipeline.arrRef spec0 w) := by
  dsimp only [dats]

/-- No point leaves the result's block alone. -/
theorem idle_all (w : Fin 6) (i : grid0.Coords) : (cfg0 a).idle w i = false := by
  have key : ∀ v : BitVec 32, (!(k0_cond3 v == 1#1) && !(k0_cond4 v == 1#1)) = false := fun v => by
    by_cases h : k0_cond3 v = 1#1
    · simp [h]
    · simp [(cond4_iff v).mpr h]
  match w with
  | ⟨0, _⟩ => rfl
  | ⟨1, _⟩ => rfl
  | ⟨2, _⟩ => rfl
  | ⟨3, _⟩ => rfl
  | ⟨4, _⟩ => rfl
  | ⟨5, _⟩ => exact key _

/-- An operand's staging buffer holds its block at every point. -/
theorem before0_0 (c : Dev nD) (t : Fin (cfg0 a).N) (d) : (dats a V 0 c).before 0 t d = W0 a V c t :=
  (dats a V 0 c).before_in_eq_fetched 0 rfl (fun _ => rfl) (fun _ _ _ => rfl) (fun _ => rfl) t d
theorem before0_1 (c : Dev nD) (t : Fin (cfg0 a).N) (d) : (dats a V 0 c).before 1 t d = B0 a V c t :=
  (dats a V 0 c).before_in_eq_fetched 1 rfl (fun _ => rfl) (fun _ _ _ => rfl) (fun _ => rfl) t d
theorem before0_2 (c : Dev nD) (t : Fin (cfg0 a).N) (d) : (dats a V 0 c).before 2 t d = G0 a V c t :=
  (dats a V 0 c).before_in_eq_fetched 2 rfl (fun _ => rfl) (fun _ _ _ => rfl) (fun _ => rfl) t d
theorem before0_3 (c : Dev nD) (t : Fin (cfg0 a).N) (d) : (dats a V 0 c).before 3 t d = U0 a V c t :=
  (dats a V 0 c).before_in_eq_fetched 3 rfl (fun _ => rfl) (fun _ _ _ => rfl) (fun _ => rfl) t d
theorem before0_4 (c : Dev nD) (t : Fin (cfg0 a).N) (d) : (dats a V 0 c).before 4 t d = D0 a V c t :=
  (dats a V 0 c).before_in_eq_fetched 4 rfl (fun _ => rfl) (fun _ _ _ => rfl) (fun _ => rfl) t d

/-! ## The body's obligation -/

def bodyPre (c : Dev nD) (t : Fin (cfg0 a).N) : sProp 𝕄 :=
  iprop((dats a V 0 c).Φ t.castSucc ∗ (dats a V 0 c).owesAt () t.castSucc
    ∗ (∃ d, owns (c : Thread nD τ) (ms0_0 a t) fullShare ((dats a V 0 c).before 0 t d))
    ∗ (∃ d, owns (c : Thread nD τ) (ms0_1 a t) fullShare ((dats a V 0 c).before 1 t d))
    ∗ (∃ d, owns (c : Thread nD τ) (ms0_2 a t) fullShare ((dats a V 0 c).before 2 t d))
    ∗ (∃ d, owns (c : Thread nD τ) (ms0_3 a t) fullShare ((dats a V 0 c).before 3 t d))
    ∗ (∃ d, owns (c : Thread nD τ) (ms0_4 a t) fullShare ((dats a V 0 c).before 4 t d))
    ∗ (∃ d, owns (c : Thread nD τ) (ms0_5 a t) fullShare ((dats a V 0 c).before 5 t d)))
def bodyPost (c : Dev nD) (t : Fin (cfg0 a).N) : sProp 𝕄 :=
  iprop((dats a V 0 c).Φ t.succ ∗ (dats a V 0 c).owesAt () t.succ
    ∗ owns (c : Thread nD τ) (ms0_0 a t) fullShare (W0 a V c t)
    ∗ owns (c : Thread nD τ) (ms0_1 a t) fullShare (B0 a V c t)
    ∗ owns (c : Thread nD τ) (ms0_2 a t) fullShare (G0 a V c t)
    ∗ owns (c : Thread nD τ) (ms0_3 a t) fullShare (U0 a V c t)
    ∗ owns (c : Thread nD τ) (ms0_4 a t) fullShare (D0 a V c t)
    ∗ owns (c : Thread nD τ) (ms0_5 a t) fullShare (O0 a V c t))

theorem sound_body (c : Dev nD) (htab : ∀ n, (tabAt (tabV V c) n).toNat < 16384) (t : Fin (cfg0 a).N) :
    bodyPre a V c t ⊢ wp frame (wpE (defs₀ (F := F)) Variants.none c none) Set.univ (bodyAt0 a t) (fun _ => bodyPost a V c t) := by
  have ht : t.val < 36 := lt_of_lt_of_eq t.isLt N_0
  unfold bodyPre bodyPost bodyAt0
  rw [show (dats a V 0 c).Φ t.castSucc = held c (stgV V c) (grpV V c) (tabV V c) t.val from rfl,
    show (dats a V 0 c).Φ t.succ = held c (stgV V c) (grpV V c) (tabV V c) (t.val + 1) from rfl]
  simp only [before0_0, before0_1, before0_2, before0_3, before0_4]
  unfold Dat.owesAt Pipeline.owesWithin
  rw [show (dats a V 0 c).owed t.castSucc = 0 from rfl, show (dats a V 0 c).owed t.succ = 0 from rfl]
  unfold held
  iintro ⟨⟨HP0, HP1, Hr, Hg, Htb⟩, ⟨%Wt, -, HW⟩, ⟨%d0, H0⟩, ⟨%d1, H1⟩, ⟨%d2, H2⟩, ⟨%d3, H3⟩, ⟨%d4, H4⟩, ⟨%d5, H5⟩⟩
  ihave HP := (two_slots (fun s => pend c s t.val (shr s) (stgV V c) (tabV V c)) t.val).1 $$ [HP0 HP1]
  · isplitl [HP0]; · iexact HP0
    iexact HP1
  rw [pend_cur c t.val ht, pend_other c t.val]
  icases HP with ⟨HC, HI⟩
  iapply (body c t (ms0_0 a t) (hs0_0 a t) (ms0_1 a t) (hs0_1 a t) (ms0_2 a t) (hs0_2 a t) (ms0_3 a t) (hs0_3 a t) (ms0_4 a t) (hs0_4 a t)
    (ms0_5 a t) (hs0_5 a t) (W0 a V c t) (B0 a V c t) (G0 a V c t) (U0 a V c t) (D0 a V c t)
    (shr (t.val % 2)) (shr ((t.val + 1) % 2)) fullShare.right fullShare.right (stgV V c) (grpV V c) (tabV V c) htab Wt ((dats a V 0 c).before 5 t d5))
  isplitl [Hg]; · iexact Hg
  isplitl [Htb]; · iexact Htb
  isplitl [HC]; · iexact HC
  isplitl [HI]; · iexact HI
  isplitl [HW]; · iexact HW
  unfold Staged
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨Hg, Htb, HI, HN, ⟨%W', HW⟩, H0, H1, H2, H3, H4, H5⟩
  isplitl [Hg Htb HI HN Hr]
  · ihave HP := (two_slots (fun s => pend c s (t.val + 1) (shr s) (stgV V c) (tabV V c)) t.val).2 $$ [HI HN]
    · rw [pend_done c t.val, pend_next c t.val ht]
      isplitl [HI]; · iexact HI
      iexact HN
    icases HP with ⟨HP0, HP1⟩
    isplitl [HP0]; · iexact HP0
    isplitl [HP1]; · iexact HP1
    isplitl [Hr]; · iexact Hr
    isplitl [Hg]; · iexact Hg
    iexact Htb
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem idle5 (i : grid0.Coords) : (cfg0 a).idle 5 i = false := idle_all a 5 i

theorem body_obligation (c : Dev nD) (htab : ∀ n, (tabAt (tabV V c) n).toNat < 16384) :
    BodyObligation (dats (F := F) a V 0 c) (defs₀ (F := F)) Variants.none () Set.univ := fun t => by
  rw [bigSep_W0, bigSep_W0, defs₀_row]
  refine triple_restated (sound_body a V c htab t) rfl .rfl fun _ => ?_
  unfold bodyPost
  refine sep_mono .rfl (sep_mono .rfl (sep_mono .rfl (sep_mono .rfl (sep_mono .rfl (sep_mono .rfl (sep_mono .rfl ?_))))))
  dsimp only
  split
  · rename_i h; exact absurd ((idle_all a 5 _).symm.trans h) Bool.false_ne_true
  · exact Entails.rfl

end Cert.KernelIdeal.Moe

end
-- ==== Proof.MoeIdeal.Run.lean ====
/-
  The whole run: the tables the precondition admits, what the region is handed and gives back, the run of @main and the
  arguments it leaves unchanged.
-/
module

public import proofs.«01_k».proof.Proof.MoeIdeal.Sched

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## The tables -/

/-- A plan in range: every tile's group at most 4, every slot's token below 16384. -/
def InRange (grp : S36.Idx → BitVec 32) (tab : S18432.Idx → BitVec 32) : Prop :=
  (∀ i, (grp i).toNat ≤ 4) ∧ ∀ i, (tab i).toNat < 16384

theorem InRange.tab {grp : S36.Idx → BitVec 32} {tab : S18432.Idx → BitVec 32} (h : InRange grp tab) (n : ℕ) : (tabAt tab n).toNat < 16384 := h.2 _

/-- The group whose blocks a tile of group word `v` is given. -/
theorem minsi_three (v : BitVec 32) (h : v.toNat ≤ 4) : (Scalar.minsi v 3#32).toNat = min v.toNat 3 := by
  obtain ⟨n, hn⟩ : ∃ n, n = v.toNat := ⟨_, rfl⟩
  have hv : v = BitVec.ofNat 32 n := by rw [hn]; exact (BitVec.ofNat_toNat 32 v ▸ (BitVec.setWidth_eq v).symm)
  rw [← hn] at h
  subst hv
  interval_cases n <;> rfl

/-- The group whose blocks the tile at grid point `i` is given. -/
def grpOf (pf : pre0.Contents (Elt F)) (i : grid0.Coords) : ℕ :=
  (Scalar.minsi (pf.at 0 (Rect.unit (s := S36) (k0_off1 i) S1.size (k0_off1_inb i)) numel1_S1 : BitVec 32) 3#32).toNat

theorem tr3 (pf : pre0.Contents (Elt F)) (i : grid0.Coords) : cc0_transform_3 k0_off1_inb numel1_S1 pf i = ![0, grpOf pf i, 0, 0, 0] := rfl
theorem tr4 (pf : pre0.Contents (Elt F)) (i : grid0.Coords) : cc0_transform_4 k0_off1_inb numel1_S1 pf i = ![0, grpOf pf i, 0, 0, 0] := rfl
theorem tr5 (pf : pre0.Contents (Elt F)) (i : grid0.Coords) : cc0_transform_5 k0_off1_inb numel1_S1 pf i = ![0, grpOf pf i, 0, 0, 0] := rfl

theorem in_up (g : ℕ) (hg : g ≤ 3) : ∃ h : (∀ a, ((![0, g, 0, 0, 0] : Fin 5 → ℕ) a + 1) * S1x1x4x1024x512.size a ≤ S2x4x4x1024x512.size a),
    EltTy.bits .bf16 = 32 ∨ (Rect.block (s := S2x4x4x1024x512) S1x1x4x1024x512.size ![0, g, 0, 0, 0] h).WholeWords (EltTy.packing .bf16) := by
  interval_cases g <;> exact ⟨by decide, .inr (.inr ⟨by decide, rfl, rfl, rfl⟩)⟩
theorem in_down (g : ℕ) (hg : g ≤ 3) : ∃ h : (∀ a, ((![0, g, 0, 0, 0] : Fin 5 → ℕ) a + 1) * S1x1x4x512x1024.size a ≤ S2x4x4x512x1024.size a),
    EltTy.bits .bf16 = 32 ∨ (Rect.block (s := S2x4x4x512x1024) S1x1x4x512x1024.size ![0, g, 0, 0, 0] h).WholeWords (EltTy.packing .bf16) := by
  interval_cases g <;> exact ⟨by decide, .inr (.inr ⟨by decide, rfl, rfl, rfl⟩)⟩

/-- The blocks of a plan in range lie inside their arrays. -/
theorem ok_of (pf : pre0.Contents (Elt F)) (h : ∀ i : S36.Idx, (pf 0 i : BitVec 32).toNat ≤ 4) : ok0 pf := by
  have hw : ∀ i, grpOf pf i ≤ 3 := fun i => le_of_eq_of_le (minsi_three _ (h _)) (min_le_right _ _)
  refine ⟨fun i => ?_, fun i => ?_, fun i => ?_⟩
  · rw [tr3]; exact in_up _ (hw i)
  · rw [tr4]; exact in_up _ (hw i)
  · rw [tr5]; exact in_down _ (hw i)

/-! ## What the region is handed and gives back -/

abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The buffer the body's copies read. -/
def H0 : Finset (Ref sig .tc) := {main_v12}
theorem H0_sub : H0 ⊆ Pipeline.restRefsP sig pre0 spec0 := by decide

variable (a : (pcfg0 (F := F)).Adm) (V : (c : Dev nD) → (b : Ref sig .tc) → Buf (Elt F) ((c : Thread nD τ).loc b))

theorem hbmPts0_eq (c : Dev nD) :
    (bigSep H0 (fun b => ((c : Thread nD τ).loc b) ↦{fullShare} V c b) : sProp 𝕄)
      = iprop(stgM.view.loc (c : Thread nD τ) ↦{fullShare} stgV V c) := by
  rw [BI.bigSep_eq_bigSepL_of_eq [main_v12] (by decide) (by decide)]; rfl

/-- The tables, one by one. -/
theorem tables_eq (c : Dev nD) (hpf : ∀ k, V c (pre0.ref k) = a.1 k) :
    (Pipeline.ΦT pre0 a.1 c : sProp 𝕄) = iprop(grpPt c fullShare.right (grpV V c) ∗ tabPt c fullShare.right (tabV V c)) := by
  have e : a.1 = fun k => V c (pre0.ref k) := funext fun k => (hpf k).symm
  rw [e]
  exact bigSep_univ_eq_bigSepL [(0 : Fin 2), (1 : Fin 2)] (by decide) (by decide) _

theorem region_in (c : Dev nD) (hpf : ∀ k, V c (pre0.ref k) = a.1 k) :
    iprop(Pipeline.ΦD osem0 spec0 H0 V c ∗ Pipeline.ΦT pre0 a.1 c) ⊢ (dats a V 0 c).Φ 0 := by
  rw [tables_eq a V c hpf, Pipeline.ΦD_eq, scopedRest0_eq, ownSems00_eq, hbmPts0_eq]
  show _ ⊢ held c (stgV V c) (grpV V c) (tabV V c) 0
  unfold held
  rw [show pend c 0 0 (shr 0) (stgV V c) (tabV V c) = Idle c 0 fullShare.left (stgV V c) from rfl,
    show pend c 1 0 (shr 1) (stgV V c) (tabV V c) = Idle c 1 fullShare.right (stgV V c) from rfl]
  unfold Idle
  iintro ⟨⟨⟨%f, HS⟩, Hr, ⟨Hs0, Hs1⟩, Hh⟩, Hg, Htb⟩
  ihave HS := (pointsTo_split_subset (Finset.subset_univ (slotSet 0))).1 $$ HS
  icases HS with ⟨HS0, HS1⟩
  ihave Hh := (pointsTo_share (PosShare.mem_left_op_right _)).1 $$ Hh
  icases Hh with ⟨Hh0, Hh1⟩
  isplitl [Hs0 HS0 Hh0]
  · isplitl [Hs0]; · iexact Hs0
    isplitl [HS0]; · iexists f; iexact HS0
    iexact Hh0
  isplitl [Hs1 HS1 Hh1]
  · isplitl [Hs1]; · iexact Hs1
    isplitl [HS1]
    · iexists f
      rw [← slot_univ]
      iexact HS1
    iexact Hh1
  isplitl [Hr]; · iexact Hr
  isplitl [Hg]; · iexact Hg
  iexact Htb

theorem region_out (c : Dev nD) : (dats a V 0 c).Φ (Fin.last (cfg0 a).N) ⊢ Pipeline.ΦD osem0 spec0 H0 V c := by
  rw [Pipeline.ΦD_eq, scopedRest0_eq, ownSems00_eq, hbmPts0_eq]
  show held c (stgV V c) (grpV V c) (tabV V c) grid0.N ⊢ _
  rw [N_0]
  unfold held
  rw [show pend c 0 36 (shr 0) (stgV V c) (tabV V c) = Idle c 0 fullShare.left (stgV V c) from rfl,
    show pend c 1 36 (shr 1) (stgV V c) (tabV V c) = Idle c 1 fullShare.right (stgV V c) from rfl]
  unfold Idle
  iintro ⟨⟨Hs0, ⟨%f0, HS0⟩, Hh0⟩, ⟨Hs1, ⟨%f1, HS1⟩, Hh1⟩, Hr, Hg, Htb⟩
  isplitl [HS0 HS1]
  · iexists (fun i => if i ∈ slotSet 0 then f0 i else f1 i : ScrBuf (F := F) c)
    iapply (pointsTo_split_subset (Finset.subset_univ (slotSet 0))).2
    isplitl [HS0]
    · iapply (Entails.of_eq (pointsTo_congr (show ∀ i ∈ slotSet 0, f0 i = (fun i => if i ∈ slotSet 0 then f0 i else f1 i : ScrBuf (F := F) c) i from fun i hi => (if_pos hi).symm)))
      iexact HS0
    · rw [show (Finset.univ : Finset S2x4096x128.Idx) \ slotSet 0 = slotSet 1 from slot_univ]
      iapply (Entails.of_eq (pointsTo_congr (show ∀ i ∈ slotSet 1, f1 i = (fun i => if i ∈ slotSet 0 then f0 i else f1 i : ScrBuf (F := F) c) i from fun i hi => (if_neg (fun h => Finset.disjoint_left.mp slot_disjoint h hi)).symm)))
      iexact HS1
  isplitl [Hr]; · iexact Hr
  isplitl [Hs0 Hs1]
  · isplitl [Hs0]; · iexact Hs0
    iexact Hs1
  iapply (pointsTo_share (PosShare.mem_left_op_right _)).2
  isplitl [Hh0]; · iexact Hh0
  iexact Hh1

/-! ## The run -/

variable (m : (ℓ : Loc nD τ sig) → Buf (Elt F) ℓ) (ρ : Dev nD → PrngReg)

/-- The host stretches before the region. -/
abbrev opss : List (List (HloOp τ sig (Elt F))) := [hostOps0, hostOps0_1, hostOps0_2, hostOps0_3, hostOps0_4]

/-- What each buffer holds when the region is entered. -/
def Vm (c : Dev nD) (b : Ref sig .tc) : Buf (Elt F) ((c : Thread nD τ).loc b) :=
  StableHlo.after (opss (F := F)).flatten (fun b => m (c, b)) b

/-- The buffers the host stretches write. -/
abbrev wr : List (Ref sig .tc) :=
  [main_v0, main_v1, main_v2, main_v3, main_v4, main_c, main_call0_v0, main_v5, main_v6, main_v7, main_v8, main_v9, main_v10, main_c_0,
    main_call1_v0, main_v11, main_v12, main_v13, main_v14, main_v15, main_v16, main_v17, main_v18, main_v19]

theorem Vm_of (c : Dev nD) (b : Ref sig .tc) (h : b ∉ wr) : Vm m c b = m ((c : Thread nD τ).loc b) :=
  StableHlo.after_of_writes_sub (opss (F := F)).flatten (fun b => m (c, b)) (StableHlo.forall_writes_sub_of_map (W := wr) rfl) h

theorem hmain (𝒱₀ : Variants) : Pipeline.HMainP (Ix := Unit) (Name := ℕ) (U := Pipeline.UD sig nD τ) (Lvl := ℕ) (pcfgs (F := F)) 0 defs₀ 𝒱₀ m (main (F := F)) (Vm m) :=
  Pipeline.hmainP_prefixes (pcfgs (F := F)) 0 defs₀ 𝒱₀ m main (opss (F := F))
    ⟨hostOps0_sub, hostOps0_1_sub, hostOps0_2_sub, hostOps0_3_sub, hostOps0_4_sub⟩
    (by simp only [List.Forall]; refine ⟨?_, ?_, ?_, ?_, ?_⟩ <;> (repeat' constructor))
    (fun c => (main_chain c).trans rfl)

/-- The tables as the region finds them. -/
def tbl : pre0.Contents (Elt F) := fun k => Vm m 0 (pre0.ref k)

variable (hr : InRange (m (((0 : Dev nD) : Thread nD τ).loc main_arg1)) (m (((0 : Dev nD) : Thread nD τ).loc main_arg2)))

theorem grp_eq (c : Dev nD) : grpV (Vm m) c = m ((c : Thread nD τ).loc main_arg1) := Vm_of m c main_arg1 (by decide)
theorem tab_eq (c : Dev nD) : tabV (Vm m) c = m ((c : Thread nD τ).loc main_arg2) := Vm_of m c main_arg2 (by decide)

include hr in
theorem tbl_ok : ok0 (tbl m) := ok_of (tbl m) fun i => by
  have := hr.1 i
  rw [← grp_eq m 0] at this
  exact this

/-- The tables, with what the region checks of them. -/
def adm : (pcfg0 (F := F)).Adm := ⟨tbl m, tbl_ok m hr⟩

theorem tbl_eq (c : Dev nD) (k : Fin 2) : Vm m c (pre0.ref k) = (adm m hr).1 k := by
  obtain rfl : c = 0 := Subsingleton.elim _ _
  rfl

include hr in
theorem tab_lt (c : Dev nD) (n : ℕ) : (tabAt (tabV (Vm m) c) n).toNat < 16384 := by
  obtain rfl : c = 0 := Subsingleton.elim _ _
  rw [tab_eq]; exact hr.2 _

set_option backward.isDefEq.respectTransparency.types false in
/-- The run of @main: the result's array at what the points store, every other buffer as the region found it. -/
theorem run_main : θ_run defs (onTc (τ := τ) (main (F := F))) (s₀ m ρ)
    (fun r => Pipeline.FramePost (Pipeline.pin (pcfgs (F := F)) fun _ => adm m hr) (dats (adm m hr) (Vm m)) 0 (Vm m) r ∧ r.2.sem = fun _ => 0) :=
  Pipeline.θ_run_frameP_dma (Q' := _) (pcfgs (F := F)) (fun _ => adm m hr) (dats (adm m hr) (Vm m)) (0 : Fin 1) launch0 osem0 defs₀ Variants.none ownSemFacts0
    H0 H0_sub m ρ main
    (hbody := fun c => (body_obligation (adm m hr) (Vm m) c (tab_lt m hr c)).loose) (hshare := fun c => (dats (adm m hr) (Vm m) 0 c).share_full fun _ => rfl)
    (howed := fun _ _ => rfl) (V := Vm m) (hmain := hmain m Variants.none) (hA := A_eq (adm m hr) (Vm m)) (hpf := tbl_eq m hr)
    (hin := fun c => region_in (adm m hr) (Vm m) c (tbl_eq m hr c)) (hout := region_out (adm m hr) (Vm m))

/-- An argument ends as it began. -/
theorem kept_of {r : PUnit × MemSt nD τ sig (Elt F)} (c : Dev nD)
    (h : Pipeline.FramePost (Pipeline.pin (pcfgs (F := F)) fun _ => adm m hr) (dats (adm m hr) (Vm m)) 0 (Vm m) r)
    (b : Ref sig .tc) (h1 : b ∈ Pipeline.restRefs sig spec0) (h2 : b ∉ wr) :
    r.2.mem ((c.tc : Thread nD τ).loc b) = m ((c.tc : Thread nD τ).loc b) :=
  ((h c).2 b h1).trans (Vm_of m c b h2)

/-- The arguments of core `c` in the memory `m'` are what they were in `m`. -/
abbrev Kept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

theorem kept_all {r : PUnit × MemSt nD τ sig (Elt F)} (c : Dev nD)
    (h : Pipeline.FramePost (Pipeline.pin (pcfgs (F := F)) fun _ => adm m hr) (dats (adm m hr) (Vm m)) 0 (Vm m) r) : Kept m r.2.mem c := by
  refine ⟨?_, ?_, ?_, ?_, ?_, ?_, ?_, ?_, ?_, ?_⟩ <;> exact kept_of m hr c h _ (Pipeline.mem_restRefs_of _ (by decide) (by decide)) (by decide)

include hr in
/-- The program runs, leaves its arguments unchanged and every counter at zero. -/
theorem frame : θ_run defs (onTc (τ := τ) (main (F := F))) ⟨m, fun _ => 0, ρ⟩ (fun r => (∀ c : Dev nD, Kept m r.2.mem c) ∧ r.2.sem = fun _ => 0) :=
  (θ_run defs _ _).mono (fun _ h => ⟨fun c => kept_all m hr c h.1, h.2⟩) (run_main m ρ hr)

end Cert.KernelIdeal.Moe

end
-- ==== Proof.Spec.lean ====
/-
  The routing of one token, in plain mathematics: the first largest of a row of numbers, the weights of the two experts
  picked, and what the folds of a lane row are when one lane is the first largest.
-/
module

public import Idealize.ShloMosaic.Lib.Pointwise
public import Idealize.ShloMosaic.Lib.SortFacts

@[expose] public section

set_option maxRecDepth 16384

noncomputable section

namespace Cert.Route

open Idealize.ShloMosaic

/-- Place `i` holds the first of the largest entries of `f` among the places in `S`. -/
def IsFirst {n : ℕ} (S : Fin n → Prop) (f : Fin n → EReal) (i : Fin n) : Prop :=
  S i ∧ (∀ j, S j → f j ≤ f i) ∧ ∀ j, S j → j < i → f j < f i

/-- There is at most one first largest place. -/
theorem IsFirst.unique {n : ℕ} {S : Fin n → Prop} {f : Fin n → EReal} {i j : Fin n} (hi : IsFirst S f i) (hj : IsFirst S f j) : i = j := by
  rcases lt_trichotomy i j with h | h | h
  · exact absurd (hi.2.1 j hj.1) (not_le.mpr (hj.2.2 i hi.1 h))
  · exact h
  · exact absurd (hj.2.1 i hi.1) (not_le.mpr (hi.2.2 j hj.1 h))

/-- The weight of expert `e` of group `G`: the group's share of the softmax of the group logits `L`, times the softmax of
    the two largest expert logits, at `a` and `b`, of the group's logits `E`. -/
def gate (L E : Fin 4 → EReal) (G a b e : Fin 4) : EReal :=
  if e = a then Ideal.div (Ideal.div 1 (∑ g, Ideal.exp (L g - L G))) (1 + Ideal.exp (E b - E a))
  else if e = b then Ideal.div (Ideal.div 1 (∑ g, Ideal.exp (L g - L G)) * Ideal.exp (E b - E a)) (1 + Ideal.exp (E b - E a))
  else 0

/-- One expert on one row at one output column: the gated product of the row with the two input matrices, scaled by the
    row's gate, through the output column. -/
def expert (x : Fin 1024 → EReal) (g u : Fin 1024 → Fin 512 → EReal) (dn : Fin 512 → EReal) (c : EReal) : EReal :=
  ∑ h, ((∑ k, x k * g k h) * Ideal.logistic (∑ k, x k * g k h) * ∑ k, x k * u k h) * c * dn h

/-- A gate of zero gives nothing. -/
theorem expert_zero (x : Fin 1024 → EReal) (g u : Fin 1024 → Fin 512 → EReal) (dn : Fin 512 → EReal) : expert x g u dn 0 = 0 := by
  unfold expert
  refine Finset.sum_eq_zero fun h _ => ?_
  rw [mul_zero, zero_mul]

/-- A number of the extended line that is a real. -/
def IsReal (x : EReal) : Prop := ∃ v : ℝ, x = v

/-- Expert `e` of group `G`, numbered among the sixteen. -/
def jn (G e : Fin 4) : Fin 16 := ⟨G.val * 4 + e.val, by omega⟩

/-! ## Folds over the places of a row -/

/-- The largest of a masked row is the entry of a place under the mask that bounds the others. -/
theorem fold_max_mask {n : ℕ} (c : Fin n → BitVec 1) (f : Fin n → EReal) (i : Fin n) (hi : c i = 1#1) (h : ∀ k, c k = 1#1 → f k ≤ f i) :
    Finset.fold max (⊥ : EReal) (fun k => Scalar.select (c k) (f k) ⊥) Finset.univ = f i := by
  apply le_antisymm
  · rw [Finset.fold_max_le]
    refine ⟨bot_le, fun k _ => ?_⟩
    by_cases hk : c k = 1#1
    · rw [hk]; exact h k hk
    · rw [show Scalar.select (c k) (f k) ⊥ = ⊥ from if_neg hk]; exact bot_le
  · rw [Finset.le_fold_max]
    exact Or.inr ⟨i, Finset.mem_univ _, by rw [hi]; exact le_refl _⟩

/-- A small word's signed reading is the number. -/
theorem toInt_small {k : ℕ} (h : k ≤ 128) : (BitVec.ofNat 32 k).toInt = (k : ℤ) := by
  rw [BitVec.toInt_ofNat']; have : k < 2147483648 := by omega
  unfold Int.bmod; norm_num; split <;> omega

/-- The least marked lane number of a row of 128, where lane `i` is marked and none before it is. -/
theorem fold_min_mask (c : Fin 128 → BitVec 1) (i : Fin 128) (hi : c i = 1#1) (h : ∀ k, k < i → c k ≠ 1#1) :
    Finset.fold IntOp.minsi (2147483647#32) (fun k : Fin 128 => Scalar.select (c k) (BitVec.ofNat 32 k.val) 128#32) Finset.univ = BitVec.ofNat 32 i.val := by
  have key : ∀ s : Finset (Fin 128), (∀ k ∈ s, c k = 1#1 → i ≤ k) →
      (i ∈ s → (Finset.fold IntOp.minsi (2147483647#32) (fun k : Fin 128 => Scalar.select (c k) (BitVec.ofNat 32 k.val) 128#32) s).toInt = (i.val : ℤ))
      ∧ (i.val : ℤ) ≤ (Finset.fold IntOp.minsi (2147483647#32) (fun k : Fin 128 => Scalar.select (c k) (BitVec.ofNat 32 k.val) 128#32) s).toInt := by
    intro s
    have hi128 := i.isLt
    induction s using Finset.induction_on with
    | empty => intro _; refine ⟨fun h => absurd h (Finset.notMem_empty _), ?_⟩; rw [Finset.fold_empty]; rw [show (2147483647#32).toInt = 2147483647 from by decide]; omega
    | insert k s hk ih =>
      intro hs
      obtain ⟨h1, h2⟩ := ih (fun k' hk' => hs k' (Finset.mem_insert_of_mem hk'))
      rw [Finset.fold_insert hk]
      have hv : (Scalar.select (c k) (BitVec.ofNat 32 k.val) 128#32).toInt = if c k = 1#1 then (k.val : ℤ) else 128 := by
        by_cases hc : c k = 1#1
        · rw [if_pos hc, show Scalar.select (c k) (BitVec.ofNat 32 k.val) 128#32 = BitVec.ofNat 32 k.val from if_pos hc]
          exact toInt_small (by omega)
        · rw [if_neg hc, show Scalar.select (c k) (BitVec.ofNat 32 k.val) 128#32 = 128#32 from if_neg hc]; decide
      have hm : ∀ a b : BitVec 32, (IntOp.minsi a b).toInt = min a.toInt b.toInt := by
        intro a b
        unfold IntOp.minsi
        split <;> rename_i hab <;> simp only [BitVec.slt_iff_toInt_lt, BitVec.sle_iff_toInt_le] at hab <;> omega
      rw [hm, hv]
      have hle : c k = 1#1 → i.val ≤ k.val := fun hc => hs k (Finset.mem_insert_self _ _) hc
      refine ⟨?_, ?_⟩
      · intro hm'
        by_cases hik : i = k
        · subst hik
          rw [if_pos hi]; omega
        · have h3 := h1 ((Finset.mem_insert.mp hm').resolve_left hik)
          by_cases hc : c k = 1#1
          · rw [if_pos hc]; have := hle hc; omega
          · rw [if_neg hc]; omega
      · by_cases hc : c k = 1#1
        · rw [if_pos hc]; have := hle hc; omega
        · rw [if_neg hc]; omega
  have := (key Finset.univ (fun k _ hc => not_lt.mp fun hlt => h k hlt hc)).1 (Finset.mem_univ _)
  exact BitVec.eq_of_toInt_eq (this.trans (toInt_small (by omega)).symm)

/-- A row that is zero but at one place sums to its entry there. -/
theorem sum_select {n : ℕ} (c : Fin n → BitVec 1) (f : Fin n → EReal) (i : Fin n) (h : ∀ k, c k = 1#1 ↔ k = i) :
    (∑ k, Scalar.select (c k) (f k) 0) = f i := by
  rw [Finset.sum_eq_single i]
  · exact if_pos ((h i).mpr rfl)
  · exact fun k _ hk => if_neg fun hc => hk ((h k).mp hc)
  · exact fun hn => absurd (Finset.mem_univ _) hn

/-! ## The sort of four entries -/

section Sorted
variable (f : Fin 4 → EReal)

/-- Whether a place sorts before another: its entry is the larger. -/
def gtB (i j : Fin 4) : Bool := decide (f j < f i)

/-- The order a stable sort by descending entries leaves. -/
def Ord (i j : Fin 4) : Prop := f j < f i ∨ (f i = f j ∧ i < j)

/-- Inserting a place into an ordered list leaves it ordered. -/
theorem ord_insert (a : Fin 4) (l : List (Fin 4)) (ha : ∀ b ∈ l, a < b) (hl : l.Pairwise (Ord f)) :
    (insertBefore (gtB f) a l).Pairwise (Ord f) := by
  induction l with
  | nil => exact List.pairwise_singleton _ _
  | cons b l ih =>
    rw [List.pairwise_cons] at hl
    unfold insertBefore
    split
    · rename_i h
      have h' : f a < f b := by simpa [gtB] using h
      refine List.pairwise_cons.mpr ⟨fun c hc => ?_, ih (fun c hc => ha c (List.mem_cons_of_mem _ hc)) hl.2⟩
      rcases List.mem_cons.mp ((perm_insertBefore (gtB f) a l).mem_iff.mp hc) with rfl | hc'
      · exact Or.inl h'
      · exact hl.1 c hc'
    · rename_i h
      have h' : f b ≤ f a := by simpa [gtB] using h
      have hb : Ord f a b := by
        rcases lt_or_eq_of_le h' with h' | h'
        · exact Or.inl h'
        · exact Or.inr ⟨h'.symm, ha b (List.mem_cons_self)⟩
      refine List.pairwise_cons.mpr ⟨fun c hc => ?_, List.pairwise_cons.mpr hl⟩
      rcases List.mem_cons.mp hc with rfl | hc'
      · exact hb
      · have hab : a < c := ha c hc
        rcases hb with hb | ⟨hb, -⟩ <;> rcases hl.1 c hc' with hcb | ⟨hcb, -⟩
        · exact Or.inl (hcb.trans hb)
        · exact Or.inl (hcb ▸ hb)
        · exact Or.inl (hb ▸ hcb)
        · exact Or.inr ⟨hb.trans hcb, hab⟩

/-- The stable sort of places in order is ordered. -/
theorem ord_sort (l : List (Fin 4)) (hl : l.Pairwise (· < ·)) : (stableSort (gtB f) l).Pairwise (Ord f) := by
  induction l with
  | nil => exact List.Pairwise.nil
  | cons a l ih =>
    rw [List.pairwise_cons] at hl
    unfold stableSort
    exact ord_insert f a _ (fun b hb => hl.1 b ((perm_stableSort (gtB f) l).mem_iff.mp hb)) (ih hl.2)

theorem ord_sorted (i j : Fin 4) (hij : i < j) : Ord f (sortedFrom (gtB f) i) (sortedFrom (gtB f) j) := by
  have hp := List.pairwise_iff_get.mp (ord_sort f (List.finRange 4) (List.pairwise_lt_finRange 4))
  unfold sortedFrom
  exact hp _ _ (Fin.lt_def.mpr (show i.val < j.val from hij))

/-- The sort's first place is the first largest. -/
theorem sorted_first : IsFirst (fun _ => True) f (sortedFrom (gtB f) 0) := by
  have h : ∀ j, j = sortedFrom (gtB f) 0 ∨ Ord f (sortedFrom (gtB f) 0) j := fun j => by
    obtain ⟨k, rfl⟩ := sortedFrom_surjective (gtB f) j
    by_cases hk : k = 0
    · exact Or.inl (by rw [hk])
    · exact Or.inr (ord_sorted f 0 k (Fin.pos_of_ne_zero hk))
  refine ⟨trivial, fun j _ => ?_, fun j _ hj => ?_⟩
  · rcases h j with rfl | h | h
    · exact le_refl _
    · exact h.le
    · exact h.1.ge
  · rcases h j with rfl | h | h
    · exact absurd hj (lt_irrefl _)
    · exact h
    · exact absurd hj (lt_asymm h.2)

/-- The sort's second place is the first largest of the others. -/
theorem sorted_second : IsFirst (fun j => j ≠ sortedFrom (gtB f) 0) f (sortedFrom (gtB f) 1) := by
  have h : ∀ j, j ≠ sortedFrom (gtB f) 0 → j = sortedFrom (gtB f) 1 ∨ Ord f (sortedFrom (gtB f) 1) j := fun j => by
    obtain ⟨k, rfl⟩ := sortedFrom_surjective (gtB f) j
    intro hn
    by_cases hk : k = 1
    · exact Or.inl (by rw [hk])
    · refine Or.inr (ord_sorted f 1 k ?_)
      have h0 : k ≠ 0 := fun e => hn (by rw [e])
      have : k.val ≠ 0 := fun e => h0 (Fin.ext e)
      have : k.val ≠ 1 := fun e => hk (Fin.ext e)
      exact Fin.lt_def.mpr (show 1 < k.val by omega)
  refine ⟨fun e => absurd (sortedFrom_injective _ e) (by decide), fun j hS => ?_, fun j hS hj => ?_⟩
  · rcases h j hS with rfl | h | h
    · exact le_refl _
    · exact h.le
    · exact h.1.ge
  · rcases h j hS with rfl | h | h
    · exact absurd hj (lt_irrefl _)
    · exact h
    · exact absurd hj (lt_asymm h.2)

end Sorted

/-! ## The layer at one row -/

/-- The routed experts of one row at one output column, the row belonging to a tile of group `grp`: the group of the first
    largest group logit, if it is the tile's, gives its four experts, gated by the two first largest of its logits. -/
def routed (x : Fin 1024 → EReal) (L : Fin 4 → EReal) (E : Fin 4 → Fin 4 → EReal) (gm um : Fin 16 → Fin 1024 → Fin 512 → EReal)
    (dn : Fin 16 → Fin 512 → EReal) (grp : Fin 4) : EReal :=
  if grp = sortedFrom (gtB L) 0 then
    ∑ e, expert x (gm (jn grp e)) (um (jn grp e)) (dn (jn grp e))
      (gate L (E grp) grp (sortedFrom (gtB (E grp)) 0) (sortedFrom (gtB (E grp)) 1) e)
  else 0

/-- A logit: the row times a column of the router, and its bias. -/
def logit (x w : Fin 1024 → EReal) (b : EReal) : EReal := (∑ k, x k * w k) + b

/-- One row at one output column, from its token's row `x`, the two routers and the experts' matrices, in a tile of group
    word `n`: nothing if the word names no group. -/
def slot (x : Fin 1024 → EReal) (wg : Fin 1024 → Fin 4 → EReal) (bg : Fin 4 → EReal) (we : Fin 1024 → Fin 16 → EReal) (be : Fin 16 → EReal)
    (gm um : Fin 16 → Fin 1024 → Fin 512 → EReal) (dn : Fin 16 → Fin 512 → EReal) (n : ℕ) : EReal :=
  if h : n < 4 then
    routed x (fun g => logit x (fun k => wg k g) (bg g)) (fun G e => logit x (fun k => we k (jn G e)) (be (jn G e))) gm um dn ⟨n, h⟩
  else 0

end Cert.Route
-- ==== Proof.MoeIdeal.Route.lean ====
/-
  The router of one row of a tile at exact arithmetic: which group the row goes to, which two of the group's experts it
  takes, and each lane's gate, from the row's logits.
-/
module

public import proofs.«01_k».proof.Proof.Spec
public import proofs.«01_k».proof.Proof.MoeIdeal.Compute

@[expose] public section

set_option maxRecDepth 16384

noncomputable section

namespace Cert.KernelIdeal.Moe

open Cert.KernelIdeal Cert.KernelIdeal.Gen Cert.Route
open Idealize.ShloMosaic Idealize.ShloMosaic.TcCoe Idealize.ShloMosaic.Tactic

/-- The mask is minus infinity. -/
theorem mask_bot : (Named.named κ "mask" 0xF149F2CA#32 : Ideal .f32) = (⊥ : EReal) := rfl
/-- The word of minus infinity is minus infinity. -/
theorem ninf_bot : Ideal.ofBits .f32 (4286578688#32) = ⊥ := by simp [Ideal.ofBits, Ideal.ieee]

/-- Lane `g` of the group logits. -/
def gl (g : Fin 4) : Fin 128 := ⟨g.val, by omega⟩
/-- The lane of expert `e` of group `G`. -/
def el (G e : Fin 4) : Fin 128 := ⟨4 + 4 * G.val + e.val, by omega⟩

/-- A lane below four. -/
theorem low_iff : ∀ k : Fin 128, IntOp.cmpi CmpIPredicate.slt (BitVec.ofNat 32 k.val) 4#32 = 1#1 ↔ k.val < 4 := by decide +kernel
/-- Two lane words are equal exactly if the lanes are. -/
theorem eq_iff (k i : Fin 128) : IntOp.cmpi CmpIPredicate.eq (BitVec.ofNat 32 k.val) (BitVec.ofNat 32 i.val) = 1#1 ↔ k = i := by
  have hk := k.isLt; have hi := i.isLt
  show BitVec.ofBool (BitVec.ofNat 32 k.val == BitVec.ofNat 32 i.val) = 1#1 ↔ k = i
  rw [show ∀ q : Bool, BitVec.ofBool q = 1#1 ↔ q = true from by decide, beq_iff_eq]
  constructor
  · intro h
    have := congrArg BitVec.toNat h
    rw [BitVec.toNat_ofNat, BitVec.toNat_ofNat] at this
    exact Fin.ext (by omega)
  · rintro rfl; rfl
/-- A choice by equal lane words is a choice by equal lanes. -/
theorem sel_eq (k i : Fin 128) (p q : EReal) : Scalar.select (IntOp.cmpi CmpIPredicate.eq (BitVec.ofNat 32 k.val) (BitVec.ofNat 32 i.val)) p q = if k = i then p else q := by
  by_cases h : k = i
  · rw [if_pos h]; exact if_pos ((eq_iff k i).mpr h)
  · rw [if_neg h]; exact if_neg fun h' => h ((eq_iff k i).mp h')
/-- Two lane words differ exactly if the lanes do. -/
theorem ne_iff (k i : Fin 128) : IntOp.cmpi CmpIPredicate.ne (BitVec.ofNat 32 k.val) (BitVec.ofNat 32 i.val) = 1#1 ↔ k ≠ i := by
  show BitVec.ofBool (BitVec.ofNat 32 k.val != BitVec.ofNat 32 i.val) = 1#1 ↔ k ≠ i
  rw [show ∀ q : Bool, BitVec.ofBool q = 1#1 ↔ q = true from by decide, bne_iff_ne]
  have h := eq_iff k i
  rw [show IntOp.cmpi CmpIPredicate.eq (BitVec.ofNat 32 k.val) (BitVec.ofNat 32 i.val) = BitVec.ofBool (BitVec.ofNat 32 k.val == BitVec.ofNat 32 i.val) from rfl,
    show ∀ q : Bool, BitVec.ofBool q = 1#1 ↔ q = true from by decide, beq_iff_eq] at h
  exact not_congr h
/-- A decided bit is one exactly if the proposition holds. -/
theorem ofBool_iff {P : Prop} [Decidable P] : BitVec.ofBool (decide P) = 1#1 ↔ P := by
  by_cases h : P <;> simp [h]

/-- A sum over the lanes below four is a sum over the groups. -/
theorem sum_low (f : Fin 128 → EReal) :
    (∑ k : Fin 128, Scalar.select (IntOp.cmpi CmpIPredicate.slt (BitVec.ofNat 32 k.val) 4#32) (f k) 0) = ∑ g : Fin 4, f (gl g) := by
  rw [show (∑ k : Fin 128, Scalar.select (IntOp.cmpi CmpIPredicate.slt (BitVec.ofNat 32 k.val) 4#32) (f k) 0)
    = ∑ k : Fin (4 + 124), Scalar.select (IntOp.cmpi CmpIPredicate.slt (BitVec.ofNat 32 k.val) 4#32) (f k) 0 from rfl, Fin.sum_univ_add]
  rw [Finset.sum_eq_zero (s := (Finset.univ : Finset (Fin 124))) (fun k _ => ?_), add_zero]
  · exact Finset.sum_congr rfl fun g _ => if_pos ((low_iff (gl g)).mpr g.isLt)
  · exact if_neg fun hc => by have := (low_iff _).mp hc; simp at this

section Row
variable (x : FVec Ideal S512x1024 .f32) (w : Vec Ideal S1024x128 .f32) (b : Vec Ideal S1x128 .f32) (r : Fin 512)

/-- The row's group logits, and its logits for the experts of a group. -/
def rowL (g : Fin 4) : EReal := k0_pay9 (F := Ideal) x w b (ix2 r (gl g))
/-- The row's logits for the experts of a group. -/
def rowE (G e : Fin 4) : EReal := k0_pay9 (F := Ideal) x w b (ix2 r (el G e))

variable {G : Fin 4} (hG : IsFirst (fun _ => True) (rowL x w b r) G)
include hG

/-- The maximum over the group lanes is the chosen group's logit. -/
theorem gmax_row : k0_pay12 (F := Ideal) x w b (ix2 r 0) = rowL x w b r G := by
  pointwise [k0_pay12, k0_pay11, k0_pay10]
  simp only [mask_bot, ninf_bot]
  refine fold_max_mask _ (fun k => k0_pay9 (F := Ideal) x w b (ix2 r k)) (gl G) ((low_iff _).mpr G.isLt) fun k hk => ?_
  exact hG.2.1 ⟨k.val, (low_iff k).mp hk⟩ trivial

/-- The lane found is the chosen group's. -/
theorem gsel_row : k0_pay13 (F := Ideal) x w b (ix2 r 0) = BitVec.ofNat 32 G.val := by
  pointwise [k0_pay13, k0_pay11, k0_pay10]
  simp only [mask_bot, gmax_row x w b r hG]
  refine fold_min_mask _ (gl G) ?_ fun k hk hc => ?_
  · rw [IntOp.andi_eq_one, ofBool_iff]
    refine ⟨(low_iff _).mpr G.isLt, if_pos ((low_iff _).mpr G.isLt)⟩
  · rw [IntOp.andi_eq_one, ofBool_iff] at hc
    have h4 := (low_iff k).mp hc.1
    have he := hc.2
    rw [show Scalar.select (IntOp.cmpi CmpIPredicate.slt (BitVec.ofNat 32 k.val) 4#32) (k0_pay9 (F := Ideal) x w b (ix2 r k)) ⊥ = k0_pay9 (F := Ideal) x w b (ix2 r k) from if_pos hc.1] at he
    exact absurd (hG.2.2 ⟨k.val, h4⟩ trivial (Fin.lt_def.mpr hk)) (by rw [← he]; exact lt_irrefl _)

/-- The weight of the chosen group is its softmax. -/
theorem gw_row : k0_pay14 (F := Ideal) x w b (ix2 r 0) = Ideal.div 1 (∑ g, Ideal.exp (rowL x w b r g - rowL x w b r G)) := by
  pointwise [k0_pay14, k0_pay11, k0_pay10]
  rw [gmax_row x w b r hG, mask_bot]
  rw [sum_low fun k => Ideal.exp (Scalar.select (IntOp.cmpi CmpIPredicate.slt (BitVec.ofNat 32 k.val) 4#32) (k0_pay9 (F := Ideal) x w b (ix2 r k)) ⊥ - rowL x w b r G)]
  refine congrArg (Ideal.div 1) (Finset.sum_congr rfl fun g _ => ?_)
  rw [show Scalar.select (IntOp.cmpi CmpIPredicate.slt (BitVec.ofNat 32 (gl g).val) 4#32) (k0_pay9 (F := Ideal) x w b (ix2 r (gl g))) ⊥ = rowL x w b r g from if_pos ((low_iff _).mpr g.isLt)]
omit hG

/-- The lanes of the chosen group's experts, as the kernel marks them. -/
theorem ingrp_row (v : IVec S512x1 32) (r : Fin 512) (G : Fin 4) (hv : v (ix2 r 0) = BitVec.ofNat 32 G.val) (k : Fin 128) :
    k0_pay17 v k0_pay15 k0_pay16 (ix2 r k) = 1#1 ↔ 4 + 4 * G.val ≤ k.val ∧ k.val < 8 + 4 * G.val := by
  pointwise [k0_pay17, k0_pay15, k0_pay16]
  rw [hv]
  clear hv
  revert G k
  decide +kernel

variable (L74 : FVec Ideal S512x128 .f32) (v95 : IVec S512x1 32) {G a bb : Fin 4} (hv : v95 (ix2 r 0) = BitVec.ofNat 32 G.val)
  (ha : IsFirst (fun _ => True) (fun e => L74 (ix2 r (el G e))) a) (hb : IsFirst (fun e => e ≠ a) (fun e => L74 (ix2 r (el G e))) bb)
include hv ha

/-- An expert's lane of the chosen group is marked. -/
theorem in_el (e : Fin 4) : k0_pay17 v95 k0_pay15 k0_pay16 (ix2 r (el G e)) = 1#1 :=
  (ingrp_row v95 r G hv _).mpr ⟨by show _ ≤ 4 + 4 * G.val + e.val; omega, by show 4 + 4 * G.val + e.val < _; omega⟩
omit ha in
/-- A marked lane is an expert's of the chosen group. -/
theorem of_in (k : Fin 128) (hk : k0_pay17 v95 k0_pay15 k0_pay16 (ix2 r k) = 1#1) : ∃ e, k = el G e := by
  have := (ingrp_row v95 r G hv k).mp hk
  exact ⟨⟨k.val - (4 + 4 * G.val), by omega⟩, Fin.ext (show k.val = 4 + 4 * G.val + (k.val - (4 + 4 * G.val)) by omega)⟩

/-- The largest marked logit is the first expert's. -/
theorem t1_row : k0_pay19 (F := Ideal) L74 v95 k0_pay15 k0_pay16 (ix2 r 0) = L74 (ix2 r (el G a)) := by
  pointwise [k0_pay19, k0_pay18]
  simp only [mask_bot, ninf_bot]
  refine fold_max_mask _ (fun k => L74 (ix2 r k)) (el G a) (in_el r L74 v95 hv ha a) fun k hk => ?_
  obtain ⟨e, rfl⟩ := of_in r v95 hv k hk
  exact ha.2.1 e trivial

/-- The lane found is the first expert's. -/
theorem i1_row : k0_pay20 (F := Ideal) L74 i75 v95 k0_pay15 k0_pay16 (ix2 r 0) = BitVec.ofNat 32 (el G a).val := by
  unfold i75
  pointwise [k0_pay20, k0_pay18]
  simp only [mask_bot, t1_row r L74 v95 hv ha]
  refine fold_min_mask _ (el G a) ?_ fun k hk hc => ?_
  · rw [IntOp.andi_eq_one, ofBool_iff]
    exact ⟨in_el r L74 v95 hv ha a, if_pos (in_el r L74 v95 hv ha a)⟩
  · rw [IntOp.andi_eq_one, ofBool_iff] at hc
    obtain ⟨e, rfl⟩ := of_in r v95 hv k hc.1
    have he := hc.2
    rw [show Scalar.select (k0_pay17 v95 k0_pay15 k0_pay16 (ix2 r (el G e))) (L74 (ix2 r (el G e))) (⊥ : EReal) = L74 (ix2 r (el G e)) from if_pos hc.1] at he
    have hlt : e < a := Fin.lt_def.mpr (by have : 4 + 4 * G.val + e.val < 4 + 4 * G.val + a.val := hk; omega)
    exact absurd (ha.2.2 e trivial hlt) (by rw [show (fun e => L74 (ix2 r (el G e))) e = _ from he]; exact lt_irrefl _)

include hb

/-- The largest marked logit beside it is the second expert's. -/
theorem t2_row : k0_pay22 (F := Ideal) L74 i75 v95 k0_pay15 k0_pay16 (ix1 r) = L74 (ix2 r (el G bb)) := by
  have hi := i1_row r L74 v95 hv ha
  unfold i75 at hi ⊢
  pointwise [k0_pay22, k0_pay21, k0_pay18]
  simp only [mask_bot, ninf_bot, hi]
  have hc : (fun k : Fin 128 => Scalar.select (IntOp.cmpi CmpIPredicate.eq (BitVec.ofNat 32 k.val) (BitVec.ofNat 32 (el G a).val)) (⊥ : EReal)
        (Scalar.select (k0_pay17 v95 k0_pay15 k0_pay16 (ix2 r k)) (L74 (ix2 r k)) ⊥))
      = fun k => Scalar.select (IntOp.andi (k0_pay17 v95 k0_pay15 k0_pay16 (ix2 r k))
          (IntOp.cmpi CmpIPredicate.ne (BitVec.ofNat 32 k.val) (BitVec.ofNat 32 (el G a).val))) (L74 (ix2 r k)) ⊥ := by
    funext k
    by_cases hk : k = el G a
    · rw [show Scalar.select (IntOp.cmpi CmpIPredicate.eq (BitVec.ofNat 32 k.val) (BitVec.ofNat 32 (el G a).val)) (⊥ : EReal) _ = ⊥ from if_pos ((eq_iff _ _).mpr hk)]
      exact (if_neg fun h => (ne_iff _ _).mp (IntOp.andi_eq_one.mp h).2 hk).symm
    · rw [show ∀ u : EReal, Scalar.select (IntOp.cmpi CmpIPredicate.eq (BitVec.ofNat 32 k.val) (BitVec.ofNat 32 (el G a).val)) (⊥ : EReal) u = u from fun u => if_neg fun h => hk ((eq_iff _ _).mp h)]
      by_cases hi : k0_pay17 v95 k0_pay15 k0_pay16 (ix2 r k) = 1#1
      · exact (if_pos hi).trans (if_pos (IntOp.andi_eq_one.mpr ⟨hi, (ne_iff _ _).mpr hk⟩)).symm
      · exact (if_neg hi).trans (if_neg fun h => hi (IntOp.andi_eq_one.mp h).1).symm
  rw [hc]
  have hne : el G bb ≠ el G a := fun h => hb.1 (Fin.ext (by have : 4 + 4 * G.val + bb.val = 4 + 4 * G.val + a.val := congrArg Fin.val h; omega))
  refine fold_max_mask _ (fun k => L74 (ix2 r k)) (el G bb) (IntOp.andi_eq_one.mpr ⟨in_el r L74 v95 hv ha bb, (ne_iff _ _).mpr hne⟩) fun k hk => ?_
  obtain ⟨hi, hn⟩ := IntOp.andi_eq_one.mp hk
  obtain ⟨e, rfl⟩ := of_in r v95 hv k hi
  exact hb.2.1 e fun h => (ne_iff _ _).mp hn (by rw [h])

/-- Each lane's gate: the two picked experts' lanes hold their weights, every other lane zero. -/
theorem gates_row (v97 : FVec Ideal S512x1 .f32) (k : Fin 128) :
    k0_pay23 (F := Ideal) i75 v97 (k0_pay17 v95 k0_pay15 k0_pay16) (k0_pay19 L74 v95 k0_pay15 k0_pay16) (k0_pay20 L74 i75 v95 k0_pay15 k0_pay16)
        (k0_pay21 L74 i75 v95 k0_pay15 k0_pay16) (k0_pay22 L74 i75 v95 k0_pay15 k0_pay16) (ix2 r k)
      = if k = el G a then Ideal.div (v97 (ix2 r 0)) (1 + Ideal.exp (L74 (ix2 r (el G bb)) - L74 (ix2 r (el G a))))
        else if k = el G bb then Ideal.div (v97 (ix2 r 0) * Ideal.exp (L74 (ix2 r (el G bb)) - L74 (ix2 r (el G a)))) (1 + Ideal.exp (L74 (ix2 r (el G bb)) - L74 (ix2 r (el G a))))
        else 0 := by
  have h1 := i1_row r L74 v95 hv ha
  have h2 := t2_row r L74 v95 hv ha hb
  have ht := t1_row r L74 v95 hv ha
  unfold i75 at h1 h2 ⊢
  have hne : el G bb ≠ el G a := fun h => hb.1 (Fin.ext (by have : 4 + 4 * G.val + bb.val = 4 + 4 * G.val + a.val := congrArg Fin.val h; omega))
  have hi2 : Finset.fold IntOp.minsi (2147483647#32) (fun k : Fin 128 => Scalar.select
      (IntOp.andi (IntOp.andi (k0_pay17 v95 k0_pay15 k0_pay16 (ix2 r k)) (IntOp.cmpi CmpIPredicate.ne (BitVec.ofNat 32 k.val) (BitVec.ofNat 32 (el G a).val)))
        (BitVec.ofBool (decide (k0_pay21 (F := Ideal) L74 (iota .tc S512x128 32 [1] iota_S512x128_d1_w32) v95 k0_pay15 k0_pay16 (ix2 r k) = L74 (ix2 r (el G bb)))))) (BitVec.ofNat 32 k.val) 128#32) Finset.univ
      = BitVec.ofNat 32 (el G bb).val := by
    have h21 : ∀ e, e ≠ a → k0_pay21 (F := Ideal) L74 (iota .tc S512x128 32 [1] iota_S512x128_d1_w32) v95 k0_pay15 k0_pay16 (ix2 r (el G e)) = L74 (ix2 r (el G e)) := by
      intro e he
      pointwise [k0_pay21, k0_pay18]
      rw [h1]
      refine (if_neg fun h => ?_).trans (if_pos (in_el r L74 v95 hv ha e))
      have := (eq_iff _ _).mp h
      exact he (Fin.ext (by have : 4 + 4 * G.val + e.val = 4 + 4 * G.val + a.val := congrArg Fin.val this; omega))
    refine fold_min_mask _ (el G bb) ?_ fun k hk hc => ?_
    · rw [IntOp.andi_eq_one, IntOp.andi_eq_one, ofBool_iff]
      exact ⟨⟨in_el r L74 v95 hv ha bb, (ne_iff _ _).mpr hne⟩, h21 bb hb.1⟩
    · rw [IntOp.andi_eq_one, IntOp.andi_eq_one, ofBool_iff] at hc
      obtain ⟨⟨hi, hn⟩, he⟩ := hc
      obtain ⟨e, rfl⟩ := of_in r v95 hv k hi
      have hea : e ≠ a := fun h => (ne_iff _ _).mp hn (by rw [h])
      rw [h21 e hea] at he
      have hlt : e < bb := Fin.lt_def.mpr (by have : 4 + 4 * G.val + e.val < 4 + 4 * G.val + bb.val := hk; omega)
      exact absurd (hb.2.2 e hea hlt) (by rw [show (fun e => L74 (ix2 r (el G e))) e = _ from he]; exact lt_irrefl _)
  pointwise [k0_pay23]
  simp only [h1, h2, ht]
  rw [hi2, sel_eq, sel_eq]

end Row

end Cert.KernelIdeal.Moe
-- ==== Proof.MoeIdeal.Value.lean ====
/-
  What a tile's computation stores at exact arithmetic, an element at a time: the sum of the group's four experts on the
  row, each scaled by the row's gate for it.
-/
module

public import proofs.«01_k».proof.Proof.MoeIdeal.Route

@[expose] public section

set_option maxRecDepth 16384

noncomputable section

namespace Cert.KernelIdeal.Moe

open Cert.KernelIdeal Cert.KernelIdeal.Gen Cert.Route
open Idealize.ShloMosaic Idealize.ShloMosaic.TcCoe Idealize.ShloMosaic.Tactic

variable (v1 : Elt Ideal .i32) (X : S4096x128.Idx → Elt Ideal .f32) (W : S1024x128.Idx → Elt Ideal .f32) (B : S1x128.Idx → Elt Ideal .f32)
  (G U : S1x1x4x1024x512.Idx → Elt Ideal .bf16) (D : S1x1x4x512x1024.Idx → Elt Ideal .bf16)

/-- A gathered row as one row of 1024 entries. -/
theorem x55_apply (r : Fin 512) (d : Fin 1024) :
    x55 (F := Ideal) X (ix2 r d) = X (ix2 (⟨8 * r.val + d.val / 128, by omega⟩ : Fin 4096) (⟨d.val % 128, by omega⟩ : Fin 128)) := by
  unfold x55
  pointwise [k0_pay8, sub]
  have hd := d.isLt
  repeat' split
  all_goals refine congrArg X (congrArg₂ ix2 (Fin.ext ?_) (Fin.ext ?_)) <;> simp only [] <;> omega

/-- The lane word the kernel computes for an expert of a group. -/
theorem lane_word (grp e : Fin 4) : Scalar.addi (Scalar.addi 4#32 (Scalar.muli 4#32 (BitVec.ofNat 32 grp.val))) (BitVec.ofNat 32 e.val) = BitVec.ofNat 32 (el grp e).val := by
  revert grp e; decide

/-- The sum over the lanes marked by an expert's lane number is that lane's entry. -/
theorem lane_sum (grp e : Fin 4) (hv : v1 = BitVec.ofNat 32 grp.val) (f : Fin 128 → EReal) :
    (∑ k : Fin 128, Scalar.select (IntOp.cmpi CmpIPredicate.eq (BitVec.ofNat 32 k.val)
      (Scalar.addi (Scalar.addi 4#32 (Scalar.muli 4#32 v1)) (BitVec.ofNat 32 e.val))) (f k) 0) = f (el grp e) := by
  rw [hv, lane_word]
  exact sum_select _ f (el grp e) fun k => eq_iff k _

/-- The gate column of the group's first expert. -/
theorem gcol0 (grp : Fin 4) (hv : v1 = BitVec.ofNat 32 grp.val) (r : Fin 512) :
    x190 (F := Ideal) v1 X W B (ix2 r 0) = x178 X W B (ix2 r (el grp 0)) := by
  unfold x190 x178
  pointwise [k0_pay26]
  exact lane_sum v1 grp 0 hv _

/-- The gate column of the group's second expert. -/
theorem gcol1 (grp : Fin 4) (hv : v1 = BitVec.ofNat 32 grp.val) (r : Fin 512) :
    x215 (F := Ideal) v1 X W B (ix2 r 0) = x178 X W B (ix2 r (el grp 1)) := by
  unfold x215 i75
  pointwise [k0_pay28]
  exact lane_sum v1 grp 1 hv _

/-- The stored row: the group's four experts, each scaled by the gate in its lane. -/
theorem x281_sum (grp : Fin 4) (hv : v1 = BitVec.ofNat 32 grp.val) (r : Fin 512) (d : Fin 1024) :
    x281 (F := Ideal) v1 X W B G U D (ix2 r d)
      = ∑ e : Fin 4, expert (fun k => x55 X (ix2 r k)) (fun k h => G (ix5 0 0 e k h)) (fun k h => U (ix5 0 0 e k h)) (fun h => D (ix5 0 0 e h d))
          (x178 X W B (ix2 r (el grp e))) := by
  unfold x281 i75 g3 d2 d3
  pointwise [k0_pay33, sub]
  unfold x252 x231 i75 g1 g2 d1
  pointwise [k0_pay32, k0_pay31, k0_pay30, sub]
  unfold x220 x206 g0 g1 d0
  pointwise [k0_pay29, k0_pay27, k0_pay25, k0_pay24, sub]
  have h2 := lane_sum v1 grp 2 hv (fun k => x178 X W B (ix2 r k))
  have h3 := lane_sum v1 grp 3 hv (fun k => x178 X W B (ix2 r k))
  rw [gcol0 v1 X W B grp hv, gcol1 v1 X W B grp hv, Fin.sum_univ_four]
  refine congrArg₂ (· + ·) (congrArg₂ (· + ·) rfl ?_) ?_
  · refine Finset.sum_congr rfl fun h _ => ?_
    exact congrArg (· * _) (congrArg (_ * ·) h2)
  · refine Finset.sum_congr rfl fun h _ => ?_
    exact congrArg (· * _) (congrArg (_ * ·) h3)

/-- Each expert's gate, by the row's routing. -/
theorem x178_gate (r : Fin 512) {g a b : Fin 4} (hG : IsFirst (fun _ => True) (rowL (x55 X) (w56 W) (b71 B) r) g)
    (ha : IsFirst (fun _ => True) (rowE (x55 X) (w56 W) (b71 B) r g) a) (hb : IsFirst (fun e => e ≠ a) (rowE (x55 X) (w56 W) (b71 B) r g) b)
    (grp e : Fin 4) :
    x178 X W B (ix2 r (el grp e)) = if grp = g then gate (rowL (x55 X) (w56 W) (b71 B) r) (rowE (x55 X) (w56 W) (b71 B) r g) g a b e else 0 := by
  unfold x178
  have h := gates_row r (x74 X W B) (x95 X W B) (gsel_row (x55 X) (w56 W) (b71 B) r hG) ha hb (x97 X W B) (el grp e)
  refine h.trans ?_
  rw [show x97 X W B (ix2 r 0) = _ from gw_row (x55 X) (w56 W) (b71 B) r hG]
  have hel : ∀ e', el grp e = el g e' ↔ grp = g ∧ e = e' := fun e' => by
    refine ⟨fun h => ?_, fun h => by rw [h.1, h.2]⟩
    have hv : 4 + 4 * grp.val + e.val = 4 + 4 * g.val + e'.val := congrArg Fin.val h
    exact ⟨Fin.ext (by omega), Fin.ext (by omega)⟩
  unfold gate
  simp only [hel]
  by_cases hg : grp = g
  · simp only [hg, true_and, if_true]; rfl
  · simp only [hg, false_and, if_false]

end Cert.KernelIdeal.Moe
-- ==== Proof.MoeIdeal.Out.lean ====
/-
  What the idealized kernel computes: what each window of a grid point holds of the arguments, the array that the blocks
  written back leave, and each of its entries as the routed experts of the row's token.
-/
module

public import proofs.«01_k».proof.Proof.MoeIdeal.Value
public import proofs.«01_k».proof.Proof.MoeIdeal.Run
public import Idealize.ShloMosaic.Lib.StableHlo.ReadAt
public import Idealize.ShloMosaic.Lib.Pipeline.ValueKit

@[expose] public section

set_option maxRecDepth 16384

noncomputable section

namespace Cert.KernelIdeal.Moe
open Cert.KernelIdeal Cert.KernelIdeal.Gen Cert.Route
open Idealize.ShloMosaic Idealize.ShloMosaic.TcCoe Idealize.ShloMosaic.Tactic
open Idealize.SL.Sem
variable (m : (ℓ : Loc nD τ sig) → Buf (Elt Ideal) ℓ)  (c : Dev nD)
variable (a : (pcfg0 (F := Ideal)).Adm)
/-- Every grid point writes its block of the result back. -/
theorem flush_all : ∀ t : Fin grid0.N, Pipeline.Window.flushOf grid0 true cc0_transform_6 t = true := by decide +kernel
/-- Point `t` writes block row `t`. -/
theorem ix_all : ∀ t : Fin grid0.N, cc0_transform_6 (grid0.coords t) = ![t.val, 0] := by decide +kernel
/-- The result's block is not empty. -/
theorem pos_all : ∀ x : Fin 2, 0 < S4096x128.size x := by decide
/-- The blocks written back cover the result. -/
theorem covers5 : ((cfg0 a).win 5).Covers := by
  refine ⟨fun x => pos_all x, fun β => ?_⟩
  have n0 : ((cfg0 a).win 5).nblk (0 : Fin 2) = 36 := by
    show (147456 + 4096 - 1) / 4096 = 36; norm_num
  have n1 : ((cfg0 a).win 5).nblk (1 : Fin 2) = 1 := by
    show (128 + 128 - 1) / 128 = 1; norm_num
  have h0 : (β (0 : Fin 2)).val < 36 := lt_of_lt_of_eq (β (0 : Fin 2)).isLt n0
  have h1 : (β (1 : Fin 2)).val < 1 := lt_of_lt_of_eq (β (1 : Fin 2)).isLt n1
  refine ⟨⟨(β (0 : Fin 2)).val, h0⟩, flush_all _, fun x => ⟨?_, Or.inl rfl⟩⟩
  show cc0_transform_6 (grid0.coords ⟨(β (0 : Fin 2)).val, h0⟩) x = _
  rw [ix_all]
  revert x
  refine (Fin.forall_fin_two (p := fun x : Fin 2 => _)).2 ⟨rfl, ?_⟩
  show 0 = (β (1 : Fin 2)).val; omega
/-- The routers' window holds the whole padded router matrix. -/
theorem w0_read (V : (c : Dev nD) → (b : Ref sig .tc) → Buf (Elt Ideal) ((c : Thread nD τ).loc b)) (t) (y : S1024x128.Idx) : W0 a V c t y = (V c main_v5 : S1024x128.Idx → EReal) y := by
  unfold W0
  blk_ext
  · have e : ((cfg0 a).win 0).index t (0 : Fin 2) = 0 := rfl
    show ((cfg0 a).win 0).index t (0 : Fin 2) * 1024 + _ = _
    omega
  · have e : ((cfg0 a).win 0).index t (1 : Fin 2) = 0 := rfl
    show ((cfg0 a).win 0).index t (1 : Fin 2) * 128 + _ = _
    omega
/-- The biases' window holds the whole padded bias row. -/
theorem b0_read (V : (c : Dev nD) → (b : Ref sig .tc) → Buf (Elt Ideal) ((c : Thread nD τ).loc b)) (t) (y : S1x128.Idx) : B0 a V c t y = (V c main_v13 : S1x128.Idx → EReal) y := by
  unfold B0
  blk_ext
  · rfl
  · have e : ((cfg0 a).win 1).index t (1 : Fin 2) = 0 := rfl
    show ((cfg0 a).win 1).index t (1 : Fin 2) * 128 + _ = _
    omega
/-- The gate matrices' window holds the four experts of the point's group. -/
theorem g0_read (V : (c : Dev nD) → (b : Ref sig .tc) → Buf (Elt Ideal) ((c : Thread nD τ).loc b)) (t) (e : Fin 4) (k : Fin 1024) (h : Fin 512) (q : Fin 4) (hq : grpOf a.1 (grid0.coords t) = q.val) : G0 a V c t (ix5 0 0 e k h) = (V c main_v17 : S2x4x4x1024x512.Idx → EReal) (ix5 0 q e k h) := by
  unfold G0
  blk_ext
  · rfl
  · exact hq
  · show 0 * 4 + _ = _ ; omega
  · show 0 * 1024 + _ = _ ; omega
  · show 0 * 512 + _ = _ ; omega
/-- So does the window of the up matrices. -/
theorem u0_read (V : (c : Dev nD) → (b : Ref sig .tc) → Buf (Elt Ideal) ((c : Thread nD τ).loc b)) (t) (e : Fin 4) (k : Fin 1024) (h : Fin 512) (q : Fin 4) (hq : grpOf a.1 (grid0.coords t) = q.val) : U0 a V c t (ix5 0 0 e k h) = (V c main_v18 : S2x4x4x1024x512.Idx → EReal) (ix5 0 q e k h) := by
  unfold U0
  blk_ext
  · rfl
  · exact hq
  · show 0 * 4 + _ = _ ; omega
  · show 0 * 1024 + _ = _ ; omega
  · show 0 * 512 + _ = _ ; omega
/-- So does the window of the down matrices. -/
theorem d0_read (V : (c : Dev nD) → (b : Ref sig .tc) → Buf (Elt Ideal) ((c : Thread nD τ).loc b)) (t) (e : Fin 4) (k : Fin 512) (h : Fin 1024) (q : Fin 4) (hq : grpOf a.1 (grid0.coords t) = q.val) : D0 a V c t (ix5 0 0 e k h) = (V c main_v19 : S2x4x4x512x1024.Idx → EReal) (ix5 0 q e k h) := by
  unfold D0
  blk_ext
  · rfl
  · exact hq
  · show 0 * 4 + _ = _ ; omega
  · show 0 * 512 + _ = _ ; omega
  · show 0 * 1024 + _ = _ ; omega
/-- The first four lanes of the padded router are the group router. -/
theorem v5_group (i : Fin 1024) (l : Fin 4) : (Vm m c main_v5 : S1024x128.Idx → EReal) (ix2 i ⟨l.val, by omega⟩) = (m ((c : Thread nD τ).loc main_arg3) : S2x1024x4.Idx → EReal) (ix3 0 i l) := by
  unfold Vm
  after_reads_at
  unfold StableHlo.upto
  after_reads_at
  rw [dif_pos (by omega)]
/-- The next sixteen lanes are the expert router. -/
theorem v5_expert (i : Fin 1024) (l : Fin 16) : (Vm m c main_v5 : S1024x128.Idx → EReal) (ix2 i ⟨4+l.val, by omega⟩) = (m ((c : Thread nD τ).loc main_arg5) : S2x1024x16.Idx → EReal) (ix3 0 i l) := by
  unfold Vm
  after_reads_at
  unfold StableHlo.upto
  after_reads_at
  rw [dif_pos (by omega)]
/-- The first four lanes of the padded bias are the group biases. -/
theorem v13_group (l : Fin 4) : (Vm m c main_v13 : S1x128.Idx → EReal) (ix2 0 ⟨l.val, by omega⟩) = (m ((c : Thread nD τ).loc main_arg4) : S2x4.Idx → EReal) (ix2 0 l) := by
  unfold Vm
  after_reads_at
  unfold StableHlo.upto
  after_reads_at
  rw [dif_pos (by omega)]
/-- The next sixteen lanes are the expert biases. -/
theorem v13_expert (l : Fin 16) : (Vm m c main_v13 : S1x128.Idx → EReal) (ix2 0 ⟨4+l.val, by omega⟩) = (m ((c : Thread nD τ).loc main_arg6) : S2x16.Idx → EReal) (ix2 0 l) := by
  unfold Vm
  after_reads_at
  unfold StableHlo.upto
  after_reads_at
  rw [dif_pos (by omega)]
/-- The staged activations are the activations, eight rows of 128 lanes to a token. -/
theorem v12_read (i : Fin 131072) (l : Fin 128) : (Vm m c main_v12 : S131072x128.Idx → EReal) (ix2 i l) = (m ((c : Thread nD τ).loc main_arg0) : S16384x1024.Idx → EReal) (ix2 ⟨i.val/8, by omega⟩ ⟨i.val%8*128+l.val, by omega⟩) := by
  unfold Vm
  after_reads_at
/-- The staged gate matrices are the argument, expert by expert of each group. -/
theorem v17_read (g e : Fin 4) (k : Fin 1024) (h : Fin 512) : (Vm m c main_v17 : S2x4x4x1024x512.Idx → EReal) (ix5 0 g e k h) = (m ((c : Thread nD τ).loc main_arg7) : S2x16x1024x512.Idx → EReal) (ix4 0 ⟨g.val*4+e.val, by omega⟩ k h) := by
  unfold Vm
  after_reads_at
/-- So are the up matrices. -/
theorem v18_read (g e : Fin 4) (k : Fin 1024) (h : Fin 512) : (Vm m c main_v18 : S2x4x4x1024x512.Idx → EReal) (ix5 0 g e k h) = (m ((c : Thread nD τ).loc main_arg8) : S2x16x1024x512.Idx → EReal) (ix4 0 ⟨g.val*4+e.val, by omega⟩ k h) := by
  unfold Vm
  after_reads_at
/-- So are the down matrices. -/
theorem v19_read (g e : Fin 4) (h : Fin 512) (k : Fin 1024) : (Vm m c main_v19 : S2x4x4x512x1024.Idx → EReal) (ix5 0 g e h k) = (m ((c : Thread nD τ).loc main_arg9) : S2x16x512x1024.Idx → EReal) (ix4 0 ⟨g.val*4+e.val, by omega⟩ h k) := by
  unfold Vm
  after_reads_at

/-- The result's array: tile by tile what the points store. -/
def outArr (V : (c : Dev nD) → (b : Ref sig .tc) → Buf (Elt Ideal) ((c : Thread nD τ).loc b)) (c : Dev nD) : S147456x128.Idx → EReal :=
  fun i => O0 a V c ⟨(i 0).val / 4096, by have : (i 0).val < 147456 := (i 0).isLt; show _ < 36; omega⟩ (ix2 ⟨(i 0).val % 4096, by omega⟩ ⟨(i 1).val, (i 1).isLt⟩)
/-- At the end of the run the result is that array. -/
theorem out_arr (V : (c : Dev nD) → (b : Ref sig .tc) → Buf (Elt Ideal) ((c : Thread nD τ).loc b)) :
    (dats a V 0 c).arrAt 5 (Pipeline.pin pcfgs (fun _ => a) 0).N = outArr a V c := by
  refine Pipeline.Dat.arrAt_eq_of_covers (dats a V 0 c) 5 _ (covers5 a) fun t hf y => ?_
  blk_simp
  have e0 : (((((Pipeline.pin pcfgs (fun _ => a) 0).win 5).blk t).view.emb y) (0 : Fin 2)).val = t.val * 4096 + (y (0 : Fin 2)).val := by
    have h := ix_all t
    have h' : ((cfg0 a).win 5).index t (0 : Fin 2) = t.val := congrFun h (0 : Fin 2)
    rw [← h']
    exact ValueKit.view_emb_slice_whole_unit_val main_v20 _ _ _ y (0 : Fin 2)
  have e1 : (((((Pipeline.pin pcfgs (fun _ => a) 0).win 5).blk t).view.emb y) (1 : Fin 2)).val = (y (1 : Fin 2)).val := by
    have h := ix_all t
    have h' : ((cfg0 a).win 5).index t (1 : Fin 2) = 0 := congrFun h (1 : Fin 2)
    refine Eq.trans (b := ((cfg0 a).win 5).index t (1 : Fin 2) * 128 + (y (1 : Fin 2)).val) (ValueKit.view_emb_slice_whole_unit_val main_v20 _ _ _ y (1 : Fin 2)) ?_
    rw [h']; omega
  have y0 : (y (0 : Fin 2)).val < 4096 := (y (0 : Fin 2)).isLt
  show O0 a V c t y = O0 a V c _ _
  congr 1
  · refine Fin.ext ?_
    show t.val = _ / 4096
    rw [e0]; omega
  · funext x
    revert x
    refine (Fin.forall_fin_two (p := fun x : Fin 2 => _)).2 ⟨Fin.ext ?_, Fin.ext ?_⟩
    · show (y (0 : Fin 2)).val = _ % 4096
      rw [e0]; omega
    · exact e1.symm
/-- A real number less itself is zero. -/
theorem real_sub {x : EReal} (h : IsReal x) : x - x = 0 := by
  obtain ⟨v, rfl⟩ := h
  rw [← EReal.coe_sub, sub_self, EReal.coe_zero]

/-- The kernel's logit, of a real row and a real column: the two low parts are zero. -/
theorem logit_row (x : FVec Ideal S512x1024 .f32) (w : Vec Ideal S1024x128 .f32) (b : Vec Ideal S1x128 .f32) (r : Fin 512) (l : Fin 128)
    (hx : ∀ k, IsReal (x (ix2 r k))) (hw : ∀ k, IsReal (w (ix2 k l))) :
    k0_pay9 (F := Ideal) x w b (ix2 r l) = logit (fun k => x (ix2 r k)) (fun k => w (ix2 k l)) (b (ix2 0 l)) := by
  pointwise [k0_pay9]
  unfold logit
  rw [show (∑ k, x (ix2 r k) * (w (ix2 k l) - w (ix2 k l))) = 0 from Finset.sum_eq_zero fun k _ => by rw [real_sub (hw k), mul_zero],
    show (∑ k, (x (ix2 r k) - x (ix2 r k)) * w (ix2 k l)) = 0 from Finset.sum_eq_zero fun k _ => by rw [real_sub (hx k), zero_mul]]
  rw [add_zero, add_zero]

/-- The body does its products exactly for tiles whose word names a group. -/
theorem cond3_iff (n : ℕ) (hn : n ≤ 4) : k0_cond3 (BitVec.ofNat 32 n) = 1#1 ↔ n < 4 := by
  interval_cases n <;> decide

/-- Point `t` reads word `t` of the group table. -/
theorem off_all : ∀ t : Fin grid0.N, ∀ x : Fin 1, k0_off1 (grid0.coords t) x = t.val := by decide +kernel

/-- The group word read at a point is the table's. -/
theorem word_at (pf : pre0.Contents (Elt Ideal)) (t : Fin grid0.N) (ht : t.val < 36) :
    (pf.at 0 (Rect.unit (s := S36) (k0_off1 (grid0.coords t)) S1.size (k0_off1_inb (grid0.coords t))) numel1_S1 : BitVec 32)
      = (pf 0 : S36.Idx → BitVec 32) (ix1 ⟨t.val, ht⟩) := by
  refine congrArg (pf 0 : S36.Idx → BitVec 32) ?_
  funext x
  revert x
  show ∀ x : Fin 1, _
  intro x
  obtain rfl : x = 0 := Subsingleton.elim _ _
  refine Fin.ext (Eq.trans (b := k0_off1 (grid0.coords t) 0 + 1 * 0) rfl ?_)
  rw [off_all]; rfl
/-- The high part of the router, rounded, is the router. -/
theorem w56_apply (W : S1024x128.Idx → EReal) (k : Fin 1024) (l : Fin 128) : w56 (F := Ideal) W (ix2 k l) = W (ix2 k l) := by
  unfold w56
  pointwise [sub]
/-- The bias row is read as it is. -/
theorem b71_apply (W : S1x128.Idx → EReal) (l : Fin 128) : b71 (F := Ideal) W (ix2 0 l) = W (ix2 0 l) := by
  unfold b71
  pointwise [sub]

/-- What a point stores at a row and a column, its token's row and the routers real. -/
theorem blk_slot (n : ℕ) (hn : n ≤ 4) (X : S4096x128.Idx → EReal) (W : S1024x128.Idx → EReal) (B : S1x128.Idx → EReal)
    (Gm Um : S1x1x4x1024x512.Idx → EReal) (D : S1x1x4x512x1024.Idx → EReal) (r : Fin 512) (d : Fin 1024)
    (x : Fin 1024 → EReal) (wg : Fin 1024 → Fin 4 → EReal) (bg : Fin 4 → EReal) (we : Fin 1024 → Fin 16 → EReal) (be : Fin 16 → EReal)
    (gm um : Fin 16 → Fin 1024 → Fin 512 → EReal) (dn : Fin 16 → Fin 512 → EReal)
    (hX : ∀ k, x55 (F := Ideal) X (ix2 r k) = x k) (hWg : ∀ k g, W (ix2 k (gl g)) = wg k g) (hBg : ∀ g, B (ix2 0 (gl g)) = bg g)
    (hWe : ∀ k G e, W (ix2 k (el G e)) = we k (jn G e)) (hBe : ∀ G e, B (ix2 0 (el G e)) = be (jn G e))
    (hG : ∀ (h : n < 4) e k j, Gm (ix5 0 0 e k j) = gm (jn ⟨n, h⟩ e) k j) (hU : ∀ (h : n < 4) e k j, Um (ix5 0 0 e k j) = um (jn ⟨n, h⟩ e) k j)
    (hD : ∀ (h : n < 4) e j, D (ix5 0 0 e j d) = dn (jn ⟨n, h⟩ e) j)
    (rx : ∀ k, IsReal (x k)) (rg : ∀ k g, IsReal (wg k g)) (re : ∀ k e, IsReal (we k e)) :
    (if k0_cond3 (BitVec.ofNat 32 n) = 1#1 then x281 (F := Ideal) (BitVec.ofNat 32 n) X W B Gm Um D (ix2 r d) else 0)
      = slot x wg bg we be gm um dn n := by
  unfold slot
  by_cases h : n < 4
  swap
  · rw [dif_neg h, if_neg (fun hc => h ((cond3_iff n hn).mp hc))]
  rw [dif_pos h, if_pos ((cond3_iff n hn).mpr h)]
  have eL : rowL (x55 (F := Ideal) X) (w56 W) (b71 B) r = fun g => logit x (fun k => wg k g) (bg g) := by
    funext g
    refine (logit_row _ _ _ r (gl g) (fun k => by rw [hX]; exact rx k) (fun k => by rw [w56_apply, hWg]; exact rg k g)).trans ?_
    rw [show (fun k => x55 (F := Ideal) X (ix2 r k)) = x from funext hX]
    exact congrArg₂ (logit x) (funext fun k => (w56_apply W k _).trans (hWg k g)) ((b71_apply B _).trans (hBg g))
  have eE : rowE (x55 (F := Ideal) X) (w56 W) (b71 B) r = fun G e => logit x (fun k => we k (jn G e)) (be (jn G e)) := by
    funext G e
    refine (logit_row _ _ _ r (el G e) (fun k => by rw [hX]; exact rx k) (fun k => by rw [w56_apply, hWe]; exact re k _)).trans ?_
    rw [show (fun k => x55 (F := Ideal) X (ix2 r k)) = x from funext hX]
    exact congrArg₂ (logit x) (funext fun k => (w56_apply W k _).trans (hWe k G e)) ((b71_apply B _).trans (hBe G e))
  rw [x281_sum (BitVec.ofNat 32 n) X W B Gm Um D ⟨n, h⟩ rfl r d]
  have hgate := fun e => x178_gate X W B r (sorted_first _) (sorted_first _) (sorted_second _) ⟨n, h⟩ e
  simp only [hgate, hX, hG h, hU h, hD h, eL, eE]
  unfold routed
  split
  · rename_i hq
    rw [← hq]
  · exact Finset.sum_eq_zero fun e _ => expert_zero _ _ _ _

/-- A gathered row is the row of the staged activations that its token names. -/
theorem rows_apply (f : S131072x128.Idx → EReal) (tk : ℕ → ℕ) (i : Fin 4096) (l : Fin 128) :
    rows (F := Ideal) f tk (ix2 i l) = f (ix2 ⟨(8 * tk (i.val / 8) + i.val % 8) % 131072, Nat.mod_lt _ (by decide)⟩ l) := rfl

/-- The stored block at a row and a lane: the row of the products where the tile is used, zero where it is not. -/
theorem blk_apply (v1 : BitVec 32) (X : S4096x128.Idx → EReal) (W : S1024x128.Idx → EReal) (B : S1x128.Idx → EReal)
    (Gm Um : S1x1x4x1024x512.Idx → EReal) (D : S1x1x4x512x1024.Idx → EReal) (p : Fin 4096) (l : Fin 128) :
    blk (F := Ideal) v1 X W B Gm Um D (ix2 p l)
      = if k0_cond3 v1 = 1#1 then x281 (F := Ideal) v1 X W B Gm Um D (ix2 ⟨p.val / 8, by omega⟩ ⟨128 * (p.val % 8) + l.val, by omega⟩) else 0 := by
  unfold blk
  split
  · rfl
  · pointwise [k0_pay7]

section Final
variable (m : (ℓ : Loc nD τ sig) → Buf (Elt Ideal) ℓ) (c : Dev nD)
/-! The arguments as functions of their indices. -/

abbrev a0 : S16384x1024.Idx → EReal := m ((c : Thread nD τ).loc main_arg0)
abbrev a1 : S36.Idx → BitVec 32 := m ((c : Thread nD τ).loc main_arg1)
abbrev a2 : S18432.Idx → BitVec 32 := m ((c : Thread nD τ).loc main_arg2)
abbrev a3 : S2x1024x4.Idx → EReal := m ((c : Thread nD τ).loc main_arg3)
abbrev a4 : S2x4.Idx → EReal := m ((c : Thread nD τ).loc main_arg4)
abbrev a5 : S2x1024x16.Idx → EReal := m ((c : Thread nD τ).loc main_arg5)
abbrev a6 : S2x16.Idx → EReal := m ((c : Thread nD τ).loc main_arg6)
abbrev a7 : S2x16x1024x512.Idx → EReal := m ((c : Thread nD τ).loc main_arg7)
abbrev a8 : S2x16x1024x512.Idx → EReal := m ((c : Thread nD τ).loc main_arg8)
abbrev a9 : S2x16x512x1024.Idx → EReal := m ((c : Thread nD τ).loc main_arg9)

/-- A gathered row, seen as 1024 entries, is the token's activations. -/
theorem x_row (tk : ℕ → ℕ) (r : Fin 512) (k : Fin 1024) (q : ℕ) (hq : q < 16384) (h : tk r.val = q) :
    x55 (F := Ideal) (rows (stgV (Vm m) 0) tk) (ix2 r k) = a0 m 0 (ix2 ⟨q % 16384, Nat.mod_lt _ (by decide)⟩ k) := by
  have hk := k.isLt
  refine (x55_apply (rows (stgV (Vm m) 0) tk) r k).trans ?_
  refine (rows_apply _ tk _ _).trans ?_
  have e : (8 * r.val + k.val / 128) / 8 = r.val := by omega
  refine (v12_read m 0 _ _).trans (congrArg (a0 m 0) (congrArg₂ ix2 (Fin.ext ?_) (Fin.ext ?_)))
  · simp only [e, h]
    omega
  · simp only [e, h]
    omega

variable (hr : InRange (m (((0 : Dev nD) : Thread nD τ).loc main_arg1)) (m (((0 : Dev nD) : Thread nD τ).loc main_arg2)))

/-- The kernel's result at a row and a lane. -/
theorem out_slot (rx : ∀ i k, IsReal (a0 m c (ix2 i k))) (rg : ∀ k g, IsReal (a3 m c (ix3 0 k g))) (re : ∀ k e, IsReal (a5 m c (ix3 0 k e)))
    (R : Fin 147456) (l : Fin 128) :
    outArr (adm m hr) (Vm m) c (ix2 R l)
      = slot (fun k => a0 m c (ix2 ⟨(a2 m c (ix1 ⟨R.val / 8, by omega⟩)).toNat % 16384, by omega⟩ k)) (fun k g => a3 m c (ix3 0 k g)) (fun g => a4 m c (ix2 0 g))
        (fun k e => a5 m c (ix3 0 k e)) (fun e => a6 m c (ix2 0 e)) (fun e k j => a7 m c (ix4 0 e k j)) (fun e k j => a8 m c (ix4 0 e k j))
        (fun e j => a9 m c (ix4 0 e j ⟨R.val % 8 * 128 + l.val, by omega⟩)) (a1 m c (ix1 ⟨R.val / 8 / 512, by omega⟩)).toNat := by
  obtain rfl : c = 0 := Subsingleton.elim _ _
  have hR := R.isLt
  have ht : R.val / 4096 < 36 := by omega
  obtain ⟨t, et⟩ : ∃ t : Fin grid0.N, t = ⟨R.val / 4096, ht⟩ := ⟨_, rfl⟩
  have etv : t.val = R.val / 4096 := by rw [et]
  have e1 : grpAt (grpV (Vm m) 0) t.val = a1 m 0 (ix1 ⟨R.val / 8 / 512, by omega⟩) := by
    rw [grp_eq]
    refine congrArg (a1 m 0) (congrArg ix1 (Fin.ext ?_))
    show t.val % 36 = R.val / 8 / 512
    omega
  have e2 : ∀ j : ℕ, j = R.val % 4096 / 8 → tok (tabV (Vm m) 0) t.val j = (a2 m 0 (ix1 ⟨R.val / 8, by omega⟩)).toNat := by
    intro j hj
    unfold tok tabAt
    rw [tab_eq]
    refine congrArg BitVec.toNat (congrArg (a2 m 0) (congrArg ix1 (Fin.ext ?_)))
    show (512 * t.val + j) % 18432 = R.val / 8
    omega
  have hn := hr.1 (ix1 ⟨R.val / 8 / 512, by omega⟩)
  have hk := hr.2 (ix1 ⟨R.val / 8, by omega⟩)
  unfold outArr
  show O0 (adm m hr) (Vm m) 0 ⟨R.val / 4096, ht⟩ (ix2 ⟨R.val % 4096, _⟩ ⟨l.val, _⟩) = _
  rw [← et]
  unfold O0
  rw [e1]
  obtain ⟨n, en⟩ : ∃ n, n = (a1 m 0 (ix1 ⟨R.val / 8 / 512, by omega⟩)).toNat := ⟨_, rfl⟩
  have ew : a1 m 0 (ix1 ⟨R.val / 8 / 512, by omega⟩) = BitVec.ofNat 32 n := by
    rw [en]; exact (BitVec.ofNat_toNat 32 _ ▸ (BitVec.setWidth_eq _).symm)
  rw [← en]
  rw [ew]
  have hq : ∀ h : n < 4, grpOf (adm m hr).1 (grid0.coords t) = (⟨n, h⟩ : Fin 4).val := by
    intro h
    unfold grpOf
    rw [word_at _ t (by omega)]
    have : ((adm m hr).1 0 : S36.Idx → BitVec 32) (ix1 ⟨t.val, by omega⟩) = BitVec.ofNat 32 n := by
      rw [← ew]
      refine (congrFun (grp_eq m 0) _).trans (congrArg (a1 m 0) (congrArg ix1 (Fin.ext ?_)))
      show t.val = R.val / 8 / 512
      omega
    rw [this]
    clear this en ew hn
    interval_cases n <;> rfl
  refine (blk_apply (BitVec.ofNat 32 n) (rows (stgV (Vm m) 0) (tok (tabV (Vm m) 0) t.val)) (W0 (adm m hr) (Vm m) 0 t) (B0 (adm m hr) (Vm m) 0 t)
    (G0 (adm m hr) (Vm m) 0 t) (U0 (adm m hr) (Vm m) 0 t) (D0 (adm m hr) (Vm m) 0 t) _ _).trans ?_
  have ed : (⟨128 * (R.val % 4096 % 8) + l.val, by omega⟩ : Fin 1024) = ⟨R.val % 8 * 128 + l.val, by omega⟩ := Fin.ext (by simp only []; omega)
  rw [ed]
  refine blk_slot n (by rw [en]; exact hn) _ _ _ _ _ _ _ _ _ _ _ _ _ _ _ _ ?_ ?_ ?_ ?_ ?_ ?_ ?_ ?_ ?_ ?_ ?_
  · intro k
    exact x_row m _ _ k _ hk (e2 _ rfl)
  · intro k g
    rw [w0_read]
    exact v5_group m 0 k g
  · intro g
    rw [b0_read]
    exact v13_group m 0 g
  · intro k G e
    rw [w0_read]
    refine Eq.trans (congrArg _ (congrArg₂ ix2 rfl (Fin.ext ?_))) (v5_expert m 0 k (jn G e))
    show 4 + 4 * G.val + e.val = 4 + (G.val * 4 + e.val)
    omega
  · intro G e
    rw [b0_read]
    refine Eq.trans (congrArg _ (congrArg₂ ix2 rfl (Fin.ext ?_))) (v13_expert m 0 (jn G e))
    show 4 + 4 * G.val + e.val = 4 + (G.val * 4 + e.val)
    omega
  · intro h e k j
    rw [g0_read 0 (adm m hr) (Vm m) t e k j ⟨n, h⟩ (hq h)]
    exact v17_read m 0 _ _ _ _
  · intro h e k j
    rw [u0_read 0 (adm m hr) (Vm m) t e k j ⟨n, h⟩ (hq h)]
    exact v18_read m 0 _ _ _ _
  · intro h e j
    rw [d0_read 0 (adm m hr) (Vm m) t e j _ ⟨n, h⟩ (hq h)]
    exact v19_read m 0 _ _ _ _
  · exact fun k => rx _ k
  · exact rg
  · exact re

/-- The run of @main: the result is the array of the tiles, and the arguments end as they began. -/
theorem run_out (ρ : Dev nD → PrngReg) :
    θ_run defs (onTc (τ := τ) (main (F := Ideal))) ⟨m, fun _ => 0, ρ⟩
      (fun r => (∀ c : Dev nD, r.2.mem ((c.tc : Thread nD τ).loc main_v20) = outArr (adm m hr) (Vm m) c ∧ Kept m r.2.mem c) ∧ r.2.sem = fun _ => 0) :=
  (θ_run defs _ _).mono (fun _ h => ⟨fun c => ⟨((h.1 c).1 5).trans (out_arr c (adm m hr) (Vm m)), kept_all m hr c h.1⟩, h.2⟩) (run_main m ρ hr)
end Final
end Cert.KernelIdeal.Moe
-- ==== Proof.RefValue.lean ====
/-
  What the reference computes, an entry at a time: the gathered tokens, the logits, the sorts that pick the group and its
  two experts, the gates, and each entry of the result as the routed experts of the row's token.
-/
module

public import proofs.«01_k».proof.Proof.Ref
public import proofs.«01_k».proof.Proof.Spec
public import Idealize.ShloMosaic.Lib.Pointwise

@[expose] public section

set_option maxRecDepth 16384

noncomputable section

namespace Cert.ReferenceIdeal.Route
open Cert.ReferenceIdeal Cert.ReferenceIdeal.Gen Cert.ReferenceIdeal.Read Cert.Route
open Idealize.ShloMosaic Idealize.ShloMosaic.TcCoe Idealize.ShloMosaic.Tactic
variable (x0 : (⟨S16384x1024, .f32⟩ : BufTy).Contents (Elt Ideal)) (x1 : (⟨S36, .i32⟩ : BufTy).Contents (Elt Ideal)) (x2 : (⟨S18432, .i32⟩ : BufTy).Contents (Elt Ideal))
  (x3 : (⟨S2x1024x4, .f32⟩ : BufTy).Contents (Elt Ideal)) (x4 : (⟨S2x4, .f32⟩ : BufTy).Contents (Elt Ideal)) (x5 : (⟨S2x1024x16, .f32⟩ : BufTy).Contents (Elt Ideal)) (x6 : (⟨S2x16, .f32⟩ : BufTy).Contents (Elt Ideal))
  (x7 x8 : (⟨S2x16x1024x512, .f32⟩ : BufTy).Contents (Elt Ideal)) (x9 : (⟨S2x16x512x1024, .f32⟩ : BufTy).Contents (Elt Ideal))
/-- The index `(s, j)` with its second coordinate replaced by `q`. -/
def along1 {R : ℕ} (s : Fin R) (j q : Fin 4) : (⟨2, ![R, 4]⟩ : Shape).Idx := (ix2 s j : (⟨2, ![R, 4]⟩ : Shape).Idx).along (1 : Fin 2) q
/-- It is the row's index at `q`. -/
theorem along1_eq {R : ℕ} (s : Fin R) (j q : Fin 4) : along1 s j q = ix2 s q := by
  funext a
  revert a
  exact (Fin.forall_fin_two (p := fun a : Fin 2 => _)).2 ⟨rfl, rfl⟩

/-- A row sorted by descending entries: the comparator of the sort is the order of the numbers. -/
theorem sort_row {R : ℕ} {β : Type} (x : FVec Ideal ⟨2, ![R, 4]⟩ .f32) (y : (⟨2, ![R, 4]⟩ : Shape).Idx → β) (s : Fin R) (j : Fin 4) :
    (Host.sort2 ⟨2, ![R, 4]⟩ 1 (fun l r => FloatOps.cmpfTotal (F := Ideal) (φ := .f32) .gt l.1 r.1) x y).1 (ix2 s j) = x (ix2 s (sortedFrom (gtB fun g => x (ix2 s g)) j))
    ∧ (Host.sort2 ⟨2, ![R, 4]⟩ 1 (fun l r => FloatOps.cmpfTotal (F := Ideal) (φ := .f32) .gt l.1 r.1) x y).2 (ix2 s j) = y (ix2 s (sortedFrom (gtB fun g => x (ix2 s g)) j)) := by
  have e : sortedFrom (fun k k' : Fin 4 => FloatOps.cmpfTotal (F := Ideal) (φ := .f32) .gt (x (along1 s j k)) (x (along1 s j k')) == 1#1) = sortedFrom (gtB fun g => x (ix2 s g)) := by
    refine sortedFrom_congr _ _ fun k k' _ => ?_
    rw [along1_eq, along1_eq]
    show (BitVec.ofBool (decide (x (ix2 s k') < x (ix2 s k))) == 1#1) = decide (x (ix2 s k') < x (ix2 s k))
    by_cases h : x (ix2 s k') < x (ix2 s k) <;> simp [h]
  constructor
  · refine Eq.trans (b := x (along1 s j (sortedFrom (fun k k' : Fin 4 => FloatOps.cmpfTotal (F := Ideal) (φ := .f32) .gt (x (along1 s j k)) (x (along1 s j k')) == 1#1) j))) rfl ?_
    rw [e, along1_eq]
  · refine Eq.trans (b := y (along1 s j (sortedFrom (fun k k' : Fin 4 => FloatOps.cmpfTotal (F := Ideal) (φ := .f32) .gt (x (along1 s j k)) (x (along1 s j k')) == 1#1) j))) rfl ?_
    rw [e, along1_eq]

/-- The group the reference picks is the first of the sort. -/
theorem gsel_read (s : Fin 18432) : val_main_v36 x0 x2 x3 x4 (ix1 s) = BitVec.ofNat 32 (sortedFrom (gtB fun g => val_main_v24 x0 x2 x3 x4 (ix2 s g)) 0).val := by
  pointwise [val_main_v36, val_main_indices, Host.topK]
  exact (sort_row _ _ s 0).2
/-- The two expert logits it picks are the first two of the sort. -/
theorem vals_read (s : Fin 18432) (j : Fin 2) : val_main_values_5 x0 x2 x3 x4 x5 x6 (ix2 s j) = val_main_v48 x0 x2 x3 x4 x5 x6 (ix2 s (sortedFrom (gtB fun e => val_main_v48 x0 x2 x3 x4 x5 x6 (ix2 s e)) ⟨j.val, by omega⟩)) := by
  pointwise [val_main_values_5, Host.topK]
  exact (sort_row _ _ s ⟨j.val, by omega⟩).1
/-- And their places. -/
theorem idx_read (s : Fin 18432) (j : Fin 2) : val_main_indices_6 x0 x2 x3 x4 x5 x6 (ix2 s j) = BitVec.ofNat 32 (sortedFrom (gtB fun e => val_main_v48 x0 x2 x3 x4 x5 x6 (ix2 s e)) ⟨j.val, by omega⟩).val := by
  pointwise [val_main_indices_6, Host.topK]
  have h := (sort_row (val_main_v48 x0 x2 x3 x4 x5 x6) (fun i : S18432x4.Idx => BitVec.ofNat 32 (i 1).val) s ⟨j.val, by omega⟩).2
  exact h

/-- A token word in range is not wrapped. -/
theorem wrap_word (v : BitVec 32) (h : v.toNat < 16384) : Scalar.select (IntOp.cmpi CmpIPredicate.slt v 0#32) (IntOp.addi v 16384#32) v = v := by
  refine if_neg ?_
  show ¬ BitVec.ofBool (v.slt 0#32) = 1#1
  have : v.slt 0#32 = false := by
    rw [Bool.eq_false_iff]
    intro hs
    rw [BitVec.slt_iff_toInt_lt] at hs
    rw [BitVec.toInt_eq_toNat_of_lt (by omega)] at hs
    simp at hs
    omega
  rw [this]; decide

/-- The gathered row is the token's activations. -/
theorem tok_read (s : Fin 18432) (k : Fin 1024) (h : (x2 (ix1 s)).toNat < 16384) : val_main_v20 x0 x2 (ix2 s k) = x0 (ix2 ⟨(x2 (ix1 s)).toNat % 16384, Nat.mod_lt _ (by decide)⟩ k) := by
  have hv : val_main_v19 (F := Ideal) x2 (ix2 s 0) = x2 (ix1 s) := by
    pointwise [val_main_v19, val_main_v18, val_main_v17, val_main_v16, val_main_c_0, val_main_v15, val_main_v14, val_main_c]
    exact wrap_word _ h
  unfold val_main_v20 Host.gather
  refine congrArg x0 ?_
  generalize val_main_v19 (F := Ideal) x2 = idx at hv
  funext a
  revert a
  refine (Fin.forall_fin_two (p := fun a : Fin 2 => _)).2 ⟨Fin.ext ?_, Fin.ext ?_⟩
  · show (gather_S16384x1024_S18432x1_S18432x1024_1_0_n_n_0_1_11024).start (ix2 s k) idx 0 + (gather_S16384x1024_S18432x1_S18432x1024_1_0_n_n_0_1_11024).batchCoord (ix2 s k) 0 + (gather_S16384x1024_S18432x1_S18432x1024_1_0_n_n_0_1_11024).offCoord (ix2 s k) 0 = (x2 (ix1 s)).toNat % 16384
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S16384x1024_S18432x1_S18432x1024_1_0_n_n_0_1_11024).startIndexMap from List.mem_singleton.mpr rfl)]
    have hsi : (gather_S16384x1024_S18432x1_S18432x1024_1_0_n_n_0_1_11024).siIdx (ix2 s k) ⟨List.idxOf (0 : Fin 2) (gather_S16384x1024_S18432x1_S18432x1024_1_0_n_n_0_1_11024).startIndexMap,
      List.idxOf_lt_length_iff.2 (List.mem_singleton.mpr rfl)⟩ = ix2 s 0 := by
      funext b
      revert b
      refine (Fin.forall_fin_two (p := fun a : Fin 2 => _)).2 ⟨rfl, rfl⟩
    rw [hsi, hv, BitVec.toInt_eq_toNat_of_lt (by omega)]
    show min (Int.toNat ((x2 (ix1 s)).toNat : ℤ)) (16384 - 1) + 0 + 0 = _
    rw [Int.toNat_natCast]
    omega
  · show (gather_S16384x1024_S18432x1_S18432x1024_1_0_n_n_0_1_11024).start (ix2 s k) idx 1 + (gather_S16384x1024_S18432x1_S18432x1024_1_0_n_n_0_1_11024).batchCoord (ix2 s k) 1 + (gather_S16384x1024_S18432x1_S18432x1024_1_0_n_n_0_1_11024).offCoord (ix2 s k) 1 = k.val
    rw [GatherDims.batchCoord_eq_zero _ _ _ List.not_mem_nil]
    unfold GatherDims.start
    rw [dif_neg (show (1 : Fin 2) ∉ (gather_S16384x1024_S18432x1_S18432x1024_1_0_n_n_0_1_11024).startIndexMap by decide)]
    refine (Nat.zero_add _).trans ?_
    unfold GatherDims.offCoord
    rfl

/-- The word of minus infinity is minus infinity. -/
theorem ninf : Ideal.ofBits FTy.f32 4286578688#32 = (⊥ : EReal) := rfl

/-- A one-hot entry: one at the place, zero elsewhere. -/
theorem onehot (a b : Fin 4) : FloatOps.uitofp (F := Ideal) FTy.f32 (IntOp.cmpi CmpIPredicate.eq (BitVec.ofNat 32 a.val) (BitVec.ofNat 32 b.val)) = if b = a then (1 : EReal) else 0 := by
  have h : IntOp.cmpi CmpIPredicate.eq (BitVec.ofNat 32 a.val) (BitVec.ofNat 32 b.val) = if b = a then 1#1 else 0#1 := by
    revert a b; decide
  rw [h]
  split
  · show ((((1#1 : BitVec 1).toNat : ℝ)) : EReal) = 1
    simp
  · show ((((0#1 : BitVec 1).toNat : ℝ)) : EReal) = 0
    simp

/-- The maximum over a row is its largest entry. -/
theorem fold_max_all {n : ℕ} (f : Fin n → EReal) (i : Fin n) (h : ∀ k, f k ≤ f i) : Finset.fold max (⊥ : EReal) f Finset.univ = f i :=
  fold_max_mask (fun _ => 1#1) f i rfl fun k _ => h k

/-- A sum against a one-hot row is the entry at its place. -/
theorem sum_onehot {n : ℕ} (f : Fin n → EReal) (i : Fin n) : (∑ k, (if k = i then (1 : EReal) else 0) * f k) = f i := by
  rw [Finset.sum_eq_single i]
  · rw [if_pos rfl, one_mul]
  · exact fun k _ hk => by rw [if_neg hk, zero_mul]
  · exact fun hn => absurd (Finset.mem_univ _) hn

/-- A real number less itself is zero. -/
theorem real_sub {x : EReal} (h : IsReal x) : x - x = 0 := by
  obtain ⟨v, rfl⟩ := h
  rw [← EReal.coe_sub, sub_self, EReal.coe_zero]
/-- The exponential of zero is one. -/
theorem exp_zero : Ideal.exp 0 = 1 := by
  rw [← EReal.coe_zero, Ideal.exp_coe, Real.exp_zero, EReal.coe_one]

/-! ## The logits -/

/-- The group logits. -/
theorem glog_read (s : Fin 18432) (g : Fin 4) :
    val_main_v24 x0 x2 x3 x4 (ix2 s g) = logit (fun k => val_main_v20 x0 x2 (ix2 s k)) (fun k => x3 (ix3 0 k g)) (x4 (ix2 0 g)) := by
  pointwise [val_main_v24, val_main_v23, val_main_v22, val_main_v21, val_main_v3, val_main_v2, val_main_v1, val_main_v0]
  rfl
/-- The expert logits. -/
theorem elog_read (s : Fin 18432) (e : Fin 16) :
    val_main_v43 x0 x2 x5 x6 (ix2 s e) = logit (fun k => val_main_v20 x0 x2 (ix2 s k)) (fun k => x5 (ix3 0 k e)) (x6 (ix2 0 e)) := by
  pointwise [val_main_v43, val_main_v42, val_main_v41, val_main_v40, val_main_v7, val_main_v6, val_main_v5, val_main_v4]
  rfl

section Row
variable (s : Fin 18432) (G a b : Fin 4) (L : Fin 4 → EReal) (E : Fin 4 → EReal)

/-- The one-hot row of the chosen group. -/
theorem group_hot (hG : val_main_v36 x0 x2 x3 x4 (ix1 s) = BitVec.ofNat 32 G.val) (g : Fin 4) : val_main_v37 x0 x2 x3 x4 (ix2 s g) = if g = G then (1 : EReal) else 0 := by
  pointwise [val_main_v37, val_main_call0_v4, val_main_call0_v3, val_main_call0_v2, val_main_call0_v1, val_main_call0_v0]
  rw [hG]
  exact onehot G g

/-- The maximum the softmax subtracts is the chosen group's logit. -/
theorem gmax_read (hL : ∀ g, val_main_v24 x0 x2 x3 x4 (ix2 s g) = L g) (hG : ∀ g, L g ≤ L G) : val_main_v27 x0 x2 x3 x4 (ix1 s) = L G := by
  have h : val_main_v25 x0 x2 x3 x4 (ix1 s) = L G := by
    pointwise [val_main_v25, val_main_cst]
    simp only [hL, ninf]
    exact fold_max_all L G hG
  pointwise [val_main_v27, val_main_v26, val_main_cst_1]
  rw [h, ninf]
  exact max_eq_right bot_le

/-- The softmax of the group logits. -/
theorem gprob_read (hL : ∀ g, val_main_v24 x0 x2 x3 x4 (ix2 s g) = L g) (hG : ∀ g, L g ≤ L G) (g : Fin 4) :
    val_main_v35 x0 x2 x3 x4 (ix2 s g) = Ideal.div (Ideal.exp (L g - L G)) (∑ x, Ideal.exp (L x - L G)) := by
  have h := gmax_read x0 x2 x3 x4 s G L hL hG
  pointwise [val_main_v35, val_main_v34, val_main_v33, val_main_v32, val_main_cst_2, val_main_v31, val_main_v30, val_main_v29, val_main_v28]
  simp only [hL, h]

/-- The weight of the chosen group. -/
theorem gw_read (hL : ∀ g, val_main_v24 x0 x2 x3 x4 (ix2 s g) = L g) (hG : ∀ g, L g ≤ L G) (hr : IsReal (L G))
    (hs : val_main_v36 x0 x2 x3 x4 (ix1 s) = BitVec.ofNat 32 G.val) :
    val_main_v39 x0 x2 x3 x4 (ix1 s) = Ideal.div 1 (∑ x, Ideal.exp (L x - L G)) := by
  pointwise [val_main_v39, val_main_cst_3, val_main_v38]
  simp only [group_hot x0 x2 x3 x4 s G hs, gprob_read x0 x2 x3 x4 s G L hL hG]
  rw [sum_onehot (fun g => Ideal.div (Ideal.exp (L g - L G)) (∑ x, Ideal.exp (L x - L G))) G, real_sub hr, exp_zero]

/-- The logits of the chosen group's experts. -/
theorem within_read (hs : val_main_v36 x0 x2 x3 x4 (ix1 s) = BitVec.ofNat 32 G.val) (e : Fin 4) :
    val_main_v48 x0 x2 x3 x4 x5 x6 (ix2 s e) = val_main_v43 x0 x2 x5 x6 (ix2 s (jn G e)) := by
  pointwise [val_main_v48, val_main_cst_4, val_main_v47, val_main_v46, val_main_v45, val_main_v44]
  simp only [group_hot x0 x2 x3 x4 s G hs]
  exact sum_onehot (fun g => val_main_v43 x0 x2 x5 x6 (ix2 s (jn g e))) G

/-- A quotient times a number is the product's quotient. -/
theorem div_swap (y w : EReal) (z : EReal) (hz : z ≠ 0) : Ideal.div y z * w = Ideal.div (w * y) z := by
  unfold Ideal.div
  rw [if_neg hz, if_neg hz]
  rw [mul_comm w y, mul_assoc, mul_comm _ w, ← mul_assoc]

/-- One and an exponential of reals is not zero. -/
theorem one_exp_ne {x y : EReal} (hx : IsReal x) (hy : IsReal y) : 1 + Ideal.exp (x - y) ≠ 0 := by
  obtain ⟨u, rfl⟩ := hx
  obtain ⟨v, rfl⟩ := hy
  rw [← EReal.coe_sub, Ideal.exp_coe, ← EReal.coe_one, ← EReal.coe_add]
  intro h
  have h' : (1 + Real.exp (u - v) : ℝ) = 0 := by exact_mod_cast h
  have := Real.exp_pos (u - v)
  linarith

/-- The weights of the two picked experts. -/
theorem ew_read (hv : ∀ j, val_main_values_5 x0 x2 x3 x4 x5 x6 (ix2 s j) = if j = 0 then E a else E b) (hab : E b ≤ E a) (ra : IsReal (E a)) (rb : IsReal (E b)) (w : EReal)
    (hw : val_main_v39 x0 x2 x3 x4 (ix1 s) = w) (j : Fin 2) :
    val_main_v62 x0 x2 x3 x4 x5 x6 (ix2 s j) = if j = 0 then Ideal.div w (1 + Ideal.exp (E b - E a)) else Ideal.div (w * Ideal.exp (E b - E a)) (1 + Ideal.exp (E b - E a)) := by
  have h1 : val_main_v49 x0 x2 x3 x4 x5 x6 (ix1 s) = E a := by
    pointwise [val_main_v49, val_main_cst_7]
    simp only [hv, ninf]
    exact fold_max_all (fun j : Fin 2 => if j = 0 then E a else E b) 0 (by
      intro k; simp only []; split
      · exact le_refl _
      · exact hab)
  have h2 : val_main_v51 x0 x2 x3 x4 x5 x6 (ix1 s) = E a := by
    pointwise [val_main_v51, val_main_v50, val_main_cst_8]
    rw [h1, ninf]
    exact max_eq_right bot_le
  have h55 : ∀ j, val_main_v55 x0 x2 x3 x4 x5 x6 (ix2 s j) = Ideal.exp ((if j = 0 then E a else E b) - E a) := fun j => by
    pointwise [val_main_v55, val_main_v54, val_main_v53, val_main_v52]
    rw [hv, h2]
  have h56 : val_main_v56 x0 x2 x3 x4 x5 x6 (ix1 s) = Ideal.exp (E a - E a) + Ideal.exp (E b - E a) := by
    pointwise [val_main_v56, val_main_cst_9]
    rw [Fin.sum_univ_two, h55, h55, if_pos rfl, if_neg (by decide : ¬ (1 : Fin 2) = 0)]
  have h59 : val_main_v59 x0 x2 x3 x4 x5 x6 (ix2 s j) = Ideal.div (val_main_v55 x0 x2 x3 x4 x5 x6 (ix2 s j)) (val_main_v56 x0 x2 x3 x4 x5 x6 (ix1 s)) := by
    pointwise [val_main_v59, val_main_v58, val_main_v57]
  have h62 : val_main_v62 x0 x2 x3 x4 x5 x6 (ix2 s j) = val_main_v59 x0 x2 x3 x4 x5 x6 (ix2 s j) * val_main_v39 x0 x2 x3 x4 (ix1 s) := by
    pointwise [val_main_v62, val_main_v61, val_main_v60]
  rw [h62, h59, h55, h56, hw]
  rw [real_sub ra, exp_zero]
  by_cases hj : j = 0
  · rw [if_pos hj, if_pos hj, real_sub ra, exp_zero, div_swap _ _ _ (one_exp_ne rb ra), mul_one]
  · rw [if_neg hj, if_neg hj, div_swap _ _ _ (one_exp_ne rb ra)]

/-- The gates within the group: the two picked experts' weights, zero elsewhere. -/
theorem local_read (hi : ∀ j, val_main_indices_6 x0 x2 x3 x4 x5 x6 (ix2 s j) = if j = 0 then BitVec.ofNat 32 a.val else BitVec.ofNat 32 b.val) (hne : b ≠ a) (p q : EReal)
    (hp : ∀ j, val_main_v62 x0 x2 x3 x4 x5 x6 (ix2 s j) = if j = 0 then p else q) (e : Fin 4) :
    val_main_v67 x0 x2 x3 x4 x5 x6 (ix2 s e) = if e = a then p else if e = b then q else 0 := by
  pointwise [val_main_v67, val_main_cst_10, val_main_v66, val_main_v65, val_main_v64, val_main_v63, val_main_call1_v4, val_main_call1_v3, val_main_call1_v2, val_main_call1_v1, val_main_call1_v0]
  simp only [hi, hp, Fin.sum_univ_two, if_true, if_neg (by decide : ¬ (1 : Fin 2) = 0)]
  rw [onehot, onehot]
  by_cases ha : e = a
  · rw [if_pos ha, if_pos ha, if_neg (fun h => hne (h.symm.trans ha)), one_mul, zero_mul, add_zero]
  · rw [if_neg ha, if_neg ha, zero_mul, zero_add]
    split
    · exact one_mul _
    · exact zero_mul _

/-- The gates of all sixteen experts: those of the chosen group, zero elsewhere. -/
theorem gates_read (hs : val_main_v36 x0 x2 x3 x4 (ix1 s) = BitVec.ofNat 32 G.val) (g e : Fin 4) :
    val_main_v73 x0 x2 x3 x4 x5 x6 (ix2 s (jn g e)) = if g = G then val_main_v67 x0 x2 x3 x4 x5 x6 (ix2 s e) else 0 := by
  have h : val_main_v73 x0 x2 x3 x4 x5 x6 (ix2 s ⟨g.val * 4 + e.val, by omega⟩) = val_main_v37 x0 x2 x3 x4 (ix2 s g) * val_main_v67 x0 x2 x3 x4 x5 x6 (ix2 s e) := by
    pointwise [val_main_v73, val_main_v72, val_main_v71, val_main_v70, val_main_v69, val_main_v68]
  refine h.trans ?_
  rw [group_hot x0 x2 x3 x4 s G hs]
  split
  · exact one_mul _
  · exact zero_mul _
end Row

/-- A sum over the sixteen experts, group by group. -/
theorem sum_groups (f : Fin 16 → EReal) : (∑ x, f x) = ∑ g : Fin 4, ∑ e : Fin 4, f (jn g e) := by
  rw [← Fintype.sum_prod_type' (fun g e => f (jn g e)), ← (finProdFinEquiv (m := 4) (n := 4)).sum_comp]
  refine Finset.sum_congr rfl fun p _ => congrArg f (Fin.ext ?_)
  show p.2.val + 4 * p.1.val = p.1.val * 4 + p.2.val
  omega

/-- The sum over experts and their inner places, expert by expert. -/
theorem y_read (s : Fin 18432) (d : Fin 1024) : val_main_v81 x0 x2 x3 x4 x5 x6 x7 x8 x9 (ix2 s d)
    = ∑ g : Fin 4, ∑ e : Fin 4, expert (fun k => val_main_v20 x0 x2 (ix2 s k)) (fun k h => x7 (ix4 0 (jn g e) k h)) (fun k h => x8 (ix4 0 (jn g e) k h)) (fun h => x9 (ix4 0 (jn g e) h d))
        (val_main_v73 x0 x2 x3 x4 x5 x6 (ix2 s (jn g e))) := by
  have h80 : ∀ (e : Fin 16) (h : Fin 512), val_main_v80 x0 x2 x3 x4 x5 x6 x7 x8 (ix3 s e h)
      = ((∑ k, val_main_v20 x0 x2 (ix2 s k) * x7 (ix4 0 e k h)) * Ideal.logistic (∑ k, val_main_v20 x0 x2 (ix2 s k) * x7 (ix4 0 e k h))
          * ∑ k, val_main_v20 x0 x2 (ix2 s k) * x8 (ix4 0 e k h)) * val_main_v73 x0 x2 x3 x4 x5 x6 (ix2 s e) := fun e h => by
    pointwise [val_main_v80, val_main_v79, val_main_v78, val_main_v77, val_main_v76, val_main_v75, val_main_v74, val_main_call2_v5, val_main_call2_v4, val_main_call2_v3, val_main_call2_v2, val_main_call2_v1, val_main_call2_v0, val_main_call2_cst, val_main_call2_cst_0, val_main_v11, val_main_v10, val_main_v9, val_main_v8]
    rfl
  pointwise [val_main_v81, val_main_v13, val_main_v12]
  simp only [h80]
  rw [sum_groups]
  rfl

/-- A sum of reals, as an extended real. -/
theorem coe_sum {n : ℕ} (f : Fin n → ℝ) : ((∑ k, f k : ℝ) : EReal) = ∑ k, ((f k : ℝ) : EReal) := by
  classical
  refine Finset.induction_on (motive := fun t : Finset (Fin n) => ((∑ k ∈ t, f k : ℝ) : EReal) = ∑ k ∈ t, ((f k : ℝ) : EReal)) Finset.univ ?_ fun k t hk ih => ?_
  · rw [Finset.sum_empty, Finset.sum_empty, EReal.coe_zero]
  · rw [Finset.sum_insert hk, Finset.sum_insert hk, EReal.coe_add, ih]

/-- A logit of real entries is real. -/
theorem logit_real (x w : Fin 1024 → EReal) (b : EReal) (hx : ∀ k, IsReal (x k)) (hw : ∀ k, IsReal (w k)) (hb : IsReal b) : IsReal (logit x w b) := by
  choose u hu using hx
  choose v hv using hw
  obtain ⟨c, rfl⟩ := hb
  refine ⟨(∑ k, u k * v k) + c, ?_⟩
  show (∑ k, x k * w k) + (c : EReal) = _
  rw [Finset.sum_congr rfl fun k _ => show x k * w k = ((u k * v k : ℝ) : EReal) by rw [hu, hv, EReal.coe_mul], ← coe_sum, ← EReal.coe_add]

/-- The gate the reference gives expert `e` of group `g`, from the logits it sorts. -/
theorem gate_read (s : Fin 18432) (L : Fin 4 → EReal) (E : Fin 4 → Fin 4 → EReal) (hL : ∀ g, val_main_v24 x0 x2 x3 x4 (ix2 s g) = L g)
    (hE : ∀ g e, val_main_v43 x0 x2 x5 x6 (ix2 s (jn g e)) = E g e) (rL : ∀ g, IsReal (L g)) (rE : ∀ g e, IsReal (E g e)) (g e : Fin 4) :
    val_main_v73 x0 x2 x3 x4 x5 x6 (ix2 s (jn g e))
      = if g = sortedFrom (gtB L) 0 then gate L (E g) g (sortedFrom (gtB (E g)) 0) (sortedFrom (gtB (E g)) 1) e else 0 := by
  obtain ⟨G, hGd⟩ : ∃ G, G = sortedFrom (gtB L) 0 := ⟨_, rfl⟩
  obtain ⟨a, had⟩ : ∃ a, a = sortedFrom (gtB (E G)) 0 := ⟨_, rfl⟩
  obtain ⟨b, hbd⟩ : ∃ b, b = sortedFrom (gtB (E G)) 1 := ⟨_, rfl⟩
  have hs : val_main_v36 x0 x2 x3 x4 (ix1 s) = BitVec.ofNat 32 G.val := by
    rw [gsel_read, hGd]
    simp only [hL]
  have hG : ∀ g, L g ≤ L G := fun g => by
    rw [hGd]
    exact (sorted_first L).2.1 g trivial
  have hw := gw_read x0 x2 x3 x4 s G L hL hG (rL G) hs
  have hr : (fun e => val_main_v48 x0 x2 x3 x4 x5 x6 (ix2 s e)) = E G := funext fun e => by
    rw [within_read x0 x2 x3 x4 x5 x6 s G hs, hE]
  have hv : ∀ j, val_main_values_5 x0 x2 x3 x4 x5 x6 (ix2 s j) = if j = 0 then E G a else E G b := fun j => by
    rw [vals_read, hr, within_read x0 x2 x3 x4 x5 x6 s G hs, hE, had, hbd]
    revert j
    exact (Fin.forall_fin_two (p := fun j : Fin 2 => E G (sortedFrom (gtB (E G)) ⟨j.val, _⟩) = if j = 0 then E G (sortedFrom (gtB (E G)) 0) else E G (sortedFrom (gtB (E G)) 1))).2 ⟨rfl, rfl⟩
  have hi : ∀ j, val_main_indices_6 x0 x2 x3 x4 x5 x6 (ix2 s j) = if j = 0 then BitVec.ofNat 32 a.val else BitVec.ofNat 32 b.val := fun j => by
    rw [idx_read, hr, had, hbd]
    revert j
    exact (Fin.forall_fin_two (p := fun j : Fin 2 => BitVec.ofNat 32 (sortedFrom (gtB (E G)) ⟨j.val, _⟩).val = if j = 0 then BitVec.ofNat 32 (sortedFrom (gtB (E G)) 0).val else BitVec.ofNat 32 (sortedFrom (gtB (E G)) 1).val)).2 ⟨rfl, rfl⟩
  have hne : b ≠ a := by
    rw [had, hbd]
    exact (sorted_second (E G)).1
  have hab : E G b ≤ E G a := by
    rw [had]
    exact (sorted_first (E G)).2.1 b trivial
  rw [gates_read x0 x2 x3 x4 x5 x6 s G hs, local_read x0 x2 x3 x4 x5 x6 s a b hi hne _ _ (ew_read x0 x2 x3 x4 x5 x6 s a b (E G) hv hab (rE G a) (rE G b) _ hw), ← hGd]
  by_cases hg : g = G
  · subst hg
    rw [if_pos rfl, if_pos rfl, ← had, ← hbd]
    rfl
  · rw [if_neg hg, if_neg hg]

/-- Whether the group's word is the tile's. -/
theorem cmpi_group (G : Fin 4) (w : BitVec 32) : IntOp.cmpi CmpIPredicate.eq (BitVec.ofNat 32 G.val) w = 1#1 ↔ w.toNat = G.val := by
  rw [show IntOp.cmpi CmpIPredicate.eq (BitVec.ofNat 32 G.val) w = BitVec.ofBool (BitVec.ofNat 32 G.val == w) from rfl]
  have hG : (BitVec.ofNat 32 G.val).toNat = G.val := by
    rw [BitVec.toNat_ofNat]
    exact Nat.mod_eq_of_lt (by have := G.isLt; omega)
  by_cases h : BitVec.ofNat 32 G.val = w
  · subst h
    simp [hG]
  · have : (BitVec.ofNat 32 G.val == w) = false := beq_false_of_ne h
    rw [this]
    refine ⟨fun h' => absurd h' (by decide), fun h' => absurd (BitVec.eq_of_toNat_eq (hG.trans h'.symm)) h⟩

/-- A slot's column, from its token's row and its tile's word. -/
theorem slot_read (h2 : ∀ i, (x2 i).toNat < 16384) (rx : ∀ i k, IsReal (x0 (ix2 i k))) (rg : ∀ k g, IsReal (x3 (ix3 0 k g))) (rbg : ∀ g, IsReal (x4 (ix2 0 g)))
    (re : ∀ k e, IsReal (x5 (ix3 0 k e))) (rbe : ∀ e, IsReal (x6 (ix2 0 e))) (s : Fin 18432) (d : Fin 1024) (w : BitVec 32) :
    Scalar.select (IntOp.cmpi CmpIPredicate.eq (val_main_v36 x0 x2 x3 x4 (ix1 s)) w) (val_main_v81 x0 x2 x3 x4 x5 x6 x7 x8 x9 (ix2 s d)) 0
      = slot (fun k => x0 (ix2 ⟨(x2 (ix1 s)).toNat % 16384, by omega⟩ k)) (fun k g => x3 (ix3 0 k g)) (fun g => x4 (ix2 0 g))
        (fun k e => x5 (ix3 0 k e)) (fun e => x6 (ix2 0 e)) (fun e k j => x7 (ix4 0 e k j)) (fun e k j => x8 (ix4 0 e k j))
        (fun e j => x9 (ix4 0 e j d)) w.toNat := by
  have ht : ∀ k, val_main_v20 x0 x2 (ix2 s k) = x0 (ix2 ⟨(x2 (ix1 s)).toNat % 16384, by omega⟩ k) := fun k => tok_read x0 x2 s k (h2 _)
  obtain ⟨x, hx⟩ : ∃ x : Fin 1024 → EReal, x = fun k => x0 (ix2 ⟨(x2 (ix1 s)).toNat % 16384, by omega⟩ k) := ⟨_, rfl⟩
  rw [← hx]
  have ht' : ∀ k, val_main_v20 x0 x2 (ix2 s k) = x k := fun k => by rw [ht, hx]
  have rx' : ∀ k, IsReal (x k) := fun k => by rw [hx]; exact rx _ k
  obtain ⟨L, hLd⟩ : ∃ L : Fin 4 → EReal, L = fun g => logit x (fun k => x3 (ix3 0 k g)) (x4 (ix2 0 g)) := ⟨_, rfl⟩
  obtain ⟨E, hEd⟩ : ∃ E : Fin 4 → Fin 4 → EReal, E = fun g e => logit x (fun k => x5 (ix3 0 k (jn g e))) (x6 (ix2 0 (jn g e))) := ⟨_, rfl⟩
  have hL : ∀ g, val_main_v24 x0 x2 x3 x4 (ix2 s g) = L g := fun g => by
    rw [glog_read, hLd]
    simp only [ht']
  have hE : ∀ g e, val_main_v43 x0 x2 x5 x6 (ix2 s (jn g e)) = E g e := fun g e => by
    rw [elog_read, hEd]
    simp only [ht']
  have hg := gate_read x0 x2 x3 x4 x5 x6 s L E hL hE (fun g => by rw [hLd]; exact logit_real _ _ _ rx' (fun k => rg k g) (rbg g))
    (fun g e => by rw [hEd]; exact logit_real _ _ _ rx' (fun k => re k _) (rbe _))
  have hs := gsel_read x0 x2 x3 x4 s
  simp only [hL] at hs
  rw [hs, y_read]
  simp only [ht', hg]
  refine (show Scalar.select _ _ _ = if _ = 1#1 then _ else _ from rfl).trans ?_
  rw [if_congr (cmpi_group _ _) rfl rfl]
  unfold slot
  rw [← hLd, ← hEd]
  by_cases hc : w.toNat = (sortedFrom (gtB L) 0).val
  · have h4 : w.toNat < 4 := by rw [hc]; exact Fin.isLt _
    have hf : (⟨w.toNat, h4⟩ : Fin 4) = sortedFrom (gtB L) 0 := Fin.ext hc
    rw [if_pos hc, dif_pos h4, hf]
    unfold routed
    rw [if_pos rfl, Finset.sum_eq_single (sortedFrom (gtB L) 0)]
    · simp only [if_true]
    · intro g _ hgne
      simp only [if_neg hgne, expert_zero, Finset.sum_const_zero]
    · exact fun hn => absurd (Finset.mem_univ _) hn
  · rw [if_neg hc]
    by_cases h4 : w.toNat < 4
    · rw [dif_pos h4]
      unfold routed
      rw [if_neg fun h' => hc (congrArg Fin.val h')]
    · rw [dif_neg h4]

/-- The reference's result at a row and a lane, its words in range, its token's row and the routers real. -/
theorem out_slot (h2 : ∀ i, (x2 i).toNat < 16384) (rx : ∀ i k, IsReal (x0 (ix2 i k))) (rg : ∀ k g, IsReal (x3 (ix3 0 k g))) (rbg : ∀ g, IsReal (x4 (ix2 0 g)))
    (re : ∀ k e, IsReal (x5 (ix3 0 k e))) (rbe : ∀ e, IsReal (x6 (ix2 0 e))) (R : Fin 147456) (l : Fin 128) :
    val_main_v87 x0 x1 x2 x3 x4 x5 x6 x7 x8 x9 (ix2 R l)
      = slot (fun k => x0 (ix2 ⟨(x2 (ix1 ⟨R.val / 8, by omega⟩)).toNat % 16384, by omega⟩ k)) (fun k g => x3 (ix3 0 k g)) (fun g => x4 (ix2 0 g))
        (fun k e => x5 (ix3 0 k e)) (fun e => x6 (ix2 0 e)) (fun e k j => x7 (ix4 0 e k j)) (fun e k j => x8 (ix4 0 e k j))
        (fun e j => x9 (ix4 0 e j ⟨R.val % 8 * 128 + l.val, by omega⟩)) (x1 (ix1 ⟨R.val / 8 / 512, by omega⟩)).toNat := by
  have h : val_main_v87 x0 x1 x2 x3 x4 x5 x6 x7 x8 x9 (ix2 R l) = Scalar.select (IntOp.cmpi CmpIPredicate.eq (val_main_v36 x0 x2 x3 x4 (ix1 ⟨R.val / 8, by omega⟩)) (x1 (ix1 ⟨R.val / 8 / 512, by omega⟩)))
      (val_main_v81 x0 x2 x3 x4 x5 x6 x7 x8 x9 (ix2 ⟨R.val / 8, by omega⟩ ⟨R.val % 8 * 128 + l.val, by omega⟩)) 0 := by
    pointwise [val_main_v87, val_main_v86, val_main_v85, val_main_v84, val_main_v83, val_main_v82, val_main_call3_v2, val_main_call3_v1, val_main_call3_v0, val_main_cst_11]
    exact congrArg (Scalar.select _ _) Ideal.ofBits_zero_f32
  exact h.trans (slot_read x0 x2 x3 x4 x5 x6 x7 x8 x9 h2 rx rg rbg re rbe ⟨R.val / 8, by omega⟩ ⟨R.val % 8 * 128 + l.val, by omega⟩ _)
end Cert.ReferenceIdeal.Route
-- ==== Proof.Finite.lean ====
/-
  What the precondition of the value claim says: the tables are in range, and the activations and the first layer's
  routers are real numbers.
-/
module

public import proofs.«01_k».proof.Pre_finite_routing
public import proofs.«01_k».proof.Proof.Spec
public import proofs.«01_k».proof.Proof.Plan
public import Idealize.ShloMosaic.Lib.Pointwise

@[expose] public section

noncomputable section

namespace Cert.Plan

open Idealize.ShloMosaic Idealize.ShloMosaic.Tactic Cert.Route

/-- A number whose absolute value is below infinity is real. -/
theorem real_of_lt {x : EReal} (h : BitVec.ofBool (decide (max x (-x) < (⊤ : EReal))) = 1#1) : IsReal x := by
  have hd : max x (-x) < (⊤ : EReal) := by
    by_contra hn
    rw [decide_eq_false hn] at h
    exact absurd h (by decide)
  obtain ⟨h1, h2⟩ := max_lt_iff.1 hd
  induction x with
  | bot => exact absurd h2 (by simp)
  | top => exact absurd h1 (by simp)
  | coe v => exact ⟨v, rfl⟩

open Cert.Pre_finite_routing in
/-- The printed condition, read at every word of the tables and every number it tests. -/
theorem of_finite [Facts] (a0 : FVec Ideal S16384x1024 .f32) (a1 : IVec S36 32) (a2 : IVec S18432 32) (a3 : FVec Ideal S2x1024x4 .f32) (a4 : FVec Ideal S2x4 .f32) (a5 : FVec Ideal S2x1024x16 .f32) (a6 : FVec Ideal S2x16 .f32) (a7 a8 : FVec Ideal S2x16x1024x512 .f32) (a9 : FVec Ideal S2x16x512x1024 .f32)
    (h : fn a0 a1 a2 a3 a4 a5 a6 a7 a8 a9 = fun _ => 1#1) :
    ((∀ i, (a1 i).toNat ≤ 4) ∧ ∀ i, (a2 i).toNat < 16384) ∧ (∀ i k, IsReal (a0 (ix2 i k))) ∧ (∀ k g, IsReal (a3 (ix3 0 k g))) ∧ (∀ g, IsReal (a4 (ix2 0 g)))
      ∧ (∀ k e, IsReal (a5 (ix3 0 k e))) ∧ ∀ e, IsReal (a6 (ix2 0 e)) := by
  haveI : Subsingleton S_.Idx := ⟨fun x y => funext fun k => k.elim0⟩
  have h0 := congrFun h (fun k => k.elim0)
  dsimp only [fn, fn_part1, fn_part2, andi] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, hx⟩ := IntOp.andi_eq_one.1 h0
  obtain ⟨hA, hB⟩ := IntOp.andi_eq_one.1 h0
  refine ⟨⟨fun i => ?_, fun i => ?_⟩, fun i k => ?_, fun k g => ?_, fun g => ?_, fun k e => ?_, fun e => ?_⟩
  · obtain ⟨hl, hu⟩ := IntOp.andi_eq_one.1 (Host.reduce_andi_all _ _ _ _ _ hA i)
    exact small (by decide) (IntOp.cmpi_sge.1 hl) (IntOp.cmpi_sle.1 hu)
  · obtain ⟨hl, hu⟩ := IntOp.andi_eq_one.1 (Host.reduce_andi_all _ _ _ _ _ hB i)
    have h1 : (a2 i).toInt < 16384 := IntOp.cmpi_slt.1 hu
    exact Nat.lt_succ_of_le (small (b := 16383) (by decide) (IntOp.cmpi_sge.1 hl) (by push_cast; omega))
  · exact real_of_lt (Host.reduce_andi_all _ _ _ _ _ hx (ix2 i k))
  · have e : shapeCast S1024x4 (extractStridedSlice S1x1024x4 ![0, 0, 0] a3 Facts.slices_S2x1024x4_S1x1024x4_0_0_0) Facts.shapeCasts_S1x1024x4_S1024x4 (ix2 k g) = a3 (ix3 0 k g) := by
      pointwise
    rw [← e]
    exact real_of_lt (Host.reduce_andi_all _ _ _ _ _ h3 (ix2 k g))
  · have e : shapeCast S4 (extractStridedSlice S1x4 ![0, 0] a4 Facts.slices_S2x4_S1x4_0_0) Facts.shapeCasts_S1x4_S4 (ix1 g) = a4 (ix2 0 g) := by
      pointwise
    rw [← e]
    exact real_of_lt (Host.reduce_andi_all _ _ _ _ _ h4 (ix1 g))
  · have e : shapeCast S1024x16 (extractStridedSlice S1x1024x16 ![0, 0, 0] a5 Facts.slices_S2x1024x16_S1x1024x16_0_0_0) Facts.shapeCasts_S1x1024x16_S1024x16 (ix2 k e) = a5 (ix3 0 k e) := by
      pointwise
    rw [← e]
    exact real_of_lt (Host.reduce_andi_all _ _ _ _ _ h5 (ix2 k _))
  · have e' : shapeCast S16 (extractStridedSlice S1x16 ![0, 0] a6 Facts.slices_S2x16_S1x16_0_0) Facts.shapeCasts_S1x16_S16 (ix1 e) = a6 (ix2 0 e) := by
      pointwise
    rw [← e']
    exact real_of_lt (Host.reduce_andi_all _ _ _ _ _ h6 (ix1 e))

end Cert.Plan

end
-- ==== Proof.InProjection.Spec.lean ====
/-
  The input projections of a layer, an entry at a time: a token's row, scaled by the inverse root of its mean square and by
  the norm's gain, against a column of the projection matrix; and which column of the matrix each lane of the laid-out
  result holds.
-/
module

public import Idealize.ShloMosaic.Lib.Pointwise

@[expose] public section

noncomputable section

namespace Cert.InProjection
open Idealize.ShloMosaic

/-- A token's normed row: entry `k` over the root of the row's mean square (with the norm's epsilon), times the gain. -/
def normed (x g : Fin 1024 → EReal) (k : Fin 1024) : EReal :=
  x k * Ideal.rsqrt (Ideal.div (∑ q, x q * x q) (Ideal.ofBits .f32 0x44800000#32) + Ideal.ofBits .f32 0x358637BD#32) * g k

/-- The normed row against a column. -/
def proj (x g w : Fin 1024 → EReal) : EReal := ∑ k, normed x g k * w k

/-- What lane `n` of the laid-out matrix holds of a row `w` of the matrix: the first 2816 lanes are its first 2816 columns; the
    other 256 are the gate columns, twelve to a group of 128 lanes, the rest of the group zero. -/
def lane (w : Fin 2840 → EReal) (n : Fin 3072) : EReal :=
  if h : n.val < 2816 then w ⟨n.val, by omega⟩
  else if h' : (n.val - 2816) % 128 < 12 then w ⟨2816 + 12 * ((n.val - 2816) / 128) + (n.val - 2816) % 128, by omega⟩
  else 0

/-- The first lanes. -/
theorem lane_main (w : Fin 2840 → EReal) (n : Fin 3072) (h : n.val < 2816) : lane w n = w ⟨n.val, by omega⟩ := dif_pos h
/-- The gates' lanes. -/
theorem lane_gate (w : Fin 2840 → EReal) (n : Fin 3072) (h : ¬ n.val < 2816) (h' : (n.val - 2816) % 128 < 12) (j : Fin 2840)
    (hj : j.val = 2816 + 12 * ((n.val - 2816) / 128) + (n.val - 2816) % 128) : lane w n = w j := by
  unfold lane
  rw [dif_neg h, dif_pos h']
  exact congrArg w (Fin.ext hj.symm)
/-- The lanes between them. -/
theorem lane_pad (w : Fin 2840 → EReal) (n : Fin 3072) (h : ¬ n.val < 2816) (h' : ¬ (n.val - 2816) % 128 < 12) : lane w n = 0 := by
  unfold lane
  rw [dif_neg h, dif_neg h']

/-- A row of projections laid out: the first lanes, then the gates regrouped and padded. -/
theorem lane_ref (f : Fin 2840 → EReal) (n : Fin 3072) (z : EReal) (hz : z = 0) (b s : ℕ) (hb : b < 8) (hs : s < 2048) [Decidable (n.val < 2816)]
    [Decidable (b < 8 ∧ s < 2048 ∧ (n.val - 2816) / 128 < 2 ∧ (n.val - 2816) % 128 < 12)] (p : n.val < 2816 → n.val < 2840)
    (q : b < 8 ∧ s < 2048 ∧ (n.val - 2816) / 128 < 2 ∧ (n.val - 2816) % 128 < 12 → 2816 + ((n.val - 2816) / 128 * 12 + (n.val - 2816) % 128) < 2840) :
    (if h : n.val < 2816 then f ⟨n.val, p h⟩
      else if h1 : b < 8 ∧ s < 2048 ∧ (n.val - 2816) / 128 < 2 ∧ (n.val - 2816) % 128 < 12 then f ⟨2816 + ((n.val - 2816) / 128 * 12 + (n.val - 2816) % 128), q h1⟩
      else z) = lane f n := by
  have hn := n.isLt
  by_cases h : n.val < 2816
  · rw [dif_pos h, lane_main f n h]
  · rw [dif_neg h]
    by_cases h1 : (n.val - 2816) % 128 < 12
    · rw [dif_pos ⟨hb, hs, by omega, h1⟩]
      exact (lane_gate f n h h1 _ (by show 2816 + ((n.val - 2816) / 128 * 12 + (n.val - 2816) % 128) = _; omega)).symm
    · rw [dif_neg (fun h2 => h1 h2.2.2.2), lane_pad f n h h1, hz]

/-- A column of zeros gives zero. -/
theorem proj_zero (x g : Fin 1024 → EReal) : proj x g (fun _ => 0) = 0 :=
  Finset.sum_eq_zero fun _ _ => mul_zero _

/-- The projection onto a lane of the laid-out matrix is that lane of the projections. -/
theorem proj_lane (x g : Fin 1024 → EReal) (w : Fin 1024 → Fin 2840 → EReal) (n : Fin 3072) :
    proj x g (fun k => lane (w k) n) = lane (fun j => proj x g fun k => w k j) n := by
  unfold lane
  split
  · rfl
  · split
    · rfl
    · exact proj_zero x g

end Cert.InProjection

end
-- ==== Proof.InProjection.Out.lean ====
/-
  What the input projection's kernel computes: each stored block as the projections of its rows, what each window holds of
  the arguments, and the array that the blocks written back leave.
-/
module

public import proofs.«01_k».proof.Proof.Gen.InProjIdeal.Value
public import proofs.«01_k».proof.Proof.InProjection.Spec
public import Idealize.ShloMosaic.Lib.StableHlo.ReadAt
public import Idealize.ShloMosaic.Lib.Pipeline.ValueKit

@[expose] public section

set_option maxRecDepth 16384

noncomputable section

namespace Cert.InProjIdeal.Proj
open Cert.InProjIdeal Cert.InProjIdeal.Gen Cert.InProjection
open Idealize.ShloMosaic Idealize.ShloMosaic.TcCoe Idealize.ShloMosaic.Tactic
open Idealize.SL.Sem
variable (m : (ℓ : Loc nD τ sig) → Buf (Elt Ideal) ℓ) (c : Dev nD)

/-- The first store's payload, an entry at a time. -/
theorem pay5_apply (x : Vec Ideal S512x1024 .f32) (g : Vec Ideal S1x1024 .f32) (w : Vec Ideal S1024x512 .bf16) (r : Fin 512) (l : Fin 512) :
    k0_pay5 (F := Ideal) x g w (ix2 r l) = proj (fun k => x (ix2 r k)) (fun k => g (ix2 0 k)) (fun k => w (ix2 k l)) := by
  pointwise [k0_pay5, k0_pay4]
  unfold proj normed
  rfl

/-- The other five stores' payloads are the same products. -/
theorem pay6_eq (x : Vec Ideal S512x1024 .f32) (g : Vec Ideal S1x1024 .f32) (w : Vec Ideal S1024x512 .bf16) : k0_pay6 (F := Ideal) x g w = k0_pay5 x g w := rfl
/-- The third. -/
theorem pay7_eq (x : Vec Ideal S512x1024 .f32) (g : Vec Ideal S1x1024 .f32) (w : Vec Ideal S1024x512 .bf16) : k0_pay7 (F := Ideal) x g w = k0_pay5 x g w := rfl

/-- The fourth. -/
theorem pay1_eq (x : Vec Ideal S512x1024 .f32) (g : Vec Ideal S1x1024 .f32) (w : Vec Ideal S1024x512 .bf16) : k0_pay1 (F := Ideal) (k0_pay4 x g) (k0_pay8 w) (constant S512x512 .f32 0x00000000#32) = k0_pay5 x g w := rfl
/-- The fifth. -/
theorem pay2_eq (x : Vec Ideal S512x1024 .f32) (g : Vec Ideal S1x1024 .f32) (w : Vec Ideal S1024x512 .bf16) : k0_pay2 (F := Ideal) (k0_pay4 x g) w = k0_pay5 x g w := rfl
/-- The sixth. -/
theorem pay3_eq (x : Vec Ideal S512x1024 .f32) (g : Vec Ideal S1x1024 .f32) (w : Vec Ideal S1024x512 .bf16) : k0_pay3 (F := Ideal) (k0_pay4 x g) w = k0_pay5 x g w := rfl

/-- A load of a whole block is the block. -/
theorem ld_whole {R C : ℕ} {e : EltTy} (x : Vec Ideal ⟨2, ![R, C]⟩ e) (h : ∀ a, _) :
    View.ld x (Rect.unit (s := (⟨2, ![R, C]⟩ : Shape)) ![0, 0] ![R, C] h) = x := by
  funext i
  refine congrArg x ?_
  funext a
  revert a
  exact (Fin.forall_fin_two (p := fun a : Fin 2 => _)).2 ⟨Fin.ext (by show 0 + 1 * (i 0).val = (i 0).val; omega), Fin.ext (by show 0 + 1 * (i 1).val = (i 1).val; omega)⟩

/-- A block's projections, as one function of the block's index. -/
def blockOut (x : Vec Ideal S512x1024 .f32) (g : Vec Ideal S1x1024 .f32) (w : Vec Ideal S1024x3072 .bf16) (y : S512x3072.Idx) : EReal :=
  proj (fun k => x (ix2 (y 0) k)) (fun k => g (ix2 0 k)) (fun k => w (ix2 k (y 1)))

/-- Each store's payload is its 512 lanes of them. -/
theorem piece (x : Vec Ideal S512x1024 .f32) (g : Vec Ideal S1x1024 .f32) (w : Vec Ideal S1024x3072 .bf16) (o : ℕ) (hi : ∀ a, _) (hi' : ∀ a, _) (y : S512x512.Idx) :
    k0_pay5 (F := Ideal) x g (View.ld w (Rect.unit (s := S1024x3072) ![0, o] S1024x512.size hi)) y
      = blockOut x g w ((Rect.unit (s := S512x3072) ![0, o] S512x512.size hi').emb y) := by
  obtain ⟨r, l, rfl⟩ : ∃ (r : Fin 512) (l : Fin 512), y = ix2 r l := ⟨y 0, y 1, by
    funext a
    revert a
    exact (Fin.forall_fin_two (p := fun a : Fin 2 => _)).2 ⟨rfl, rfl⟩⟩
  rw [pay5_apply]
  unfold blockOut
  congr 1
  · funext k
    refine congrArg x ?_
    funext a; revert a
    exact (Fin.forall_fin_two (p := fun a : Fin 2 => _)).2 ⟨Fin.ext (by show r.val = 0 + 1 * r.val; omega), rfl⟩
  · funext k
    refine congrArg w ?_
    funext a; revert a
    exact (Fin.forall_fin_two (p := fun a : Fin 2 => _)).2 ⟨Fin.ext (by show 0 + 1 * k.val = k.val; omega), rfl⟩

/-- What a point leaves: the block's projections. -/
theorem out_block (x : Vec Ideal S512x1024 .f32) (g : Vec Ideal S1x1024 .f32) (w : Vec Ideal S1024x3072 .bf16) (y : S512x3072.Idx) :
    out0_3 (F := Ideal) x g w y = blockOut x g w y := by
  unfold out0_3 k0_pay9
  rw [ld_whole x _, ld_whole g _, pay3_eq, pay2_eq, pay1_eq, pay7_eq, pay6_eq]
  refine View.canon_apply_of_pieces (Val := Elt Ideal) (S := S512x3072) (e := .f32) (blockOut x g w) _ ?_ y (cover0_3 _ _ _ _ _ _ _)
  intro p hp
  rw [List.mem_cons] at hp
  rcases hp with h | hp
  · subst h; exact piece x g w 2560 inb_S1024x3072_S1024x512_0_2560 inb_S512x3072_S512x512_0_2560
  rw [List.mem_cons] at hp
  rcases hp with h | hp
  · subst h; exact piece x g w 2048 inb_S1024x3072_S1024x512_0_2048 inb_S512x3072_S512x512_0_2048
  rw [List.mem_cons] at hp
  rcases hp with h | hp
  · subst h; exact piece x g w 1536 inb_S1024x3072_S1024x512_0_1536 inb_S512x3072_S512x512_0_1536
  rw [List.mem_cons] at hp
  rcases hp with h | hp
  · subst h; exact piece x g w 1024 inb_S1024x3072_S1024x512_0_1024 inb_S512x3072_S512x512_0_1024
  rw [List.mem_cons] at hp
  rcases hp with h | hp
  · subst h; exact piece x g w 512 inb_S1024x3072_S1024x512_0_512 inb_S512x3072_S512x512_0_512
  rw [List.mem_cons] at hp
  rcases hp with h | hp
  · subst h; exact piece x g w 0 inb_S1024x3072_S1024x512_0_0 inb_S512x3072_S512x512_0_0
  exact absurd hp List.not_mem_nil

/-- What a point leaves at a row and a lane: the row's projection onto the lane's column. -/
theorem out_apply (x : Vec Ideal S512x1024 .f32) (g : Vec Ideal S1x1024 .f32) (w : Vec Ideal S1024x3072 .bf16) (r : Fin 512) (n : Fin 3072) :
    out0_3 (F := Ideal) x g w (ix2 r n) = proj (fun k => x (ix2 r k)) (fun k => g (ix2 0 k)) (fun k => w (ix2 k n)) :=
  out_block x g w (ix2 r n)

/-- The staged activations are the layer's input, batch row by batch row. -/
theorem v0_read (i : Fin 16384) (k : Fin 1024) : (V m c main_v0 : S16384x1024.Idx → EReal) (ix2 i k) = (m ((c : Thread nD τ).loc main_arg0) : S8x2048x1024.Idx → EReal) (ix3 ⟨i.val / 2048, by omega⟩ ⟨i.val % 2048, by omega⟩ k) := by
  unfold V
  after_reads_at
/-- The staged gain is the first layer's. -/
theorem v3_read (k : Fin 1024) : (V m c main_v3 : S1x1024.Idx → EReal) (ix2 0 k) = (m ((c : Thread nD τ).loc main_arg1) : S2x1024.Idx → EReal) (ix2 0 k) := by
  unfold V
  after_reads_at
/-- The staged matrix is the first layer's, laid out. -/
theorem v13_read (k : Fin 1024) (n : Fin 3072) : (V m c main_v13 : S1024x3072.Idx → EReal) (ix2 k n) = lane (fun j => (m ((c : Thread nD τ).loc main_arg2) : S2x1024x2840.Idx → EReal) (ix3 0 k j)) n := by
  have z : (FloatOps.sitofp (F := Ideal) FTy.f32 (0#32)) = 0 := by
    show (((0#32 : BitVec 32).toInt : ℝ) : EReal) = 0
    simp
  unfold V
  after_reads_at
  have hn := n.isLt
  split
  · rename_i h
    rw [lane_main _ n h]
    unfold StableHlo.upto
    after_reads_at
  · rename_i h
    split
    · rename_i h1
      unfold StableHlo.upto
      after_reads_at
      by_cases h2 : n.val - 2816 < 12
      · rw [dif_pos h2]
        exact (lane_gate (fun j => (m ((c : Thread nD τ).loc main_arg2) : S2x1024x2840.Idx → EReal) (ix3 0 k j)) n h (by omega) ⟨2816 + (n.val - 2816), by omega⟩ (by show 2816 + (n.val - 2816) = _; omega)).symm
      · rw [dif_neg h2, z, lane_pad _ n h (by omega)]
    · rename_i h1
      unfold StableHlo.upto
      after_reads_at
      by_cases h2 : n.val - 2816 - 128 < 12
      · rw [dif_pos h2]
        exact (lane_gate (fun j => (m ((c : Thread nD τ).loc main_arg2) : S2x1024x2840.Idx → EReal) (ix3 0 k j)) n h (by omega) ⟨2816 + (12 + (n.val - 2816 - 128)), by omega⟩ (by show 2816 + (12 + (n.val - 2816 - 128)) = _; omega)).symm
      · rw [dif_neg h2, z, lane_pad _ n h (by omega)]

/-- The activations' window holds the point's 512 tokens. -/
theorem x_read (t : Fin cfg0.N) (r : Fin 512) (k : Fin 1024) (i : Fin 16384) (hi : i.val = t.val * 512 + r.val) :
    (iblk m c 0 t : S512x1024.Idx → EReal) (ix2 r k) = (V m c main_v0 : S16384x1024.Idx → EReal) (ix2 i k) := by
  have h : ∀ t : Fin grid0.N, cc0_transform_0 (grid0.coords t) = ![t.val, 0] := by decide +kernel
  unfold iblk
  blk_ext
  · have e : (cfg0.win 0).index t (0 : Fin 2) = t.val := congrFun (h t) (0 : Fin 2)
    show (cfg0.win 0).index t (0 : Fin 2) * 512 + _ = _
    rw [e, hi]
  · have e : (cfg0.win 0).index t (1 : Fin 2) = 0 := congrFun (h t) (1 : Fin 2)
    show (cfg0.win 0).index t (1 : Fin 2) * 1024 + _ = _
    rw [e]; omega
/-- The gain's window holds the gain. -/
theorem g_read (t : Fin cfg0.N) (k : Fin 1024) :
    (iblk m c 1 t : S1x1024.Idx → EReal) (ix2 0 k) = (V m c main_v3 : S1x1024.Idx → EReal) (ix2 0 k) := by
  unfold iblk
  blk_ext
  · rfl
  · have e : (cfg0.win 1).index t (1 : Fin 2) = 0 := rfl
    show (cfg0.win 1).index t (1 : Fin 2) * 1024 + _ = _
    rw [e]; omega
/-- The matrix's window holds the whole laid-out matrix. -/
theorem w_read (t : Fin cfg0.N) (k : Fin 1024) (n : Fin 3072) :
    (iblk m c 2 t : S1024x3072.Idx → EReal) (ix2 k n) = (V m c main_v13 : S1024x3072.Idx → EReal) (ix2 k n) := by
  unfold iblk
  blk_ext
  · have e : (cfg0.win 2).index t (0 : Fin 2) = 0 := rfl
    show (cfg0.win 2).index t (0 : Fin 2) * 1024 + _ = _
    rw [e]; omega
  · have e : (cfg0.win 2).index t (1 : Fin 2) = 0 := rfl
    show (cfg0.win 2).index t (1 : Fin 2) * 3072 + _ = _
    rw [e]; omega

/-- Every grid point writes its block back. -/
theorem flush_all : ∀ t : Fin grid0.N, Pipeline.Window.flushOf grid0 true cc0_transform_3 t = true := by decide +kernel
/-- Point `t` writes block row `t`. -/
theorem ix_all : ∀ t : Fin grid0.N, cc0_transform_3 (grid0.coords t) = ![t.val, 0] := by decide +kernel
/-- The result's block is not empty. -/
theorem pos_all : ∀ x : Fin 2, 0 < S512x3072.size x := by decide
/-- The blocks written back cover the result. -/
theorem covers3 : (cfg0.win 3).Covers := by
  refine ⟨fun x => pos_all x, fun β => ?_⟩
  have n0 : (cfg0.win 3).nblk (0 : Fin 2) = 32 := by
    show (16384 + 512 - 1) / 512 = 32; norm_num
  have n1 : (cfg0.win 3).nblk (1 : Fin 2) = 1 := by
    show (3072 + 3072 - 1) / 3072 = 1; norm_num
  have h0 : (β (0 : Fin 2)).val < 32 := lt_of_lt_of_eq (β (0 : Fin 2)).isLt n0
  have h1 : (β (1 : Fin 2)).val < 1 := lt_of_lt_of_eq (β (1 : Fin 2)).isLt n1
  refine ⟨⟨(β (0 : Fin 2)).val, h0⟩, flush_all _, fun x => ⟨?_, Or.inl rfl⟩⟩
  show cc0_transform_3 (grid0.coords ⟨(β (0 : Fin 2)).val, h0⟩) x = _
  rw [ix_all]
  revert x
  refine (Fin.forall_fin_two (p := fun x : Fin 2 => _)).2 ⟨rfl, ?_⟩
  show 0 = (β (1 : Fin 2)).val; omega

/-- The result, from the arguments: each lane the token's projection. -/
def outArr : S16384x3072.Idx → EReal := fun i =>
  proj (fun k => (V m c main_v0 : S16384x1024.Idx → EReal) (ix2 (i 0) k)) (fun k => (V m c main_v3 : S1x1024.Idx → EReal) (ix2 0 k))
    (fun k => (V m c main_v13 : S1024x3072.Idx → EReal) (ix2 k (i 1)))
/-- At the end of the run the result is that array. -/
theorem out_arr : (dats m 0 c).arrAt 3 cfg0.N = outArr m c := by
  refine Pipeline.Dat.arrAt_eq_of_covers (dats m 0 c) 3 _ covers3 fun t hf y => ?_
  refine Eq.trans (b := out0_3 (F := Ideal) (iblk m c 0 t) (iblk m c 1 t) (iblk m c 2 t) y) (congrFun (Value.flushed3 m c t) y) ?_
  obtain ⟨r, n, rfl⟩ : ∃ (r : Fin 512) (n : Fin 3072), y = ix2 r n := ⟨y 0, y 1, by
    funext a
    revert a
    exact (Fin.forall_fin_two (p := fun a : Fin 2 => _)).2 ⟨rfl, rfl⟩⟩
  have h := ix_all t
  have e0 : (((cfg0.win 3).blk t).view.emb (ix2 r n) (0 : Fin 2)).val = t.val * 512 + r.val := by
    have h' : (cfg0.win 3).index t (0 : Fin 2) = t.val := congrFun h (0 : Fin 2)
    rw [← h']
    exact ValueKit.view_emb_slice_whole_unit_val main_v14 _ _ _ (ix2 r n) (0 : Fin 2)
  have e1 : (((cfg0.win 3).blk t).view.emb (ix2 r n) (1 : Fin 2)).val = n.val := by
    have h' : (cfg0.win 3).index t (1 : Fin 2) = 0 := congrFun h (1 : Fin 2)
    refine Eq.trans (b := (cfg0.win 3).index t (1 : Fin 2) * 3072 + n.val) (ValueKit.view_emb_slice_whole_unit_val main_v14 _ _ _ (ix2 r n) (1 : Fin 2)) ?_
    rw [h']; omega
  have e1' : (((cfg0.win 3).blk t).view.emb (ix2 r n) (1 : Fin 2)) = n := Fin.ext e1
  rw [out_apply]
  show _ = outArr m c ((((cfg0.win 3).blk t).view.emb (ix2 r n)))
  unfold outArr
  rw [e1']
  simp only [x_read m c t r _ _ e0, g_read, w_read]

/-- The result at a token and a lane, from the arguments. -/
theorem out_read (i : Fin 16384) (n : Fin 3072) :
    (dats m 0 c).arrAt 3 cfg0.N (ix2 i n)
      = lane (fun j => proj (fun k => (m ((c : Thread nD τ).loc main_arg0) : S8x2048x1024.Idx → EReal) (ix3 ⟨i.val / 2048, by omega⟩ ⟨i.val % 2048, by omega⟩ k))
          (fun k => (m ((c : Thread nD τ).loc main_arg1) : S2x1024.Idx → EReal) (ix2 0 k)) (fun k => (m ((c : Thread nD τ).loc main_arg2) : S2x1024x2840.Idx → EReal) (ix3 0 k j))) n := by
  rw [out_arr, ← proj_lane]
  refine Eq.trans (b := proj (fun k => (V m c main_v0 : S16384x1024.Idx → EReal) (ix2 i k)) (fun k => (V m c main_v3 : S1x1024.Idx → EReal) (ix2 0 k))
    (fun k => (V m c main_v13 : S1024x3072.Idx → EReal) (ix2 k n))) rfl ?_
  rw [funext fun k => v0_read m c i k, funext fun k => v3_read m c k, funext fun k => v13_read m c k n]

end Cert.InProjIdeal.Proj

end
-- ==== Proof.InProjection.Reference.lean ====
/-
  What the reference of the input projection computes, an entry at a time.
-/
module

public import proofs.«01_k».proof.Proof.Gen.InProjReferenceIdeal.Read
public import proofs.«01_k».proof.Proof.InProjection.Spec

@[expose] public section

set_option maxRecDepth 16384

noncomputable section

namespace Cert.InProjReferenceIdeal.Proj
open Cert.InProjReferenceIdeal Cert.InProjReferenceIdeal.Gen Cert.InProjReferenceIdeal.Read Cert.InProjection
open Idealize.ShloMosaic Idealize.ShloMosaic.TcCoe Idealize.ShloMosaic.Tactic
variable (x0 : (⟨S8x2048x1024, .f32⟩ : BufTy).Contents (Elt Ideal)) (x1 : (⟨S2x1024, .f32⟩ : BufTy).Contents (Elt Ideal)) (x2 : (⟨S2x1024x2840, .f32⟩ : BufTy).Contents (Elt Ideal))

/-- The normed row. -/
theorem normed_read (b : Fin 8) (s : Fin 2048) (k : Fin 1024) :
    val_main_v14 (F := Ideal) x0 x1 (ix3 b s k) = normed (fun k => x0 (ix3 b s k)) (fun k => x1 (ix2 0 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold normed
  rfl

/-- The projections. -/
theorem proj_read (b : Fin 8) (s : Fin 2048) (j : Fin 2840) :
    val_main_v17 (F := Ideal) x0 x1 x2 (ix3 b s j) = proj (fun k => x0 (ix3 b s k)) (fun k => x1 (ix2 0 k)) (fun k => x2 (ix3 0 k j)) := by
  pointwise [val_main_v17, val_main_v16, val_main_v15]
  unfold proj
  simp only [normed_read]

/-- The pad's constant is zero. -/
theorem pad_zero : (FloatOps.sitofp (F := Ideal) FTy.f32 (0#32) : EReal) = (0 : EReal) := by
  show (((0#32 : BitVec 32).toInt : ℝ) : EReal) = 0
  simp

/-- The layout of the result, of any projections: the gates regrouped and padded behind the main columns. -/
def laid (f : (⟨S8x2048x2840, .f32⟩ : BufTy).Contents (Elt Ideal)) : (⟨S16384x3072, .f32⟩ : BufTy).Contents (Elt Ideal) :=
  shapeCast _ (concatenate S8x2048x3072 2 [⟨S8x2048x2816, extractStridedSlice S8x2048x2816 ![0, 0, 0] f slices_S8x2048x2840_S8x2048x2816_0_0_0⟩,
    ⟨S8x2048x256, shapeCast _ (pad S8x2048x2x128 ![0, 0, 0, 0] ![0, 0, 0, 116] ![0, 0, 0, 0]
      (shapeCast S8x2048x2x12 (extractStridedSlice S8x2048x24 ![0, 0, 2816] f slices_S8x2048x2840_S8x2048x24_0_0_2816) shapeCasts_S8x2048x24_S8x2048x2x12)
      (val_main_call0_v0 (F := Ideal)) pads_S8x2048x2x12_S8x2048x2x128_000_000_000_01160 h_S_) shapeCasts_S8x2048x2x128_S8x2048x256⟩]
    concatenates_S8x2048x2816_S8x2048x256_S8x2048x3072_d2) shapeCasts_S8x2048x3072_S16384x3072

/-- The result is the layout of the projections. -/
theorem laid_eq : val_main_v24 (F := Ideal) x0 x1 x2 = laid (val_main_v17 (F := Ideal) x0 x1 x2) := by
  unfold val_main_v24 val_main_v23 val_main_v22 val_main_v21 val_main_v20 val_main_v19 val_main_v18 laid
  rfl

/-- The layout, lane by lane. -/
theorem laid_read (f : (⟨S8x2048x2840, .f32⟩ : BufTy).Contents (Elt Ideal)) (i : Fin 16384) (n : Fin 3072) (b : Fin 8) (s : Fin 2048) (hb : b.val = i.val / 2048) (hs : s.val = i.val % 2048) :
    laid f (ix2 i n) = lane (fun j => f (ix3 b s j)) n := by
  rw [show b = ⟨i.val / 2048, by omega⟩ from Fin.ext hb, show s = ⟨i.val % 2048, by omega⟩ from Fin.ext hs]
  pointwise [laid, val_main_call0_v0, val_main_c]
  have hz := pad_zero
  have h := lane_ref (fun j => f (ix3 ⟨i.val / 2048, by omega⟩ ⟨i.val % 2048, by omega⟩ j)) n _ hz (i.val / 2048) (i.val % 2048) (by omega) (by omega) (fun h => by omega) (fun h => by omega)
  exact h

/-- The result, lane by lane. -/
theorem out_read (i : Fin 16384) (n : Fin 3072) :
    val_main_v24 (F := Ideal) x0 x1 x2 (ix2 i n)
      = lane (fun j => proj (fun k => x0 (ix3 ⟨i.val / 2048, by omega⟩ ⟨i.val % 2048, by omega⟩ k)) (fun k => x1 (ix2 0 k)) (fun k => x2 (ix3 0 k j))) n := by
  rw [laid_eq, laid_read _ i n ⟨i.val / 2048, by omega⟩ ⟨i.val % 2048, by omega⟩ rfl rfl]
  exact congrArg (fun f => lane f n) (funext fun j => proj_read x0 x1 x2 _ _ j)

end Cert.InProjReferenceIdeal.Proj

end
-- ==== Proof.LastIdeal.Gather.lean ====
/-
  The last call gathers each token's expert row: the sets of elements its row copies touch, the copies' two ends at
  closed-form offsets, what the scratch buffer holds once a tile's copies have landed, and the issue of one copy.
-/
module

public import proofs.«01_k».proof.Proof.Gen.LastIdeal.Launch
public import proofs.«01_k».proof.Proof.Gen.LastIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordArith.Masks
public import Idealize.ShloMosaic.Lib.ValueLayout
public import Idealize.ShloMosaic.Lib.Pipeline.ValueKit

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands the body reaches by itself -/

/-- The table of positions, in scalar memory. -/
abbrev tabM : Memref sig .tc .smem S16384 .i32 := Memref.whole main_arg2
/-- The expert rows, eight rows of 128 lanes a token. -/
abbrev stgM : Memref sig .tc .hbm S147456x128 .f32 := Memref.whole main_arg1
/-- The scratch the copies fill, two slots. -/
abbrev scrM : Memref sig .tc .vmem S2x4096x128 .f32 := Memref.whole cc0_scratch0

abbrev TabBuf (c : Dev nD) : Type := Buf (Elt F) (tabM.view.loc (c : Thread nD τ))
abbrev StgBuf (c : Dev nD) : Type := Buf (Elt F) (stgM.view.loc (c : Thread nD τ))
abbrev ScrBuf (c : Dev nD) : Type := Buf (Elt F) (scrM.view.loc (c : Thread nD τ))

/-- The two cells of the scratch's slots. -/
def cell (s : ℕ) : DmaSem sig := if s = 0 then 10 else 11

abbrev semR (o : Fin 1 → ℕ) (h : ∀ a, o a + S1.size a ≤ S2.size a) : DmaSem sig :=
  ((cc0_scratch1.slice (Rect.unit (s := S2) o S1.size h)).squeeze S_ squeezes_S1_S_).sem
abbrev dstR (o : Fin 3 → ℕ) (h : ∀ a, o a + S1x8x128.size a ≤ S2x4096x128.size a) : Memref sig .tc .vmem S8x128 .f32 :=
  (scrM.slice (Rect.unit (s := S2x4096x128) o S1x8x128.size h) (fun _ => rfl)).squeeze S8x128 squeezes_S1x8x128_S8x128
abbrev srcR (o : Fin 2 → ℕ) (h : ∀ a, o a + S8x128.size a ≤ S147456x128.size a) : Memref sig .tc .hbm S8x128 .f32 :=
  stgM.slice (Rect.unit (s := S147456x128) o S8x128.size h) (fun _ => rfl)

theorem semR_eq {s : ℕ} (hs : s < 2) (h) : semR ![s] h = cell s := by
  have hv : (semR ![s] h).val = 10 + s := by
    show 10 + (Shape.rowMajor _ _ : ℕ) = _
    rw [Shape.rowMajor_val_one]
    refine congrArg (10 + ·) ((ValueKit.rect_emb_unit_val _ _ _ _ 0).trans ?_)
    have hz := (Shape.reshapeEquiv (squeezes_S1_S_).numel_eq (fun i => i.elim0) 0).isLt
    have hz' : (Shape.reshapeEquiv (squeezes_S1_S_).numel_eq (fun i => i.elim0) 0).val < 1 := hz
    show s + (Shape.reshapeEquiv (squeezes_S1_S_).numel_eq (fun i => i.elim0) 0).val = s
    omega
  interval_cases s
  · exact Fin.ext hv
  · exact Fin.ext hv

/-! ## The sets of elements -/

/-- The elements of slot `s`. -/
def slotSet (s : ℕ) : Finset S2x4096x128.Idx := Finset.univ.filter fun i => (i 0).val = s
/-- The elements of slot `s` that copy `j` fills. -/
def rowSet (s j : ℕ) : Finset S2x4096x128.Idx := Finset.univ.filter fun i => (i 0).val = s ∧ (i 1).val / 8 = j
/-- The elements of the expert rows that are token `r`'s. -/
def srcSet (r : ℕ) : Finset S147456x128.Idx := Finset.univ.filter fun i => (i 0).val / 8 = r

theorem dstR_set {s j : ℕ} (h) : (dstR ![s, 8 * j, 0] h).view.set = rowSet s j := by
  rw [show (dstR ![s, 8 * j, 0] h).view.set = ((View.whole cc0_scratch0).slice (Rect.unit (s := S2x4096x128) ![s, 8 * j, 0] S1x8x128.size h)).set from View.set_reshape _ _]
  ext i
  refine ValueKit.mem_set_slice_whole_iff cc0_scratch0 _ i ?_
  rw [Rect.mem_set_unit, ValueKit.forall_fin_iff_conj]
  have h2 : (i 2).val < 128 := (i 2).isLt
  unfold rowSet
  rw [Finset.mem_filter]
  show ((s ≤ (i 0).val ∧ (i 0).val < s + 1) ∧ (8 * j ≤ (i 1).val ∧ (i 1).val < 8 * j + 8) ∧ (0 ≤ (i 2).val ∧ (i 2).val < 0 + 128)) ↔ _
  constructor
  · rintro ⟨⟨a, b⟩, ⟨d, e⟩, -⟩; exact ⟨Finset.mem_univ _, by omega, by omega⟩
  · rintro ⟨-, a, b⟩; exact ⟨by omega, by omega, by omega⟩

theorem srcR_set {r : ℕ} (h) : (srcR ![8 * r, 0] h).view.set = srcSet r := by
  ext i
  refine ValueKit.mem_set_slice_whole_iff main_arg1 _ i ?_
  rw [Rect.mem_set_unit, ValueKit.forall_fin_iff_conj]
  have h2 : (i 1).val < 128 := (i 1).isLt
  unfold srcSet
  rw [Finset.mem_filter]
  show ((8 * r ≤ (i 0).val ∧ (i 0).val < 8 * r + 8) ∧ (0 ≤ (i 1).val ∧ (i 1).val < 0 + 128)) ↔ _
  constructor
  · rintro ⟨⟨a, b⟩, -⟩; exact ⟨Finset.mem_univ _, by omega⟩
  · rintro ⟨-, a⟩; exact ⟨by omega, by omega⟩

theorem rowSet_disjoint (s : ℕ) (j j' : ℕ) (h : j ≠ j') : Disjoint (rowSet s j) (rowSet s j') := by
  rw [Finset.disjoint_left]; intro i hi hi'
  unfold rowSet at hi hi'; rw [Finset.mem_filter] at hi hi'
  exact h (hi.2.2.symm.trans hi'.2.2)

theorem slotSet_biUnion (s : ℕ) : slotSet s = (Finset.univ : Finset (Fin 512)).biUnion fun j => rowSet s j.val := by
  ext i
  have h1 : (i 1).val < 4096 := (i 1).isLt
  unfold slotSet rowSet
  simp only [Finset.mem_filter, Finset.mem_univ, true_and, Finset.mem_biUnion]
  constructor
  · intro h; exact ⟨⟨(i 1).val / 8, by omega⟩, h, rfl⟩
  · rintro ⟨_, h, _⟩; exact h

theorem slot_disjoint : Disjoint (slotSet 0) (slotSet 1) := by
  rw [Finset.disjoint_left]; intro i hi hi'
  unfold slotSet at hi hi'; rw [Finset.mem_filter] at hi hi'
  exact absurd (hi.2.symm.trans hi'.2) (by decide)

theorem slot_univ : (Finset.univ : Finset S2x4096x128.Idx) \ slotSet 0 = slotSet 1 := by
  ext i
  have h1 : (i 0).val < 2 := (i 0).isLt
  unfold slotSet
  simp only [Finset.mem_filter, Finset.mem_univ, true_and, Finset.mem_sdiff]
  omega

/-! ## What a tile's copies leave -/

/-- Slot token `n` of the table. -/
def tabAt (tab : S16384.Idx → BitVec 32) (n : ℕ) : BitVec 32 :=
  tab (ValueIdx.ix1 (⟨n % 16384, Nat.mod_lt _ (by decide)⟩ : Fin 16384))
/-- The token of slot `j` of tile `T`. -/
def tok (tab : S16384.Idx → BitVec 32) (T j : ℕ) : ℕ := (tabAt tab (512 * T + j)).toNat

/-- A slot of the scratch once tile `T`'s copies have landed: row `8 j + k` is row `k` of slot `j`'s token. -/
def gath (f : S147456x128.Idx → Elt F .f32) (tk : ℕ → ℕ) : S2x4096x128.Idx → Elt F .f32 := fun i =>
  f (ValueIdx.ix2 (⟨(8 * tk ((i 1).val / 8) + (i 1).val % 8) % 147456, Nat.mod_lt _ (by decide)⟩ : Fin 147456) (⟨(i 2).val, (i 2).isLt⟩ : Fin 128))

/-- A copy's write over anything is the gathered contents on the copy's own elements. -/
theorem write_gath (c : Dev nD) (f : StgBuf (F := F) c) (fd : ScrBuf (F := F) c) (tk : ℕ → ℕ) {s j : ℕ} (ht : tk j < 18432) (h h') :
    ∀ i ∈ rowSet s j, (View.write (Elt F) (dstR ![s, 8 * j, 0] h).view (show (dstR ![s, 8 * j, 0] h).view.ty.Contents (Elt F) from fd) (ReadAs.same.apply (View.read (Elt F) (srcR ![8 * tk j, 0] h').view (show (srcR ![8 * tk j, 0] h').view.ty.Contents (Elt F) from f))) Finset.univ) i
      = gath f tk i := by
  intro i hi
  rw [← dstR_set h] at hi
  obtain ⟨y, -, rfl⟩ := Finset.mem_map.mp hi
  refine (View.write_emb_of_mem _ _ (Finset.mem_univ y)).trans ?_
  have hy0 : (y 0).val < 8 := (y 0).isLt
  have hy1 : (y 1).val < 128 := (y 1).isLt
  have hy : y = ValueIdx.ix2 (⟨(y 0).val, hy0⟩ : Fin 8) (⟨(y 1).val, hy1⟩ : Fin 128) := by
    funext a; refine Fin.cases rfl (fun a => ?_) a; exact Fin.cases rfl (fun a => a.elim0) a
  set e := (dstR ![s, 8 * j, 0] h).view.emb y with he
  have e0 : e = (Rect.unit (s := S2x4096x128) ![s, 8 * j, 0] S1x8x128.size h).emb (ValueIdx.ix3 (⟨0, Nat.one_pos⟩ : Fin 1) (⟨(y 0).val, hy0⟩ : Fin 8) (⟨(y 1).val, hy1⟩ : Fin 128)) := by
    refine (congrArg (dstR ![s, 8 * j, 0] h).view.emb hy).trans ?_
    show (Rect.unit (s := S2x4096x128) ![s, 8 * j, 0] S1x8x128.size h).emb (Shape.reshapeEquiv _ _) = _
    exact congrArg _ (reshapeEquiv_ix2_1ab _ _ _)
  have e1 : (e 1).val = 8 * j + (y 0).val := by rw [e0]; exact ValueKit.rect_emb_unit_val _ _ _ _ 1
  have e2 : (e 2).val = (y 1).val := by rw [e0]; exact (ValueKit.rect_emb_unit_val _ _ _ _ 2).trans (Nat.zero_add _)
  show f ((Rect.unit (s := S147456x128) ![8 * tk j, 0] S8x128.size h').emb y) = gath f tk e
  unfold gath
  congr 1
  have q1 : (e 1).val / 8 = j := by omega
  have q2 : (e 1).val % 8 = (y 0).val := by omega
  funext a
  refine Fin.cases ?_ (fun a => ?_) a
  · apply Fin.ext
    refine (ValueKit.rect_emb_unit_val _ _ _ _ 0).trans ?_
    show 8 * tk j + (y 0).val = (8 * tk ((e 1).val / 8) + (e 1).val % 8) % 147456
    rw [q1, q2, Nat.mod_eq_of_lt (by omega)]
  · refine Fin.cases ?_ (fun a => a.elim0) a
    apply Fin.ext
    refine (ValueKit.rect_emb_unit_val _ _ _ _ 1).trans ?_
    show 0 + (y 1).val = (e 2).val
    omega

/-! ## The deliveries of a tile's copies -/

/-- The units one copy pays on its cell. -/
abbrev unitsN : ℕ := (scrM.view.ref.dmaCredit S8x128 .f32)

/-- What copy `j` delivers: its eight rows of slot `s` at the gathered contents, its share of its token back. -/
def deliv (c : Dev nD) (s : ℕ) (q : PosShare TreeShare) (f : StgBuf (F := F) c) (tk : ℕ → ℕ) (j : Fin 512) : sProp 𝕄 :=
  iprop((scrM.view.loc (c : Thread nD τ) ↦[rowSet s j.val]{fullShare} gath f tk)
    ∗ (stgM.view.loc (c : Thread nD τ) ↦[srcSet (tk j.val)]{Transfers.shareTok q 512 j} f))

instance deliv_storable (c : Dev nD) (s : ℕ) (q : PosShare TreeShare) (f : StgBuf (F := F) c) (tk : ℕ → ℕ) (j : Fin 512) :
    Storable (upEmb : UEmb _ 𝕄) (deliv c s q f tk j) := by
  unfold deliv; infer_instance

/-- The batch of a tile's copies into slot `s`, `j` issued. -/
abbrev bat (c : Dev nD) (s : ℕ) (q : PosShare TreeShare) (f : StgBuf (F := F) c) (tk : ℕ → ℕ) (j : ℕ) : sProp 𝕄 :=
  Transfers.Batch (countersEmb (U := Pipeline.UD sig nD τ)) (c : Thread nD τ) (SemLoc.dma (cell s)) () unitsN (deliv c s q f tk) j 0

/-- Issue copy `j` of a tile: its rows of the slot at anything and its share of its token go into the batch. -/
theorem issue (c : Dev nD) {s : ℕ} (hs : s < 2) (q : PosShare TreeShare) (f : StgBuf (F := F) c) (fd : ScrBuf (F := F) c) (tk : ℕ → ℕ) (j : Fin 512)
    (ht : tk j.val < 18432) {o3 : Fin 1 → ℕ} {o4 : Fin 3 → ℕ} {o5 : Fin 2 → ℕ} (e3 : o3 = ![s]) (e4 : o4 = ![s, 8 * j.val, 0]) (e5 : o5 = ![8 * tk j.val, 0])
    {h3 h4 h5} {hsrc hdst hsem} {k : PUnit → Prog (TpuEff nD τ sig (Elt F) Λ₀ .tc) PUnit} {Q : PUnit → sProp 𝕄} :
    iprop((stgM.view.loc (c : Thread nD τ) ↦[srcSet (tk j.val)]{Transfers.shareTok q 512 j} f)
        ∗ (scrM.view.loc (c : Thread nD τ) ↦[rowSet s j.val]{fullShare} fd) ∗ bat c s q f tk j.val)
      ⊢ iprop((bat c s q f tk (j.val + 1) -∗ wp frame (wpE (defs₀ (F := F)) Variants.none c none) Set.univ (k ⟨⟩) Q)
          -∗ wp frame (wpE (defs₀ (F := F)) Variants.none c none) Set.univ
              (.op (.enqueueDma (srcR o5 h5) (.here (dstR o4 h4)) (.dma (semR o3 h3)) hsrc hdst hsem) k) Q) := by
  subst e3 e4 e5
  have hset := srcR_set (r := tk j.val) h5
  have hc : semR ![s] h3 = cell s := semR_eq hs h3
  generalize hx : semR ![s] h3 = x at hsem hc ⊢
  subst hc
  rw [← hset, ← dstR_set h4]
  have hN : (dstR ![s, 8 * j.val, 0] h4).view.amount (SemLoc.dma (semR ![s] h3)) = unitsN := rfl
  have hD : iprop(((dstR ![s, 8 * j.val, 0] h4).view.loc (c : Thread nD τ) ↦[(dstR ![s, 8 * j.val, 0] h4).view.set]{fullShare}
        (View.write (Elt F) (dstR ![s, 8 * j.val, 0] h4).view (show (dstR ![s, 8 * j.val, 0] h4).view.ty.Contents (Elt F) from fd) (ReadAs.same.apply (View.read (Elt F) (srcR ![8 * tk j.val, 0] h5).view (show (srcR ![8 * tk j.val, 0] h5).view.ty.Contents (Elt F) from f))) Finset.univ))
        ∗ ((srcR ![8 * tk j.val, 0] h5).view.loc (c : Thread nD τ) ↦[(srcR ![8 * tk j.val, 0] h5).view.set]{Transfers.shareTok q 512 j} f))
      ⊢ (deliv c s q f tk ⟨j.val, j.isLt⟩ : sProp 𝕄) := by
    unfold deliv
    rw [dstR_set h4, hset]
    iintro ⟨H1, H2⟩
    isplitl [H1]
    · ihave H1 := (Entails.of_eq (pointsTo_congr (write_gath c f fd tk ht h4 h5))) $$ H1
      iexact H1
    iexact H2
  have key := Transfers.wp_dmaBatch (countersEmb (U := Pipeline.UD sig nD τ)) Variants.none (c : Thread nD τ) none (defs := defs₀ (F := F))
    (src := srcR ![8 * tk j.val, 0] h5) (via := ReadAs.same) (dst := dstR ![s, 8 * j.val, 0] h4) (hsrc := hsrc) (hdst := hdst) (hsem := hsem)
    (k := k) (Q := Q) (q := Transfers.shareTok q 512 j) (u := 0) () unitsN hN (Finset.Subset.refl _) j.isLt (Nat.zero_le _) hD
  exact key

end Cert.LastIdeal.Ple

end
-- ==== Proof.LastIdeal.Issue.lean ====
/-
  The two loops that start a tile's row copies, and the wait that drains them: closed forms of the offsets the loops
  compute, one trip, a whole loop, and the slot's states before, while and after a tile's copies fly.
-/
module

public import proofs.«01_k».proof.Proof.LastIdeal.Gather

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Closed forms -/

theorem coord_val : ∀ t : Fin grid0.N, (grid0.coords t 0).val = t.val := by decide +kernel
theorem trips1 : k0_t1_loop.trips = 512 := by decide +kernel
theorem trips2 : k0_t2_loop.trips = 512 := by decide +kernel
theorem off2_eq : ∀ t : Fin grid0.N, k0_off2 (grid0.coords t) = ![t.val % 2] := by decide +kernel
theorem off6_eq : ∀ t : Fin grid0.N, k0_off6 (grid0.coords t) = ![(t.val + 1) % 2] := by decide +kernel
theorem off9_eq : ∀ t : Fin grid0.N, k0_off9 (grid0.coords t) = ![t.val % 2] := by decide +kernel
theorem off10_eq : ∀ t : Fin grid0.N, k0_off10 (grid0.coords t) = ![t.val % 2, 0, 0] := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 < 32 := by decide +kernel

theorem iv_val (k : ℕ) (hk : k < 512) : (Scf.iv 0#32 1#32 k).toNat = k := WordArith.toNat_iv_zero_one _ (by omega)

theorem lin_val (a k : ℕ) (ha : a < 40) (hk : k < 512) : (BitVec.ofNat 32 a * 512#32 + Scf.iv 0#32 1#32 k).toNat = 512 * a + k := by
  rw [BitVec.toNat_add, BitVec.toNat_mul, iv_val k hk, BitVec.toNat_ofNat, BitVec.toNat_ofNat]; omega

theorem off1_eq (t : Fin grid0.N) (k : Fin k0_t1_loop.trips) : k0_off1 (grid0.coords t) k = ![512 * t.val + k.val] := by
  have ht : t.val < 32 := N_0 ▸ t.isLt
  have hk : k.val < 512 := trips1 ▸ k.isLt
  show ![(BitVec.ofNat 32 (grid0.coords t 0).val * 512#32 + Scf.iv 0#32 1#32 k.val).toNat] = _
  rw [coord_val, lin_val _ _ (by omega) hk]

theorem off5_eq (t : Fin grid0.N) (k : Fin k0_t2_loop.trips) : k0_off5 (grid0.coords t) k = ![512 * (t.val + 1) + k.val] := by
  have ht : t.val < 32 := N_0 ▸ t.isLt
  have hk : k.val < 512 := trips2 ▸ k.isLt
  show ![((BitVec.ofNat 32 (grid0.coords t 0).val + 1#32) * 512#32 + Scf.iv 0#32 1#32 k.val).toNat] = _
  rw [coord_val, show BitVec.ofNat 32 t.val + 1#32 = BitVec.ofNat 32 (t.val + 1) from (BitVec.ofNat_add ..).symm, lin_val _ _ (by omega) hk]

theorem mul8_iv (k : ℕ) (hk : k < 512) : (Scf.iv 0#32 1#32 k * 8#32).toNat = 8 * k := by
  rw [BitVec.toNat_mul, iv_val k hk, BitVec.toNat_ofNat]; omega

theorem off3_eq (t : Fin grid0.N) (k : Fin k0_t1_loop.trips) : k0_off3 (grid0.coords t) k = ![t.val % 2, 8 * k.val, 0] := by
  have hk : k.val < 512 := trips1 ▸ k.isLt
  have h3 : k0_off2 (grid0.coords t) 0 = t.val % 2 := congrFun (off2_eq t) 0
  show ![k0_off2 (grid0.coords t) 0, (Scf.iv 0#32 1#32 k.val * 8#32).toNat, 0] = _
  rw [h3, mul8_iv _ hk]

theorem off7_eq (t : Fin grid0.N) (k : Fin k0_t2_loop.trips) : k0_off7 (grid0.coords t) k = ![(t.val + 1) % 2, 8 * k.val, 0] := by
  have hk : k.val < 512 := trips2 ▸ k.isLt
  have h3 : k0_off6 (grid0.coords t) 0 = (t.val + 1) % 2 := congrFun (off6_eq t) 0
  show ![k0_off6 (grid0.coords t) 0, (Scf.iv 0#32 1#32 k.val * 8#32).toNat, 0] = _
  rw [h3, mul8_iv _ hk]

theorem mul8_val (v : BitVec 32) (h : v.toNat < 18432) : (v * 8#32).toNat = 8 * v.toNat := by
  rw [BitVec.toNat_mul, BitVec.toNat_ofNat]; omega

theorem off4_eq (v : BitVec 32) (h : v.toNat < 18432) : k0_off4 v = ![8 * v.toNat, 0] := by
  show ![(v * 8#32).toNat, 0] = _
  rw [mul8_val v h]

theorem off8_eq (v : BitVec 32) (h : v.toNat < 18432) : k0_off8 v = ![8 * v.toNat, 0] := by
  show ![(v * 8#32).toNat, 0] = _
  rw [mul8_val v h]

theorem tok_inb (n : ℕ) (h : n < 18432) : ∀ a, (![8 * n, 0] : Fin 2 → ℕ) a + S8x128.size a ≤ S147456x128.size a := by
  rw [ValueKit.forall_fin_iff_conj]
  show 8 * n + 8 ≤ 147456 ∧ 0 + 128 ≤ 128
  omega

theorem chk1_of (i : grid0.Coords) (v : BitVec 32) (h : v.toNat < 18432) : k0_chk1 i v :=
  ⟨fun _ => by show 8 ∣ (v * 8#32).toNat; rw [mul8_val v h]; exact ⟨_, rfl⟩, fun _ => by rw [off4_eq v h]; exact tok_inb _ h⟩

theorem chk2_of (i : grid0.Coords) (v : BitVec 32) (h : v.toNat < 18432) : k0_chk2 i v :=
  ⟨fun _ => by show 8 ∣ (v * 8#32).toNat; rw [mul8_val v h]; exact ⟨_, rfl⟩, fun _ => by rw [off8_eq v h]; exact tok_inb _ h⟩

/-! ## A word of the token table -/

/-- The body's read of the table's word `n`. -/
theorem load_tab (c : Dev nD) (tab : S16384.Idx → BitVec 32) (qt : PosShare TreeShare) {n : ℕ} {o : Fin 1 → ℕ} (e : o = ![n]) {h} {h1 hp}
    {k : BitVec 32 → Prog (TpuEff nD τ sig (Elt F) Λ₀ .tc) PUnit} {Q : PUnit → sProp 𝕄} :
    (tabM.view.loc (c : Thread nD τ) ↦{qt} (show TabBuf (F := F) c from tab))
      ⊢ iprop(((tabM.view.loc (c : Thread nD τ) ↦{qt} (show TabBuf (F := F) c from tab)) -∗ wp frame (wpE (defs₀ (F := F)) Variants.none c none) Set.univ (k (tabAt tab n)) Q)
          -∗ wp frame (wpE (defs₀ (F := F)) Variants.none c none) Set.univ
              (smemLoad tabM (Rect.unit (s := S16384) o S1.size h) h1 hp >>= k) Q) := by
  subst e
  have hn : n < 16384 := by have := h 0; change n + 1 ≤ 16384 at this; omega
  have key := wp_smemLoadElt (defs := defs₀ (F := F)) Variants.none (c : Thread nD τ) none Set.univ (Γ := PendingWaitsCtx.empty) (m := tabM) (r := Rect.unit (s := S16384) ![n] S1.size h) (hw := View.loads_smem_one hp h1)
    (x := Shape.Idx.first (h1.symm ▸ Nat.one_pos)) (k := k) (Q := Q) (q := qt) (f := (show TabBuf (F := F) c from tab)) (S := Finset.univ) (Finset.subset_univ _)
  have hv : ((tabM.access (Rect.unit (s := S16384) ![n] S1.size h)).read (Elt F) (show TabBuf (F := F) c from tab) (Shape.Idx.first (h1.symm ▸ Nat.one_pos)) : BitVec 32) = tabAt tab n := by
    show tab ((Rect.unit (s := S16384) ![n] S1.size h).emb (Shape.Idx.first (h1.symm ▸ Nat.one_pos))) = tab _
    congr 1
    funext a
    refine Fin.cases ?_ (fun a => a.elim0) a
    apply Fin.ext
    refine (ValueKit.rect_emb_unit_val _ _ _ _ 0).trans ?_
    have hz : (Shape.Idx.first (s := (Rect.unit (s := S16384) ![n] S1.size h).shape) (h1.symm ▸ Nat.one_pos) 0).val < 1 := Fin.isLt _
    show n + (Shape.Idx.first (s := (Rect.unit (s := S16384) ![n] S1.size h).shape) (h1.symm ▸ Nat.one_pos) 0).val = n % 16384
    rw [Nat.mod_eq_of_lt hn]; omega
  rw [hv] at key
  exact key

/-! ## The slot's states -/

abbrev tabPt (c : Dev nD) (qt : PosShare TreeShare) (tab : S16384.Idx → BitVec 32) : sProp 𝕄 :=
  tabM.view.loc (c : Thread nD τ) ↦{qt} (show TabBuf (F := F) c from tab)

/-- What a copy has still to be given: its rows of the slot, at anything, and its share of its token. -/
abbrev want (c : Dev nD) (s : ℕ) (q : PosShare TreeShare) (f : StgBuf (F := F) c) (fd : ScrBuf (F := F) c) (tk : ℕ → ℕ) (j : Fin 512) : sProp 𝕄 :=
  iprop((stgM.view.loc (c : Thread nD τ) ↦[srcSet (tk j.val)]{Transfers.shareTok q 512 j} f)
    ∗ (scrM.view.loc (c : Thread nD τ) ↦[rowSet s j.val]{fullShare} fd))

/-- The loop's invariant before trip `k`: the table, what the trips left need, the batch with `k` issued. -/
def inv (c : Dev nD) (s : ℕ) (q qt : PosShare TreeShare) (tab : S16384.Idx → BitVec 32) (f : StgBuf (F := F) c) (fd : ScrBuf (F := F) c) (tk : ℕ → ℕ) (k : ℕ) : sProp 𝕄 :=
  iprop(tabPt c qt tab ∗ bigSep (Transfers.pending k) (want c s q f fd tk) ∗ bat c s q f tk k)

/-- The slot at rest: its counter at zero, its elements at anything, its share of the expert rows. -/
def Idle (c : Dev nD) (s : ℕ) (q : PosShare TreeShare) (f : StgBuf (F := F) c) : sProp 𝕄 :=
  iprop(semVal ((c : Thread nD τ), SemLoc.dma (cell s)) 0
    ∗ (∃ fd : ScrBuf (F := F) c, scrM.view.loc (c : Thread nD τ) ↦[slotSet s]{fullShare} fd)
    ∗ (stgM.view.loc (c : Thread nD τ) ↦{q} f))

/-- The slot's copies in flight: the batch, every copy's share of the tokens it does not read, what is left of the share. -/
def Flying (c : Dev nD) (s : ℕ) (q : PosShare TreeShare) (f : StgBuf (F := F) c) (tk : ℕ → ℕ) : sProp 𝕄 :=
  iprop(bat c s q f tk 512
    ∗ bigSep Finset.univ (fun j : Fin 512 => (stgM.view.loc (c : Thread nD τ) ↦[Finset.univ \ srcSet (tk j.val)]{Transfers.shareTok q 512 j} f))
    ∗ (stgM.view.loc (c : Thread nD τ) ↦{Transfers.shareDrop q 512} f))

/-- The slot's copies landed: its counter at zero, its elements at the gathered contents, its share back. -/
def Landed (c : Dev nD) (s : ℕ) (q : PosShare TreeShare) (f : StgBuf (F := F) c) (tk : ℕ → ℕ) : sProp 𝕄 :=
  iprop(semVal ((c : Thread nD τ), SemLoc.dma (cell s)) 0
    ∗ (scrM.view.loc (c : Thread nD τ) ↦[slotSet s]{fullShare} (show ScrBuf (F := F) c from gath f tk))
    ∗ (stgM.view.loc (c : Thread nD τ) ↦{q} f))

theorem Landed_idle (c : Dev nD) (s : ℕ) (q : PosShare TreeShare) (f : StgBuf (F := F) c) (tk : ℕ → ℕ) : Landed c s q f tk ⊢ Idle c s q f := by
  unfold Landed Idle
  iintro ⟨H1, H2, H3⟩
  isplitl [H1]; · iexact H1
  isplitl [H2]; · iexists _; iexact H2
  iexact H3

theorem sep_out {I : Type} (S : Finset I) (Φ Ψ : I → sProp 𝕄) : bigSep S (fun i => iprop(Φ i ∗ Ψ i)) ⊢ iprop(bigSep S Φ ∗ bigSep S Ψ) :=
  Entails.of_eq (bigSep_sep S Φ Ψ)
theorem sep_in {I : Type} (S : Finset I) (Φ Ψ : I → sProp 𝕄) : iprop(bigSep S Φ ∗ bigSep S Ψ) ⊢ bigSep S (fun i => iprop(Φ i ∗ Ψ i)) :=
  Entails.of_eq (bigSep_sep S Φ Ψ).symm
theorem pending_out {n : ℕ} (Φ : Fin n → sProp 𝕄) {k : ℕ} (hk : k < n) :
    bigSep (Transfers.pending k) Φ ⊢ iprop(Φ ⟨k, hk⟩ ∗ bigSep (Transfers.pending (k + 1)) Φ) :=
  Entails.of_eq (by rw [Transfers.pending_succ hk, bigSep_insert (Transfers.not_mem_pending_succ hk)]; rfl)
theorem pieces_eq {ℓ : Loc nD τ sig} {q : PosShare TreeShare} {f : Buf (Elt F) ℓ} (S : Finset (Idx ℓ)) (K : Fin 512 → Finset (Idx ℓ))
    (hd : ∀ j j', j ≠ j' → Disjoint (K j) (K j')) (hS : ∀ i, i ∈ S ↔ ∃ j, i ∈ K j) :
    (ℓ ↦[S]{q} f : sProp 𝕄) = bigSep Finset.univ (fun j => ℓ ↦[K j]{q} f) := by
  have e : S = Finset.univ.biUnion K := by
    ext i; rw [hS, Finset.mem_biUnion]; simp
  rw [e]; exact pointsTo_biUnion Finset.univ K fun j _ j' _ h => hd j j' h
theorem mem_slot_iff (s : ℕ) (i : S2x4096x128.Idx) : i ∈ slotSet s ↔ ∃ j : Fin 512, i ∈ rowSet s j.val := by
  constructor
  · intro hi
    have h1 : (i 1).val < 4096 := (i 1).isLt
    refine ⟨⟨(i 1).val / 8, by omega⟩, ?_⟩
    unfold slotSet at hi; unfold rowSet
    rw [Finset.mem_filter] at hi ⊢
    exact ⟨hi.1, hi.2, rfl⟩
  · rintro ⟨j, hj⟩
    unfold rowSet at hj; unfold slotSet
    rw [Finset.mem_filter] at hj ⊢
    exact ⟨hj.1, hj.2.1⟩
theorem slot_pieces (c : Dev nD) (s : ℕ) (fd : ScrBuf (F := F) c) :
    (scrM.view.loc (c : Thread nD τ) ↦[slotSet s]{fullShare} fd : sProp 𝕄)
      = bigSep Finset.univ (fun j : Fin 512 => (scrM.view.loc (c : Thread nD τ) ↦[rowSet s j.val]{fullShare} fd)) :=
  pieces_eq (ℓ := scrM.view.loc (c : Thread nD τ)) (slotSet s) (fun j : Fin 512 => rowSet s j.val)
    (fun j j' h => rowSet_disjoint s j.val j'.val fun e => h (Fin.ext e)) (mem_slot_iff s)

/-- A slot at rest is what the loop starts from. -/
theorem idle_start (c : Dev nD) (s : ℕ) (q : PosShare TreeShare) (f : StgBuf (F := F) c) (tk : ℕ → ℕ) :
    Idle c s q f ⊢ |={Set.univ}=> iprop(∃ fd : ScrBuf (F := F) c, bigSep (Transfers.pending 0) (want c s q f fd tk) ∗ bat c s q f tk 0
      ∗ bigSep Finset.univ (fun j : Fin 512 => (stgM.view.loc (c : Thread nD τ) ↦[Finset.univ \ srcSet (tk j.val)]{Transfers.shareTok q 512 j} f))
      ∗ (stgM.view.loc (c : Thread nD τ) ↦{Transfers.shareDrop q 512} f)) := by
  unfold Idle
  iintro ⟨Hv, ⟨%fd, Hd⟩, Hs⟩
  imod (Transfers.batch_alloc' (Lvl := ℕ) (countersEmb (U := Pipeline.UD sig nD τ)) (c : Thread nD τ) () unitsN
      (deliv c s q f tk) (sm := SemLoc.dma (cell s)) (E := Set.univ)) $$ Hv with HB
  ihave Hs := (Transfers.pointsTo_toks_split q 512) $$ Hs
  icases Hs with ⟨Hdrop, Hs⟩
  have hsplit : (bigSep Finset.univ (fun i : Fin 512 => (stgM.view.loc (c : Thread nD τ) ↦{Transfers.shareTok q 512 i} f)) : sProp 𝕄)
      ⊢ iprop(bigSep Finset.univ (fun j : Fin 512 => (stgM.view.loc (c : Thread nD τ) ↦[srcSet (tk j.val)]{Transfers.shareTok q 512 j} f))
        ∗ bigSep Finset.univ (fun j : Fin 512 => (stgM.view.loc (c : Thread nD τ) ↦[Finset.univ \ srcSet (tk j.val)]{Transfers.shareTok q 512 j} f))) := by
    exact (bigSep_mono fun j _ => (pointsTo_split_subset (Finset.subset_univ (srcSet (tk j.val)))).1).trans (sep_out _ _ _)
  ihave Hs := hsplit $$ Hs
  icases Hs with ⟨Hs, Hr⟩
  ihave Hd := (Entails.of_eq (slot_pieces c s fd)) $$ Hd
  imodintro
  iexists fd
  isplitl [Hs Hd]
  · rw [Transfers.pending_zero]
    iapply (sep_in (F := F) Finset.univ _ _)
    isplitl [Hs]; · iexact Hs
    iexact Hd
  isplitl [HB]; · iexact HB
  isplitl [Hr]; · iexact Hr
  iexact Hdrop

/-- Every copy landed is the slot landed. -/
theorem landed_of (c : Dev nD) (s : ℕ) (q : PosShare TreeShare) (f : StgBuf (F := F) c) (tk : ℕ → ℕ) :
    iprop(bigSep Finset.univ (deliv c s q f tk) ∗ semVal ((c : Thread nD τ), SemLoc.dma (cell s)) 0
      ∗ bigSep Finset.univ (fun j : Fin 512 => (stgM.view.loc (c : Thread nD τ) ↦[Finset.univ \ srcSet (tk j.val)]{Transfers.shareTok q 512 j} f))
      ∗ (stgM.view.loc (c : Thread nD τ) ↦{Transfers.shareDrop q 512} f)) ⊢ Landed c s q f tk := by
  unfold Landed
  have h1 : (bigSep Finset.univ (deliv c s q f tk) : sProp 𝕄)
      ⊢ iprop(bigSep Finset.univ (fun j : Fin 512 => (scrM.view.loc (c : Thread nD τ) ↦[rowSet s j.val]{fullShare} (show ScrBuf (F := F) c from gath f tk)))
        ∗ bigSep Finset.univ (fun j : Fin 512 => (stgM.view.loc (c : Thread nD τ) ↦[srcSet (tk j.val)]{Transfers.shareTok q 512 j} f))) := by
    exact sep_out _ _ _
  have h2 : (bigSep Finset.univ (fun j : Fin 512 => (scrM.view.loc (c : Thread nD τ) ↦[rowSet s j.val]{fullShare} (show ScrBuf (F := F) c from gath f tk))) : sProp 𝕄)
      ⊢ (scrM.view.loc (c : Thread nD τ) ↦[slotSet s]{fullShare} (show ScrBuf (F := F) c from gath f tk)) := by
    exact Entails.of_eq (slot_pieces c s _).symm
  have h3 : iprop(bigSep Finset.univ (fun j : Fin 512 => (stgM.view.loc (c : Thread nD τ) ↦[srcSet (tk j.val)]{Transfers.shareTok q 512 j} f))
        ∗ bigSep Finset.univ (fun j : Fin 512 => (stgM.view.loc (c : Thread nD τ) ↦[Finset.univ \ srcSet (tk j.val)]{Transfers.shareTok q 512 j} f)))
      ⊢ (bigSep Finset.univ (fun i : Fin 512 => (stgM.view.loc (c : Thread nD τ) ↦{Transfers.shareTok q 512 i} f)) : sProp 𝕄) := by
    exact (sep_in _ _ _).trans (bigSep_mono fun j _ => (pointsTo_split_subset (Finset.subset_univ (srcSet (tk j.val)))).2)
  iintro ⟨HD, Hv, Hr, Hdrop⟩
  ihave HD := h1 $$ HD
  icases HD with ⟨Hd, Hs⟩
  isplitl [Hv]; · iexact Hv
  isplitl [Hd]; · iapply h2; iexact Hd
  iapply (Transfers.pointsTo_toks_join q 512)
  isplitl [Hdrop]; · iexact Hdrop
  iapply h3
  isplitl [Hs]; · iexact Hs
  iexact Hr

/-! ## One trip, and the loops -/

theorem trip1 (c : Dev nD) (t : Fin grid0.N) (h1 : k0_cond1 (grid0.coords t) = 1#1) (q qt : PosShare TreeShare) (tab : S16384.Idx → BitVec 32)
    (htab : ∀ n, (tabAt tab n).toNat < 18432) (f : StgBuf (F := F) c) (fd : ScrBuf (F := F) c)
    {a2 a4 a5 a6 a7 a8 a9 : _} {h2 h4 h5 h6 h7 h8 h9} (k : Fin k0_t1_loop.trips) (acc : Unit) :
    inv c (t.val % 2) q qt tab f fd (tok tab t.val) k.val
      ⊢ wp frame (wpE (defs₀ (F := F)) Variants.none c none) Set.univ
          (k0_t1_body (grid0.coords t) tabM (Memref.isWhole_whole _) a2 h2 stgM (Memref.isWhole_whole _) a4 h4 a5 h5 a6 h6 a7 h7 a8 h8 a9 h9
            scrM (Memref.isWhole_whole _) cc0_scratch1 h1 k acc) (fun _ => inv c (t.val % 2) q qt tab f fd (tok tab t.val) (k.val + 1)) := by
  have hk : k.val < 512 := trips1 ▸ k.isLt
  unfold k0_t1_body inv
  iintro ⟨Ht, Hp, HB⟩
  ihave Hp := (pending_out (F := F) _ hk) $$ Hp
  icases Hp with ⟨⟨Hs, Hd⟩, Hrest⟩
  iapply (load_tab c tab qt (off1_eq t k)) $$ Ht
  iintro Ht
  iapply (wp_assume (c := (c : Thread nD τ)) Variants.none none Set.univ (chk1_of _ _ (htab _)))
  iapply (issue c (s := t.val % 2) (Nat.mod_lt _ (by decide)) q f fd (tok tab t.val) ⟨k.val, hk⟩ (htab _) (off2_eq t) (off3_eq t k) (off4_eq _ (htab _))) $$ [Hs Hd HB]
  · isplitl [Hs]; · iexact Hs
    isplitl [Hd]; · iexact Hd
    iexact HB
  iintro HB
  iapply (Entails.of_eq (wp_pure ..).symm)
  imodintro
  isplitl [Ht]; · iexact Ht
  isplitl [Hrest]; · iexact Hrest
  iexact HB

theorem trip2 (c : Dev nD) (t : Fin grid0.N) (h1 : k0_cond2 (grid0.coords t) = 1#1) (q qt : PosShare TreeShare) (tab : S16384.Idx → BitVec 32)
    (htab : ∀ n, (tabAt tab n).toNat < 18432) (f : StgBuf (F := F) c) (fd : ScrBuf (F := F) c)
    {a2 a4 a5 a6 a7 a8 a9 : _} {h2 h4 h5 h6 h7 h8 h9} (k : Fin k0_t2_loop.trips) (acc : Unit) :
    inv c ((t.val + 1) % 2) q qt tab f fd (tok tab (t.val + 1)) k.val
      ⊢ wp frame (wpE (defs₀ (F := F)) Variants.none c none) Set.univ
          (k0_t2_body (grid0.coords t) tabM (Memref.isWhole_whole _) a2 h2 stgM (Memref.isWhole_whole _) a4 h4 a5 h5 a6 h6 a7 h7 a8 h8 a9 h9
            scrM (Memref.isWhole_whole _) cc0_scratch1 h1 k acc) (fun _ => inv c ((t.val + 1) % 2) q qt tab f fd (tok tab (t.val + 1)) (k.val + 1)) := by
  have hk : k.val < 512 := trips2 ▸ k.isLt
  unfold k0_t2_body inv
  iintro ⟨Ht, Hp, HB⟩
  ihave Hp := (pending_out (F := F) _ hk) $$ Hp
  icases Hp with ⟨⟨Hs, Hd⟩, Hrest⟩
  iapply (load_tab c tab qt (off5_eq t k)) $$ Ht
  iintro Ht
  iapply (wp_assume (c := (c : Thread nD τ)) Variants.none none Set.univ (chk2_of _ _ (htab _)))
  iapply (issue c (s := (t.val + 1) % 2) (Nat.mod_lt _ (by decide)) q f fd (tok tab (t.val + 1)) ⟨k.val, hk⟩ (htab _) (off6_eq t) (off7_eq t k) (off8_eq _ (htab _))) $$ [Hs Hd HB]
  · isplitl [Hs]; · iexact Hs
    isplitl [Hd]; · iexact Hd
    iexact HB
  iintro HB
  iapply (Entails.of_eq (wp_pure ..).symm)
  imodintro
  isplitl [Ht]; · iexact Ht
  isplitl [Hrest]; · iexact Hrest
  iexact HB

/-- The first loop takes its slot from rest into flight. -/
theorem loop1 (c : Dev nD) (t : Fin grid0.N) (h1 : k0_cond1 (grid0.coords t) = 1#1) (q qt : PosShare TreeShare) (tab : S16384.Idx → BitVec 32)
    (htab : ∀ n, (tabAt tab n).toNat < 18432) (f : StgBuf (F := F) c)
    {a2 a4 a5 a6 a7 a8 a9 : _} {h2 h4 h5 h6 h7 h8 h9} {ok} {Q : Unit → sProp 𝕄} :
    iprop(tabPt c qt tab ∗ Idle c (t.val % 2) q f ∗ (iprop(tabPt c qt tab ∗ Flying c (t.val % 2) q f (tok tab t.val)) -∗ Q ()))
      ⊢ wp frame (wpE (defs₀ (F := F)) Variants.none c none) Set.univ
          (Scf.Loop.for k0_t1_loop ok ⟨⟩ (k0_t1_body (grid0.coords t) tabM (Memref.isWhole_whole _) a2 h2 stgM (Memref.isWhole_whole _) a4 h4 a5 h5 a6 h6 a7 h7 a8 h8 a9 h9
            scrM (Memref.isWhole_whole _) cc0_scratch1 h1)) Q := by
  iintro ⟨Ht, Hi, Hk⟩
  imod (idle_start c (t.val % 2) q f (tok tab t.val)) $$ Hi with ⟨%fd, Hw, HB, Hr, Hd⟩
  iapply (Scf.wp_for frame (wpE (defs₀ (F := F)) Variants.none c none) Set.univ k0_t1_loop.lb k0_t1_loop.ub k0_t1_loop.st ok ()
    _ (fun k _ => inv c (t.val % 2) q qt tab f fd (tok tab t.val) k) (fun k acc => trip1 c t h1 q qt tab htab f fd k acc))
  isplitl [Ht Hw HB]
  · unfold inv
    isplitl [Ht]; · iexact Ht
    isplitl [Hw]; · iexact Hw
    iexact HB
  iintro %acc HI
  ihave HI := (Entails.of_eq (congrArg (inv c (t.val % 2) q qt tab f fd (tok tab t.val)) trips1)) $$ HI
  unfold inv
  icases HI with ⟨Ht, -, HB⟩
  iapply Hk
  isplitl [Ht]; · iexact Ht
  unfold Flying
  isplitl [HB]; · iexact HB
  isplitl [Hr]; · iexact Hr
  iexact Hd

/-- The second loop takes its slot from rest into flight. -/
theorem loop2 (c : Dev nD) (t : Fin grid0.N) (h1 : k0_cond2 (grid0.coords t) = 1#1) (q qt : PosShare TreeShare) (tab : S16384.Idx → BitVec 32)
    (htab : ∀ n, (tabAt tab n).toNat < 18432) (f : StgBuf (F := F) c)
    {a2 a4 a5 a6 a7 a8 a9 : _} {h2 h4 h5 h6 h7 h8 h9} {ok} {Q : Unit → sProp 𝕄} :
    iprop(tabPt c qt tab ∗ Idle c ((t.val + 1) % 2) q f ∗ (iprop(tabPt c qt tab ∗ Flying c ((t.val + 1) % 2) q f (tok tab (t.val + 1))) -∗ Q ()))
      ⊢ wp frame (wpE (defs₀ (F := F)) Variants.none c none) Set.univ
          (Scf.Loop.for k0_t2_loop ok ⟨⟩ (k0_t2_body (grid0.coords t) tabM (Memref.isWhole_whole _) a2 h2 stgM (Memref.isWhole_whole _) a4 h4 a5 h5 a6 h6 a7 h7 a8 h8 a9 h9
            scrM (Memref.isWhole_whole _) cc0_scratch1 h1)) Q := by
  iintro ⟨Ht, Hi, Hk⟩
  imod (idle_start c ((t.val + 1) % 2) q f (tok tab (t.val + 1))) $$ Hi with ⟨%fd, Hw, HB, Hr, Hd⟩
  iapply (Scf.wp_for frame (wpE (defs₀ (F := F)) Variants.none c none) Set.univ k0_t2_loop.lb k0_t2_loop.ub k0_t2_loop.st ok ()
    _ (fun k _ => inv c ((t.val + 1) % 2) q qt tab f fd (tok tab (t.val + 1)) k) (fun k acc => trip2 c t h1 q qt tab htab f fd k acc))
  isplitl [Ht Hw HB]
  · unfold inv
    isplitl [Ht]; · iexact Ht
    isplitl [Hw]; · iexact Hw
    iexact HB
  iintro %acc HI
  ihave HI := (Entails.of_eq (congrArg (inv c ((t.val + 1) % 2) q qt tab f fd (tok tab (t.val + 1))) trips2)) $$ HI
  unfold inv
  icases HI with ⟨Ht, -, HB⟩
  iapply Hk
  isplitl [Ht]; · iexact Ht
  unfold Flying
  isplitl [HB]; · iexact HB
  isplitl [Hr]; · iexact Hr
  iexact Hd

/-! ## The wait -/

abbrev waitM (o : Fin 3 → ℕ) (h : ∀ a, o a + S1x4096x128.size a ≤ S2x4096x128.size a) : Memref sig .tc .vmem S4096x128 .f32 :=
  (scrM.slice (Rect.unit (s := S2x4096x128) o S1x4096x128.size h) (fun _ => rfl)).squeeze S4096x128 squeezes_S1x4096x128_S4096x128

/-- The wait of a slot's whole size drains every copy of its tile. -/
theorem drain (c : Dev nD) {s : ℕ} (hs : s < 2) (q : PosShare TreeShare) (f : StgBuf (F := F) c) (tk : ℕ → ℕ) {W : Waits sig Unit}
    {o : Fin 1 → ℕ} {o' : Fin 3 → ℕ} (e : o = ![s]) {h h'} {src : Memref sig .tc .hbm S4096x128 .f32} {hsrc hdst}
    {α : Type} {k : PUnit → Prog (TpuEff nD τ sig (Elt F) Λ₀ .tc) α} {Q : α → sProp 𝕄} :
    iprop(Flying c s q f tk ∗ owes (c : Thread nD τ) 0 W)
      ⊢ iprop((iprop(Landed c s q f tk ∗ (∃ W', owes (c : Thread nD τ) 0 W')) -∗ wp frame (wpE (defs₀ (F := F)) Variants.none c none) Set.univ (k ⟨⟩) Q)
          -∗ wp frame (wpE (defs₀ (F := F)) Variants.none c none) Set.univ
              (.op (.waitDma2 (semR o h) src (waitM o' h') hsrc hdst) k) Q) := by
  subst e
  have hc : semR ![s] h = cell s := semR_eq hs h
  generalize semR ![s] h = x at hc ⊢
  subst hc
  unfold Flying
  iintro ⟨⟨HB, Hr, Hd⟩, HW⟩ Hk
  iapply (Transfers.wp_waitBatchAll (countersEmb (U := Pipeline.UD sig nD τ)) Variants.none (c : Thread nD τ) none (defs := defs₀ (F := F))
    (dstw := waitM o' h') (N := unitsN) (n := 512) (u := 0) () rfl (by decide) (show 0 + (waitM o' h').view.dmaCredit = unitsN * 512 from rfl)) $$ [HB HW]
  · isplitl [HB]; · iexact HB
    iexact HW
  iintro ⟨HD, Hv, HW⟩
  iapply Hk
  isplitr [HW]
  · iapply (landed_of c s q f tk)
    isplitl [HD]; · iexact HD
    isplitl [Hv]; · iexact Hv
    isplitl [Hr]; · iexact Hr
    iexact Hd
  iexists _; iexact HW

end Cert.LastIdeal.Ple

end
-- ==== Proof.LastIdeal.Compute.lean ====
/-
  One block's computation, from the expert rows gathered into a slot to the block stored: what each load reads, and the
  block as a function of the residual, the gathered rows, the embedding rows and the weights.
-/
module

public import proofs.«01_k».proof.Proof.LastIdeal.Issue

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Loads and stores of a memref owned at known contents -/

/-- What a load at the coordinates `r` reads of contents `X`. -/
def sub {s : Shape} {α : Type} (r : LoadRect s) (X : s.Idx → α) : r.shape.Idx → α := fun j => X (r.idx j)

/-- A load of an owned memref reads the contents under its coordinates. -/
theorem ld (c : Dev nD) {cs : CoreSpace} {s : Shape} {e : EltTy} (m : Memref sig .tc cs s e) (q : PosShare TreeShare) (X : s.Idx → Elt F e)
    {r : LoadRect s} {hl : m.view.LoadsAt r} {α : Type} {k : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) Variants.none c none) Set.univ (k (sub r X)) Q)
          -∗ wp frame (wpE (defs₀ (F := F)) Variants.none c none) Set.univ (.op (.load m r hl) k) Q) := by
  unfold owns
  iintro ⟨%f, %hf, H⟩ Hk
  iapply (wp_load Variants.none (c : Thread nD τ) none Set.univ (S := m.view.set) (f := f) (View.setOn_subset_set _ _)) $$ H
  iintro H
  have e1 : m.view.readAt (Elt F) r f = sub r X := funext fun j => (View.readAt_apply ..).trans (congrFun hf _)
  rw [e1]
  iapply Hk
  iexists f
  isplitr; · ipureintro; exact hf
  iexact H

/-- A store to an owned memref leaves the contents that agree with the payload under the rectangle and with the old ones off it. -/
theorem st (c : Dev nD) {cs : CoreSpace} {s : Shape} {e : EltTy} (m : Memref sig .tc cs s e) (X X' : s.Idx → Elt F e)
    {r : Rect s} {w : r.shape.Idx → Elt F e} {hx : (m.access r).Stores Finset.univ} {hm} {α : Type} {k : PUnit → Prog (TpuEff nD τ sig (Elt F) Λ₀ .tc) α} {Q : α → sProp 𝕄}
    (h1 : ∀ j, X' (r.emb j) = w j) (h2 : ∀ y, y ∉ r.set → X' y = X y) :
    (owns (c : Thread nD τ) m fullShare X : sProp 𝕄)
      ⊢ iprop((owns (c : Thread nD τ) m fullShare X' -∗ wp frame (wpE (defs₀ (F := F)) Variants.none c none) Set.univ (k ⟨⟩) Q)
          -∗ wp frame (wpE (defs₀ (F := F)) Variants.none c none) Set.univ (.op (.store m r w Finset.univ hx hm) k) Q) := by
  unfold owns
  iintro ⟨%f, %hf, H⟩ Hk
  iapply (wp_store Variants.none (c : Thread nD τ) none Set.univ (m := m) (r := r) (S := m.view.set) (f := f) (View.set_slice_subset _ _)) $$ H
  iintro H
  iapply Hk
  iexists _
  isplitr [H]
  rotate_left
  · iexact H
  ipureintro
  funext y
  by_cases hy : y ∈ r.set
  · obtain ⟨j, rfl⟩ := r.exists_idx_of_mem hy
    exact (View.read_slice_write_emb r f w (Finset.mem_univ j)).trans (h1 j).symm
  · refine (View.read_slice_write_of_not_mem r f w Finset.univ (by rw [Rect.map_emb_univ]; exact hy)).trans ?_
    rw [hf]; exact (h2 y hy).symm

/-! ## The slot read as one array of rows -/

/-- The gathered rows of one slot. -/
def rows (f : S147456x128.Idx → Elt F .f32) (tk : ℕ → ℕ) : S4096x128.Idx → Elt F .f32 := fun i =>
  f (ValueIdx.ix2 (⟨(8 * tk ((i 0).val / 8) + (i 0).val % 8) % 147456, Nat.mod_lt _ (by decide)⟩ : Fin 147456) (⟨(i 1).val, (i 1).isLt⟩ : Fin 128))

theorem waitM_set {s : ℕ} (h) : (waitM ![s, 0, 0] h).view.set = slotSet s := by
  rw [show (waitM ![s, 0, 0] h).view.set = ((View.whole cc0_scratch0).slice (Rect.unit (s := S2x4096x128) ![s, 0, 0] S1x4096x128.size h)).set from View.set_reshape _ _]
  ext i
  refine ValueKit.mem_set_slice_whole_iff cc0_scratch0 _ i ?_
  rw [Rect.mem_set_unit, ValueKit.forall_fin_iff_conj]
  have h2 : (i 2).val < 128 := (i 2).isLt
  have h1 : (i 1).val < 4096 := (i 1).isLt
  unfold slotSet
  rw [Finset.mem_filter]
  show ((s ≤ (i 0).val ∧ (i 0).val < s + 1) ∧ (0 ≤ (i 1).val ∧ (i 1).val < 0 + 4096) ∧ (0 ≤ (i 2).val ∧ (i 2).val < 0 + 128)) ↔ _
  constructor
  · rintro ⟨⟨a, b⟩, -, -⟩; exact ⟨Finset.mem_univ _, by omega⟩
  · rintro ⟨-, a⟩; exact ⟨by omega, by omega, by omega⟩

theorem waitM_read (c : Dev nD) (f : StgBuf (F := F) c) (tk : ℕ → ℕ) {s : ℕ} (h) :
    (waitM ![s, 0, 0] h).view.read (Elt F) (show (waitM ![s, 0, 0] h).view.ty.Contents (Elt F) from gath f tk) = rows f tk := by
  funext y
  have hy0 : (y 0).val < 4096 := (y 0).isLt
  have hy1 : (y 1).val < 128 := (y 1).isLt
  have hy : y = ValueIdx.ix2 (⟨(y 0).val, hy0⟩ : Fin 4096) (⟨(y 1).val, hy1⟩ : Fin 128) := by
    funext a; refine Fin.cases rfl (fun a => ?_) a; exact Fin.cases rfl (fun a => a.elim0) a
  show gath f tk ((waitM ![s, 0, 0] h).view.emb y) = _
  set e := (waitM ![s, 0, 0] h).view.emb y with he
  have e0 : e = (Rect.unit (s := S2x4096x128) ![s, 0, 0] S1x4096x128.size h).emb (ValueIdx.ix3 (⟨0, Nat.one_pos⟩ : Fin 1) (⟨(y 0).val, hy0⟩ : Fin 4096) (⟨(y 1).val, hy1⟩ : Fin 128)) := by
    refine (congrArg (waitM ![s, 0, 0] h).view.emb hy).trans ?_
    show (Rect.unit (s := S2x4096x128) ![s, 0, 0] S1x4096x128.size h).emb (Shape.reshapeEquiv _ _) = _
    exact congrArg _ (ValueIdx.reshapeEquiv_ix2_1ab _ _ _)
  have e1 : (e 1).val = (y 0).val := by rw [e0]; exact (ValueKit.rect_emb_unit_val _ _ _ _ 1).trans (Nat.zero_add _)
  have e2 : (e 2).val = (y 1).val := by rw [e0]; exact (ValueKit.rect_emb_unit_val _ _ _ _ 2).trans (Nat.zero_add _)
  unfold gath rows
  congr 1
  funext a
  refine Fin.cases ?_ (fun a => ?_) a
  · apply Fin.ext
    show (8 * tk ((e 1).val / 8) + (e 1).val % 8) % 147456 = (8 * tk ((y 0).val / 8) + (y 0).val % 8) % 147456
    rw [e1]
  · refine Fin.cases ?_ (fun a => a.elim0) a
    apply Fin.ext
    exact e2

theorem slot_inb (s : ℕ) (hs : s < 2) : ∀ a, (![s, 0, 0] : Fin 3 → ℕ) a + S1x4096x128.size a ≤ S2x4096x128.size a := by
  rw [ValueKit.forall_fin_iff_conj]
  show s + 1 ≤ 2 ∧ 0 + 4096 ≤ 4096 ∧ 0 + 128 ≤ 128
  omega

/-- A landed slot, apart from its elements. -/
def Rest (c : Dev nD) (s : ℕ) (q : PosShare TreeShare) (f : StgBuf (F := F) c) : sProp 𝕄 :=
  iprop(semVal ((c : Thread nD τ), SemLoc.dma (cell s)) 0 ∗ (stgM.view.loc (c : Thread nD τ) ↦{q} f))

theorem Landed_owns (c : Dev nD) (s : ℕ) (q : PosShare TreeShare) (f : StgBuf (F := F) c) (tk : ℕ → ℕ) (h) :
    Landed c s q f tk ⊢ iprop(Rest c s q f ∗ owns (c : Thread nD τ) (waitM ![s, 0, 0] h) fullShare (rows f tk)) := by
  unfold Landed Rest owns
  iintro ⟨H1, H2, H3⟩
  isplitl [H1 H3]
  · isplitl [H1]; · iexact H1
    iexact H3
  iexists (show (waitM ![s, 0, 0] h).view.ty.Contents (Elt F) from gath f tk)
  isplitr [H2]; · ipureintro; exact waitM_read c f tk h
  rw [waitM_set h]
  iexact H2

theorem owns_Idle (c : Dev nD) (s : ℕ) (q : PosShare TreeShare) (f : StgBuf (F := F) c) (X : S4096x128.Idx → Elt F .f32) (h) :
    iprop(Rest c s q f ∗ owns (c : Thread nD τ) (waitM ![s, 0, 0] h) fullShare X) ⊢ Idle c s q f := by
  unfold Idle Rest owns
  iintro ⟨⟨H1, H3⟩, %g, -, H2⟩
  isplitl [H1]; · iexact H1
  isplitl [H2]
  · iexists (show ScrBuf (F := F) c from g)
    rw [waitM_set h]
    iexact H2
  iexact H3

/-! ## The block a tile stores -/

/-- Row residue `k` modulo eight, strided. -/
abbrev lane8 (k : ℕ) (h : ∀ a : Fin 2, S512x128.size a = 0 ∨ (![k, 0] : Fin 2 → ℕ) a + (![8, 1] : Fin 2 → ℕ) a * (S512x128.size a - 1) < S4096x128.size a) : LoadRect S4096x128 := ⟨![k, 0], S512x128.size, ![8, 1], h⟩

section Block
variable (A : S512x1024.Idx → Elt F .f32) (X : S4096x128.Idx → Elt F .f32) (P : S1x512x256.Idx → Elt F .f32) (W1 : S1x1024.Idx → Elt F .f32)
  (W2 : S1024x1024.Idx → Elt F .bf16) (W3 : S256x1024.Idx → Elt F .bf16) (W4 : S1x1024.Idx → Elt F .f32)

abbrev a23 : Vec F S512x1024 .f32 := sub (Rect.unit (s := S512x1024) ![0, 0] S512x1024.size inb_S512x1024_S512x1024_0_0).toLoadRect A
/-- The residual with the gathered rows added, a token a row. -/
abbrev x49 : FVec F S512x1024 .f32 :=
  k0_pay2 (a23 A) (sub (lane8 0 inb_S4096x128_S512x128_0_0_s_8_1) X) (sub (lane8 1 inb_S4096x128_S512x128_1_0_s_8_1) X)
    (sub (lane8 2 inb_S4096x128_S512x128_2_0_s_8_1) X) (sub (lane8 3 inb_S4096x128_S512x128_3_0_s_8_1) X)
    (sub (lane8 4 inb_S4096x128_S512x128_4_0_s_8_1) X) (sub (lane8 5 inb_S4096x128_S512x128_5_0_s_8_1) X)
    (sub (lane8 6 inb_S4096x128_S512x128_6_0_s_8_1) X) (sub (lane8 7 inb_S4096x128_S512x128_7_0_s_8_1) X)
/-- The embedding's norm scale. -/
abbrev x51 : FVec F S1x1024 .f32 := k0_pay3 (sub (Rect.unit (s := S1x1024) ![0, 0] S1x1024.size inb_S1x1024_S1x1024_0_0).toLoadRect W1)
/-- The residual over its root mean square. -/
abbrev x61 : FVec F S512x1024 .f32 :=
  k0_pay4 (a23 A) (sub (lane8 0 inb_S4096x128_S512x128_0_0_s_8_1) X) (sub (lane8 1 inb_S4096x128_S512x128_1_0_s_8_1) X)
    (sub (lane8 2 inb_S4096x128_S512x128_2_0_s_8_1) X) (sub (lane8 3 inb_S4096x128_S512x128_3_0_s_8_1) X)
    (sub (lane8 4 inb_S4096x128_S512x128_4_0_s_8_1) X) (sub (lane8 5 inb_S4096x128_S512x128_5_0_s_8_1) X)
    (sub (lane8 6 inb_S4096x128_S512x128_6_0_s_8_1) X) (sub (lane8 7 inb_S4096x128_S512x128_7_0_s_8_1) X)
/-- The block a grid point stores. -/
def blk : FVec F S512x1024 .f32 :=
  k0_pay1 (x49 A X) (x51 W1) (x61 A X)
    (sub (Rect.unit (s := S1024x1024) ![0, 0] S1024x1024.size inb_S1024x1024_S1024x1024_0_0).toLoadRect W2)
    (sub (Rect.unit (s := S1x512x256) ![0, 0, 0] S1x512x256.size inb_S1x512x256_S1x512x256_0_0_0).toLoadRect P)
    (sub (Rect.unit (s := S256x1024) ![0, 0] S256x1024.size inb_S256x1024_S256x1024_0_0).toLoadRect W3)
    (sub (Rect.unit (s := S1x1024) ![0, 0] S1x1024.size inb_S1x1024_S1x1024_0_0).toLoadRect W4)
end Block

end Cert.LastIdeal.Ple

end
-- ==== Proof.LastSpec.lean ====
/-
  The end of the last layer, an entry at a time: a token's residual row, normed and gated by a logistic of its products
  with the gate matrix, takes in the products of its embedding row, and is normed once more.
-/
module

public import proofs.«01_k».proof.Proof.InProjection.Spec

@[expose] public section

noncomputable section

namespace Cert.LastRow
open Idealize.ShloMosaic Cert.InProjection

/-- The residual row with the gated embedding added. -/
def gated (x g : Fin 1024 → EReal) (wg : Fin 1024 → Fin 1024 → EReal) (p : Fin 256 → EReal) (wp : Fin 256 → Fin 1024 → EReal) (k : Fin 1024) : EReal :=
  x k + Ideal.logistic (∑ q, normed x g q * wg q k) * ∑ q, p q * wp q k

/-- That row normed: the token's row of the result. -/
def out (x g : Fin 1024 → EReal) (wg : Fin 1024 → Fin 1024 → EReal) (p : Fin 256 → EReal) (wp : Fin 256 → Fin 1024 → EReal) (fg : Fin 1024 → EReal) (d : Fin 1024) : EReal :=
  normed (gated x g wg p wp) fg d

end Cert.LastRow

end
-- ==== Proof.LastIdeal.Value.lean ====
/-
  The block a grid point stores, an entry at a time.
-/
module

public import proofs.«01_k».proof.Proof.LastIdeal.Compute
public import proofs.«01_k».proof.Proof.LastSpec
public import Idealize.ShloMosaic.Lib.Pointwise

@[expose] public section

set_option maxRecDepth 16384

noncomputable section

namespace Cert.LastIdeal.Ple
open Cert.LastIdeal Cert.LastIdeal.Gen Cert.InProjection Cert.LastRow
open Idealize.ShloMosaic Idealize.ShloMosaic.TcCoe Idealize.ShloMosaic.Tactic

/-- The stored block from the residual with the expert rows added, its norm's parts and the weights. -/
theorem pay1_apply (v49 : FVec Ideal S512x1024 .f32) (v51 : FVec Ideal S1x1024 .f32) (v61 : FVec Ideal S512x1024 .f32) (v65 : Vec Ideal S1024x1024 .bf16)
    (v69 : Vec Ideal S1x512x256 .f32) (v72 : Vec Ideal S256x1024 .bf16) (v77 : Vec Ideal S1x1024 .f32) (r : Fin 512) (d : Fin 1024) :
    k0_pay1 (F := Ideal) v49 v51 v61 v65 v69 v72 v77 (ix2 r d)
      = normed (fun k => v49 (ix2 r k) + Ideal.logistic (∑ q, v61 (ix2 r q) * v51 (ix2 0 q) * v65 (ix2 q k)) * ∑ q, v69 (ix3 0 r q) * v72 (ix2 q k)) (fun k => v77 (ix2 0 k)) d := by
  pointwise [k0_pay1]
  unfold normed
  rfl

variable (A : S512x1024.Idx → EReal) (X : S4096x128.Idx → EReal) (P : S1x512x256.Idx → EReal) (W1 : S1x1024.Idx → EReal)
  (W2 : S1024x1024.Idx → EReal) (W3 : S256x1024.Idx → EReal) (W4 : S1x1024.Idx → EReal)

/-- The residual with the expert rows added. -/
theorem x49_apply (r : Fin 512) (d : Fin 1024) :
    x49 (F := Ideal) A X (ix2 r d) = A (ix2 r d) + X (ix2 (⟨8 * r.val + d.val / 128, by omega⟩ : Fin 4096) (⟨d.val % 128, by omega⟩ : Fin 128)) := by
  unfold x49 a23
  pointwise [k0_pay2, sub]
  have hd := d.isLt
  refine congrArg _ ?_
  repeat' split
  all_goals refine congrArg X (congrArg₂ ix2 (Fin.ext ?_) (Fin.ext ?_)) <;> simp only [] <;> omega

/-- The row over its root mean square. -/
theorem x61_apply (r : Fin 512) (d : Fin 1024) :
    x61 (F := Ideal) A X (ix2 r d) = x49 (F := Ideal) A X (ix2 r d)
      * Ideal.rsqrt (Ideal.div (∑ q, x49 (F := Ideal) A X (ix2 r q) * x49 (F := Ideal) A X (ix2 r q)) (Ideal.ofBits .f32 0x44800000#32) + Ideal.ofBits .f32 0x358637BD#32) := by
  unfold x61
  pointwise [k0_pay4]

/-- The norm's gain is read as it is. -/
theorem x51_apply (k : Fin 1024) : x51 (F := Ideal) W1 (ix2 0 k) = W1 (ix2 0 k) := by
  unfold x51
  pointwise [k0_pay3, sub]

/-- The stored block, of rows known by their entries. -/
theorem blk_apply (r : Fin 512) (d : Fin 1024) (x g : Fin 1024 → EReal) (wg : Fin 1024 → Fin 1024 → EReal) (p : Fin 256 → EReal) (wp : Fin 256 → Fin 1024 → EReal) (fg : Fin 1024 → EReal)
    (hx : ∀ k, x49 (F := Ideal) A X (ix2 r k) = x k) (hg : ∀ k, W1 (ix2 0 k) = g k) (hwg : ∀ q k, W2 (ix2 q k) = wg q k) (hp : ∀ q, P (ix3 0 r q) = p q)
    (hwp : ∀ q k, W3 (ix2 q k) = wp q k) (hfg : ∀ k, W4 (ix2 0 k) = fg k) :
    blk (F := Ideal) A X P W1 W2 W3 W4 (ix2 r d) = out x g wg p wp fg d := by
  unfold blk
  refine (pay1_apply _ _ _ _ _ _ _ r d).trans ?_
  have e1 : ∀ q, x61 (F := Ideal) A X (ix2 r q) * x51 (F := Ideal) W1 (ix2 0 q) = normed x g q := by
    intro q
    rw [x61_apply, x51_apply, hg]
    unfold normed
    simp only [hx]
  have e2 : ∀ q k, sub (Rect.unit (s := S1024x1024) ![0, 0] S1024x1024.size inb_S1024x1024_S1024x1024_0_0).toLoadRect W2 (ix2 q k) = wg q k := by
    intro q k; rw [← hwg]; pointwise [sub]
  have e3 : ∀ q, sub (Rect.unit (s := S1x512x256) ![0, 0, 0] S1x512x256.size inb_S1x512x256_S1x512x256_0_0_0).toLoadRect P (ix3 0 r q) = p q := by
    intro q; rw [← hp]; pointwise [sub]
  have e4 : ∀ q k, sub (Rect.unit (s := S256x1024) ![0, 0] S256x1024.size inb_S256x1024_S256x1024_0_0).toLoadRect W3 (ix2 q k) = wp q k := by
    intro q k; rw [← hwp]; pointwise [sub]
  have e5 : ∀ k, sub (Rect.unit (s := S1x1024) ![0, 0] S1x1024.size inb_S1x1024_S1x1024_0_0).toLoadRect W4 (ix2 0 k) = fg k := by
    intro k; rw [← hfg]; pointwise [sub]
  unfold out gated
  refine congrArg₂ (fun a b => normed a b d) (funext fun k => ?_) (funext e5)
  refine congrArg₂ (· + ·) (hx k) (congrArg₂ (· * ·) (congrArg Ideal.logistic (Finset.sum_congr rfl fun q _ => ?_)) (Finset.sum_congr rfl fun q _ => ?_))
  · exact congrArg₂ (· * ·) (e1 q) (e2 q k)
  · exact congrArg₂ (· * ·) (e3 q) (e4 q k)

end Cert.LastIdeal.Ple

end
-- ==== Proof.LastIdeal.Body.lean ====
/-
  The body at one grid point: the two loops that start the row copies, the wait, the loads, the computation and the
  store of the block.
-/
module

public import proofs.«01_k».proof.Proof.LastIdeal.Compute

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slot the point waits on, before it: at rest at the first point, in flight after. -/
def Cur (c : Dev nD) (t : ℕ) (q : PosShare TreeShare) (f : StgBuf (F := F) c) (tab : S16384.Idx → BitVec 32) : sProp 𝕄 :=
  if t = 0 then Idle c (t % 2) q f else Flying c (t % 2) q f (tok tab t)
/-- The other slot, after it: in flight with the next tile, at rest after the last point. -/
def Nxt (c : Dev nD) (t : ℕ) (q : PosShare TreeShare) (f : StgBuf (F := F) c) (tab : S16384.Idx → BitVec 32) : sProp 𝕄 :=
  if t + 1 < 32 then Flying c ((t + 1) % 2) q f (tok tab (t + 1)) else Idle c ((t + 1) % 2) q f

/-- A load of a slot's rows, its offset in closed form. -/
theorem ldW (c : Dev nD) {s : ℕ} (X : S4096x128.Idx → Elt F .f32) {o : Fin 3 → ℕ} (e : o = ![s, 0, 0]) {h0 h}
    {r : LoadRect S4096x128} {hl : (waitM o h).view.LoadsAt r} {α : Type} {k : (r.shape.Idx → Elt F .f32) → Prog (TpuEff nD τ sig (Elt F) Λ₀ .tc) α} {Q : α → sProp 𝕄} :
    (owns (c : Thread nD τ) (waitM ![s, 0, 0] h0) fullShare X : sProp 𝕄)
      ⊢ iprop((owns (c : Thread nD τ) (waitM ![s, 0, 0] h0) fullShare X -∗ wp frame (wpE (defs₀ (F := F)) Variants.none c none) Set.univ (k (sub r X)) Q)
          -∗ wp frame (wpE (defs₀ (F := F)) Variants.none c none) Set.univ (.op (.load (waitM o h) r hl) k) Q) := by
  subst e
  exact ld c _ _ _

section Body
variable (c : Dev nD) (t : Fin grid0.N)
  (a2 : Memref sig .tc .vmem S512x1024 .f32) (h2 : a2.IsWhole) (a4 : Memref sig .tc .vmem S1x512x256 .f32) (h4 : a4.IsWhole)
  (a5 : Memref sig .tc .vmem S1x1024 .f32) (h5 : a5.IsWhole) (a6 : Memref sig .tc .vmem S1024x1024 .bf16) (h6 : a6.IsWhole)
  (a7 : Memref sig .tc .vmem S256x1024 .bf16) (h7 : a7.IsWhole) (a8 : Memref sig .tc .vmem S1x1024 .f32) (h8 : a8.IsWhole)
  (a9 : Memref sig .tc .vmem S512x1024 .f32) (h9 : a9.IsWhole)
  (A : S512x1024.Idx → Elt F .f32) (X : S4096x128.Idx → Elt F .f32) (P : S1x512x256.Idx → Elt F .f32) (W1 : S1x1024.Idx → Elt F .f32)
  (W2 : S1024x1024.Idx → Elt F .bf16) (W3 : S256x1024.Idx → Elt F .bf16) (W4 : S1x1024.Idx → Elt F .f32)

/-- The operands the pipeline stages. -/
def Staged (c : Dev nD) (Y : S512x1024.Idx → Elt F .f32) : sProp 𝕄 :=
  iprop(owns (c : Thread nD τ) a2 fullShare A ∗ owns (c : Thread nD τ) a4 fullShare P ∗ owns (c : Thread nD τ) a5 fullShare W1
    ∗ owns (c : Thread nD τ) a6 fullShare W2 ∗ owns (c : Thread nD τ) a7 fullShare W3 ∗ owns (c : Thread nD τ) a8 fullShare W4
    ∗ owns (c : Thread nD τ) a9 fullShare Y)

theorem wp_yes {α : Type} {P : Prop} [Decidable P] (h : P) {p : P → Prog (TpuEff nD τ sig (Elt F) Λ₀ .tc) α} {r : ¬ P → Prog (TpuEff nD τ sig (Elt F) Λ₀ .tc) α} {Q : α → sProp 𝕄} :
    wp frame (wpE (defs₀ (F := F)) Variants.none c none) Set.univ (p h) Q ⊢ wp frame (wpE (defs₀ (F := F)) Variants.none c none) Set.univ (dite P p r) Q := by
  rw [dif_pos h]

theorem wp_no {α : Type} {P : Prop} [Decidable P] (h : ¬ P) {p : P → Prog (TpuEff nD τ sig (Elt F) Λ₀ .tc) α} {r : ¬ P → Prog (TpuEff nD τ sig (Elt F) Λ₀ .tc) α} {Q : α → sProp 𝕄} :
    wp frame (wpE (defs₀ (F := F)) Variants.none c none) Set.univ (r h) Q ⊢ wp frame (wpE (defs₀ (F := F)) Variants.none c none) Set.univ (dite P p r) Q := by
  rw [dif_neg h]

/-- The first loop, run at the first point alone: the slot waited on is in flight after it. -/
theorem stage1 (q qt : PosShare TreeShare) (f : StgBuf (F := F) c) (tab : S16384.Idx → BitVec 32)
    (htab : ∀ n, (tabAt tab n).toNat < 18432) {α : Type} {r : Prog (TpuEff nD τ sig (Elt F) Λ₀ .tc) α} {Q : α → sProp 𝕄} :
    iprop(tabPt c qt tab ∗ Cur c t.val q f tab)
      ⊢ iprop((iprop(tabPt c qt tab ∗ Flying c (t.val % 2) q f (tok tab t.val)) -∗ wp frame (wpE (defs₀ (F := F)) Variants.none c none) Set.univ r Q)
        -∗ wp frame (wpE (defs₀ (F := F)) Variants.none c none) Set.univ (if h1 : k0_cond1 (grid0.coords t) = 1#1 then (Scf.Loop.for k0_t1_loop (k0_t1_ok (grid0.coords t) h1) ⟨⟩ (k0_t1_body (grid0.coords t) tabM (Memref.isWhole_whole _) a2 h2 stgM (Memref.isWhole_whole _) a4 h4 a5 h5 a6 h6 a7 h7 a8 h8 a9 h9 scrM (Memref.isWhole_whole _) cc0_scratch1 h1) >>= fun _ => r) else r) Q) := by
  iintro ⟨Ht, HC⟩ Hk
  by_cases h : k0_cond1 (grid0.coords t) = 1#1
  · iapply (wp_yes c h)
    have ht : t.val = 0 := (cond1_iff t).mp h
    iapply (Entails.of_eq (wp_bind _ _ _ _ _ _).symm)
    iapply (loop1 c t h q qt tab htab f)
    isplitl [Ht]; · iexact Ht
    isplitl [HC]
    · iapply (Entails.of_eq (show Cur c t.val q f tab = Idle c (t.val % 2) q f from if_pos ht)) $$ HC
    iintro H
    iapply Hk $$ H
  · iapply (wp_no c h)
    have ht : ¬ t.val = 0 := fun e => h ((cond1_iff t).mpr e)
    iapply Hk
    isplitl [Ht]; · iexact Ht
    iapply (Entails.of_eq (show Cur c t.val q f tab = Flying c (t.val % 2) q f (tok tab t.val) from if_neg ht)) $$ HC

/-- The second loop, run at every point but the last. -/
theorem stage2 (q qt : PosShare TreeShare) (f : StgBuf (F := F) c) (tab : S16384.Idx → BitVec 32)
    (htab : ∀ n, (tabAt tab n).toNat < 18432) {α : Type} {r : Prog (TpuEff nD τ sig (Elt F) Λ₀ .tc) α} {Q : α → sProp 𝕄} :
    iprop(tabPt c qt tab ∗ Idle c ((t.val + 1) % 2) q f)
      ⊢ iprop((iprop(tabPt c qt tab ∗ Nxt c t.val q f tab) -∗ wp frame (wpE (defs₀ (F := F)) Variants.none c none) Set.univ r Q)
        -∗ wp frame (wpE (defs₀ (F := F)) Variants.none c none) Set.univ (if h1 : k0_cond2 (grid0.coords t) = 1#1 then (Scf.Loop.for k0_t2_loop (k0_t2_ok (grid0.coords t) h1) ⟨⟩ (k0_t2_body (grid0.coords t) tabM (Memref.isWhole_whole _) a2 h2 stgM (Memref.isWhole_whole _) a4 h4 a5 h5 a6 h6 a7 h7 a8 h8 a9 h9 scrM (Memref.isWhole_whole _) cc0_scratch1 h1) >>= fun _ => r) else r) Q) := by
  iintro ⟨Ht, HC⟩ Hk
  by_cases h : k0_cond2 (grid0.coords t) = 1#1
  · iapply (wp_yes c h)
    have ht : t.val + 1 < 32 := (cond2_iff t).mp h
    iapply (Entails.of_eq (wp_bind _ _ _ _ _ _).symm)
    iapply (loop2 c t h q qt tab htab f)
    isplitl [Ht]; · iexact Ht
    isplitl [HC]; · iexact HC
    iintro ⟨Ht, H⟩
    iapply Hk
    isplitl [Ht]; · iexact Ht
    iapply (Entails.of_eq (show Nxt c t.val q f tab = Flying c ((t.val + 1) % 2) q f (tok tab (t.val + 1)) from if_pos ht).symm) $$ H
  · iapply (wp_no c h)
    have ht : ¬ t.val + 1 < 32 := fun e => h ((cond2_iff t).mpr e)
    iapply Hk
    isplitl [Ht]; · iexact Ht
    iapply (Entails.of_eq (show Nxt c t.val q f tab = Idle c ((t.val + 1) % 2) q f from if_neg ht).symm) $$ HC

/-- Part 1: the loops, the wait, the residual's block and the slot's first two row residues. -/
theorem run1 (q q' qt : PosShare TreeShare) (f : StgBuf (F := F) c) (tab : S16384.Idx → BitVec 32)
    (htab : ∀ n, (tabAt tab n).toNat < 18432) (Wt : Waits sig Unit) (hX : rows f (tok tab t.val) = X) {h0} {Q : _ → sProp 𝕄} :
    iprop(tabPt c qt tab ∗ Cur c t.val q f tab ∗ Idle c ((t.val + 1) % 2) q' f ∗ owes (c : Thread nD τ) 0 Wt
        ∗ owns (c : Thread nD τ) a2 fullShare A
        ∗ (iprop(tabPt c qt tab ∗ Rest c (t.val % 2) q f ∗ owns (c : Thread nD τ) (waitM ![t.val % 2, 0, 0] h0) fullShare X ∗ Nxt c t.val q' f tab
            ∗ (∃ W', owes (c : Thread nD τ) 0 W') ∗ owns (c : Thread nD τ) a2 fullShare A)
          -∗ Q ⟨a23 A, sub (lane8 0 inb_S4096x128_S512x128_0_0_s_8_1) X, sub (lane8 1 inb_S4096x128_S512x128_1_0_s_8_1) X⟩))
      ⊢ wp frame (wpE (defs₀ (F := F)) Variants.none c none) Set.univ (k0_part1 (grid0.coords t) tabM (Memref.isWhole_whole _) a2 h2 stgM (Memref.isWhole_whole _) a4 h4 a5 h5 a6 h6 a7 h7 a8 h8 a9 h9 scrM (Memref.isWhole_whole _) cc0_scratch1) Q := by
  have hs : t.val % 2 < 2 := Nat.mod_lt _ (by decide)
  rw [k0_part1_eq_skeleton]
  unfold k0_part1_skel
  iintro ⟨Ht, HC, HI, HW, HA, HQ⟩
  ihave Hp := (show iprop(tabPt c qt tab ∗ Cur c t.val q f tab) ⊢ iprop(tabPt c qt tab ∗ Cur c t.val q f tab) from .rfl) $$ [Ht HC]
  · isplitl [Ht]; · iexact Ht
    iexact HC
  iapply (stage1 c t a2 h2 a4 h4 a5 h5 a6 h6 a7 h7 a8 h8 a9 h9 q qt f tab htab) $$ Hp
  iintro ⟨Ht, HF⟩
  ihave Hp := (show iprop(tabPt c qt tab ∗ Idle c ((t.val + 1) % 2) q' f) ⊢ iprop(tabPt c qt tab ∗ Idle c ((t.val + 1) % 2) q' f) from .rfl) $$ [Ht HI]
  · isplitl [Ht]; · iexact Ht
    iexact HI
  iapply (stage2 c t a2 h2 a4 h4 a5 h5 a6 h6 a7 h7 a8 h8 a9 h9 q' qt f tab htab) $$ Hp
  iintro ⟨Ht, HN⟩
  ihave Hp := (show iprop(Flying c (t.val % 2) q f (tok tab t.val) ∗ owes (c : Thread nD τ) 0 Wt) ⊢ iprop(Flying c (t.val % 2) q f (tok tab t.val) ∗ owes (c : Thread nD τ) 0 Wt) from .rfl) $$ [HF HW]
  · isplitl [HF]; · iexact HF
    iexact HW
  iapply (drain c hs q f (tok tab t.val) (off9_eq t)) $$ Hp
  iintro ⟨HL, HW⟩
  ihave HL := (Landed_owns c (t.val % 2) q f (tok tab t.val) h0) $$ HL
  rw [hX]
  icases HL with ⟨HR, HX⟩
  iapply (ld c a2 fullShare A) $$ HA
  iintro HA
  iapply (ldW c X (off10_eq t)) $$ HX
  iintro HX
  iapply (ldW c X (off10_eq t)) $$ HX
  iintro HX
  iapply (Entails.of_eq (wp_pure _ _ _ _ _).symm)
  imodintro
  iapply HQ
  isplitl [Ht]; · iexact Ht
  isplitl [HR]; · iexact HR
  isplitl [HX]; · iexact HX
  isplitl [HN]; · iexact HN
  isplitl [HW]; · iexact HW
  iexact HA

/-- Part 2: the slot's other row residues and the embedding's norm scale. -/
theorem run2 {h0} {Q : _ → sProp 𝕄} :
    iprop(owns (c : Thread nD τ) (waitM ![t.val % 2, 0, 0] h0) fullShare X ∗ owns (c : Thread nD τ) a5 fullShare W1
        ∗ (iprop(owns (c : Thread nD τ) (waitM ![t.val % 2, 0, 0] h0) fullShare X ∗ owns (c : Thread nD τ) a5 fullShare W1)
          -∗ Q ⟨x49 A X, x51 W1, x61 A X⟩))
      ⊢ wp frame (wpE (defs₀ (F := F)) Variants.none c none) Set.univ (k0_part2 (grid0.coords t) tabM (Memref.isWhole_whole _) a2 h2 stgM (Memref.isWhole_whole _) a4 h4 a5 h5 a6 h6 a7 h7 a8 h8 a9 h9 scrM (Memref.isWhole_whole _) cc0_scratch1 (a23 A) (sub (lane8 0 inb_S4096x128_S512x128_0_0_s_8_1) X) (sub (lane8 1 inb_S4096x128_S512x128_1_0_s_8_1) X)) Q := by
  rw [k0_part2_eq_skeleton]
  unfold k0_part2_skel
  iintro ⟨HX, HW, HQ⟩
  iapply (ldW c X (off10_eq t)) $$ HX
  iintro HX
  iapply (ldW c X (off10_eq t)) $$ HX
  iintro HX
  iapply (ldW c X (off10_eq t)) $$ HX
  iintro HX
  iapply (ldW c X (off10_eq t)) $$ HX
  iintro HX
  iapply (ldW c X (off10_eq t)) $$ HX
  iintro HX
  iapply (ldW c X (off10_eq t)) $$ HX
  iintro HX
  iapply (ld c a5 fullShare W1) $$ HW
  iintro HW
  iapply (Entails.of_eq (wp_pure _ _ _ _ _).symm)
  imodintro
  iapply HQ
  isplitl [HX]; · iexact HX
  iexact HW

/-- Every index lies in the rectangle of the block's own sizes. -/
theorem whole_mem (y : S512x1024.Idx) (a : Fin 2) : ∃ j < S512x1024.size a, (y a).val = (![0, 0] : Fin 2 → ℕ) a + 1 * j := by
  refine Fin.cases ⟨(y 0).val, (y 0).isLt, (show (y 0).val = 0 + 1 * (y 0).val by omega)⟩ (fun a => ?_) a
  exact Fin.cases ⟨(y 1).val, (y 1).isLt, (show (y 1).val = 0 + 1 * (y 1).val by omega)⟩ (fun a => a.elim0) a

theorem whole_emb (j : S512x1024.Idx) : (Rect.unit (s := S512x1024) ![0, 0] S512x1024.size inb_S512x1024_S512x1024_0_0).emb j = j := by
  funext a
  refine Fin.cases ?_ (fun a => Fin.cases ?_ (fun a => a.elim0) a) a
  · exact Fin.ext ((ValueKit.rect_emb_unit_val _ _ _ _ 0).trans (Nat.zero_add _))
  · exact Fin.ext ((ValueKit.rect_emb_unit_val _ _ _ _ 1).trans (Nat.zero_add _))

/-- The body at one grid point. -/
theorem body (q q' qt : PosShare TreeShare) (f : StgBuf (F := F) c) (tab : S16384.Idx → BitVec 32)
    (htab : ∀ n, (tabAt tab n).toNat < 18432) (Wt : Waits sig Unit) (X0 : S512x1024.Idx → Elt F .f32) {Q : PUnit → sProp 𝕄} :
    iprop(tabPt c qt tab ∗ Cur c t.val q f tab ∗ Idle c ((t.val + 1) % 2) q' f ∗ owes (c : Thread nD τ) 0 Wt
        ∗ Staged a2 a4 a5 a6 a7 a8 a9 A P W1 W2 W3 W4 c X0
        ∗ (iprop(tabPt c qt tab ∗ Idle c (t.val % 2) q f ∗ Nxt c t.val q' f tab ∗ (∃ W', owes (c : Thread nD τ) 0 W')
            ∗ Staged a2 a4 a5 a6 a7 a8 a9 A P W1 W2 W3 W4 c (blk A (rows f (tok tab t.val)) P W1 W2 W3 W4)) -∗ Q ⟨⟩))
      ⊢ wp frame (wpE (defs₀ (F := F)) Variants.none c none) Set.univ (cc0_ple (grid0.coords t) tabM (Memref.isWhole_whole _) a2 h2 stgM (Memref.isWhole_whole _) a4 h4 a5 h5 a6 h6 a7 h7 a8 h8 a9 h9 scrM (Memref.isWhole_whole _) cc0_scratch1) Q := by
  have hs : t.val % 2 < 2 := Nat.mod_lt _ (by decide)
  rw [cc0_ple_eq_skeleton]
  unfold cc0_ple_skel
  iintro ⟨Ht, HC, HI, HW, HS, HQ⟩
  generalize hX : rows f (tok tab t.val) = X
  unfold Staged
  icases HS with ⟨HA, HP, H1, H2, H3, H4, HO⟩
  iapply (Entails.of_eq (wp_bind _ _ _ _ _ _).symm)
  iapply (run1 c t a2 h2 a4 h4 a5 h5 a6 h6 a7 h7 a8 h8 a9 h9 A X q q' qt f tab htab Wt hX (h0 := slot_inb _ hs))
  isplitl [Ht]; · iexact Ht
  isplitl [HC]; · iexact HC
  isplitl [HI]; · iexact HI
  isplitl [HW]; · iexact HW
  isplitl [HA]; · iexact HA
  iintro ⟨Ht, HR, HX, HN, HW, HA⟩
  iapply (Entails.of_eq (wp_bind _ _ _ _ _ _).symm)
  iapply (run2 c t a2 h2 a4 h4 a5 h5 a6 h6 a7 h7 a8 h8 a9 h9 A X W1 (h0 := slot_inb _ hs))
  isplitl [HX]; · iexact HX
  isplitl [H1]; · iexact H1
  iintro ⟨HX, H1⟩
  iapply (ld c a6 fullShare W2) $$ H2
  iintro H2
  iapply (ld c a4 fullShare P) $$ HP
  iintro HP
  iapply (ld c a7 fullShare W3) $$ H3
  iintro H3
  iapply (ld c a8 fullShare W4) $$ H4
  iintro H4
  iapply (ld c a9 fullShare X0) $$ HO
  iintro HO
  iapply (st c a9 X0 (blk A X P W1 W2 W3 W4) (fun j => congrArg (blk A X P W1 W2 W3 W4) (whole_emb j)) (fun y hy => absurd (LoadRect.mem_set _ |>.mpr fun a => whole_mem y a) hy)) $$ HO
  iintro HO
  iapply (Entails.of_eq (wp_pure _ _ _ _ _).symm)
  imodintro
  iapply HQ
  isplitl [Ht]; · iexact Ht
  isplitl [HR HX]
  · iapply (owns_Idle c (t.val % 2) q f X (slot_inb _ hs))
    isplitl [HR]; · iexact HR
    iexact HX
  isplitl [HN]; · iexact HN
  isplitl [HW]; · iexact HW
  isplitl [HA]; · iexact HA
  isplitl [HP]; · iexact HP
  isplitl [H1]; · iexact H1
  isplitl [H2]; · iexact H2
  isplitl [H3]; · iexact H3
  isplitl [H4]; · iexact H4
  iexact HO

end Body

end Cert.LastIdeal.Ple

end
-- ==== Proof.LastIdeal.Sched.lean ====
/-
  The invariant between grid points, the proof data of the pipeline, and the body's obligation at every point.
-/
module

public import proofs.«01_k».proof.Proof.LastIdeal.Body
public import proofs.«01_k».proof.Proof.Gen.LastIdeal.Launch
public import Idealize.ShloMosaic.Lib.Pipeline.Frame
public import Idealize.ShloMosaic.Lib.Pipeline.FrameBody

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Between two points -/

/-- Slot `s` before point `n`: in flight with tile `n` if the point waits on it, else at rest. -/
def pend (c : Dev nD) (s n : ℕ) (q : PosShare TreeShare) (f : StgBuf (F := F) c) (tab : S16384.Idx → BitVec 32) : sProp 𝕄 :=
  if 1 ≤ n ∧ n ≤ 31 ∧ n % 2 = s then Flying c s q f (tok tab n) else Idle c s q f

theorem pend_cur (c : Dev nD) (n : ℕ) (h : n < 32) (q : PosShare TreeShare) (f : StgBuf (F := F) c) (tab : S16384.Idx → BitVec 32) :
    pend c (n % 2) n q f tab = Cur c n q f tab := by
  unfold pend Cur
  by_cases h0 : n = 0
  · rw [if_neg (by omega), if_pos h0]
  · rw [if_pos ⟨by omega, by omega, rfl⟩, if_neg h0]
theorem pend_other (c : Dev nD) (n : ℕ) (q : PosShare TreeShare) (f : StgBuf (F := F) c) (tab : S16384.Idx → BitVec 32) :
    pend c ((n + 1) % 2) n q f tab = Idle c ((n + 1) % 2) q f := by
  unfold pend; rw [if_neg (by omega)]
theorem pend_done (c : Dev nD) (n : ℕ) (q : PosShare TreeShare) (f : StgBuf (F := F) c) (tab : S16384.Idx → BitVec 32) :
    pend c (n % 2) (n + 1) q f tab = Idle c (n % 2) q f := by
  unfold pend; rw [if_neg (by omega)]
theorem pend_next (c : Dev nD) (n : ℕ) (h : n < 32) (q : PosShare TreeShare) (f : StgBuf (F := F) c) (tab : S16384.Idx → BitVec 32) :
    pend c ((n + 1) % 2) (n + 1) q f tab = Nxt c n q f tab := by
  unfold pend Nxt
  by_cases h0 : n + 1 < 32
  · rw [if_pos ⟨by omega, by omega, rfl⟩, if_pos h0]
  · rw [if_neg (by omega), if_neg h0]

/-- The share of the tokens slot `s` reads them with. -/
def shr (s : ℕ) : PosShare TreeShare := if s = 0 then fullShare.left else fullShare.right

/-- The invariant before point `n`. -/
def held (c : Dev nD) (f : StgBuf (F := F) c) (tab : S16384.Idx → BitVec 32) (n : ℕ) : sProp 𝕄 :=
  iprop(pend c 0 n (shr 0) f tab ∗ pend c 1 n (shr 1) f tab ∗ (∃ r, prngReg c r)
    ∗ tabPt c fullShare.right tab)

/-- The two slots in the order of the point: the one it waits on, the other. -/
theorem two_slots {M : Type} [URA M] (P : ℕ → sProp M) (n : ℕ) : iprop(P 0 ∗ P 1) ⊣⊢ iprop(P (n % 2) ∗ P ((n + 1) % 2)) := by
  rcases (show n % 2 = 0 ∧ (n + 1) % 2 = 1 ∨ n % 2 = 1 ∧ (n + 1) % 2 = 0 by omega) with ⟨h, h'⟩ | ⟨h, h'⟩
  · rw [h, h']
  · rw [h, h']
    constructor
    · iintro ⟨HA, HB⟩; isplitl [HB]; · iexact HB
      iexact HA
    · iintro ⟨HA, HB⟩; isplitl [HB]; · iexact HB
      iexact HA

/-! ## The proof data -/

variable (a : (pcfg0 (F := F)).Adm) (V : (c : Dev nD) → (b : Ref sig .tc) → Buf (Elt F) ((c : Thread nD τ).loc b))

abbrev ms0_0 (t : Fin (cfg0 a).N) : Memref sig .tc .vmem S512x1024 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S1x512x256 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S1x1024 .f32 := spec0_2.stage ((cfg0 a).slots t 2)
abbrev hs0_2 (t : Fin (cfg0 a).N) : (ms0_2 a t).IsWhole := hstage0_2 (((cfg0 a).slots t 2).cast nbuf0_2)
abbrev ms0_3 (t : Fin (cfg0 a).N) : Memref sig .tc .vmem S1024x1024 .bf16 := spec0_3.stage ((cfg0 a).slots t 3)
abbrev hs0_3 (t : Fin (cfg0 a).N) : (ms0_3 a t).IsWhole := hstage0_3 (((cfg0 a).slots t 3).cast nbuf0_3)
abbrev ms0_4 (t : Fin (cfg0 a).N) : Memref sig .tc .vmem S256x1024 .bf16 := spec0_4.stage ((cfg0 a).slots t 4)
abbrev hs0_4 (t : Fin (cfg0 a).N) : (ms0_4 a t).IsWhole := hstage0_4 (((cfg0 a).slots t 4).cast nbuf0_4)
abbrev ms0_5 (t : Fin (cfg0 a).N) : Memref sig .tc .vmem S1x1024 .f32 := spec0_5.stage ((cfg0 a).slots t 5)
abbrev hs0_5 (t : Fin (cfg0 a).N) : (ms0_5 a t).IsWhole := hstage0_5 (((cfg0 a).slots t 5).cast nbuf0_5)
abbrev ms0_6 (t : Fin (cfg0 a).N) : Memref sig .tc .vmem S512x1024 .f32 := spec0_6.stage ((cfg0 a).slots t 6)
abbrev hs0_6 (t : Fin (cfg0 a).N) : (ms0_6 a t).IsWhole := hstage0_6 (((cfg0 a).slots t 6).cast nbuf0_6)

def bodyAt0 (t : Fin (cfg0 a).N) : Prog (TpuEff nD τ sig (Elt F) Λ₀ .tc) PUnit :=
  cc0_ple (grid0.coords t) tabM (Memref.isWhole_whole _) (ms0_0 a t) (hs0_0 a t) stgM (Memref.isWhole_whole _)
    (ms0_1 a t) (hs0_1 a t) (ms0_2 a t) (hs0_2 a t) (ms0_3 a t) (hs0_3 a t) (ms0_4 a t) (hs0_4 a t) (ms0_5 a t) (hs0_5 a t) (ms0_6 a t) (hs0_6 a t) scrM (Memref.isWhole_whole _) cc0_scratch1

theorem defs₀_row (t : Fin (cfg0 a).N) :
    defs₀ (F := F) .tc (cfg0 a).body ((cfg0 a).bodyArgs t ((cfg0 a).slots t)) = bodyAt0 a t := by
  unfold defs₀; rw [Defs.onTc_tc]; rfl

/-- The block of window `w` at point `t`: the part of the array its transfers move there. -/
def A0 (c : Dev nD) (t : Fin (cfg0 a).N) : S512x1024.Idx → Elt F .f32 := (((cfg0 a).win 0).blk t).view.read (Elt F) (V c main_arg0)
def P0 (c : Dev nD) (t : Fin (cfg0 a).N) : S1x512x256.Idx → Elt F .f32 := (((cfg0 a).win 1).blk t).view.read (Elt F) (V c main_v0)
def W10 (c : Dev nD) (t : Fin (cfg0 a).N) : S1x1024.Idx → Elt F .f32 := (((cfg0 a).win 2).blk t).view.read (Elt F) (V c main_v3)
def W20 (c : Dev nD) (t : Fin (cfg0 a).N) : S1024x1024.Idx → Elt F .bf16 := (((cfg0 a).win 3).blk t).view.read (Elt F) (V c main_v6)
def W30 (c : Dev nD) (t : Fin (cfg0 a).N) : S256x1024.Idx → Elt F .bf16 := (((cfg0 a).win 4).blk t).view.read (Elt F) (V c main_v9)
def W40 (c : Dev nD) (t : Fin (cfg0 a).N) : S1x1024.Idx → Elt F .f32 := (((cfg0 a).win 5).blk t).view.read (Elt F) (V c main_v10)

/-- The table and the expert rows, as the region finds them. -/
abbrev tabV (c : Dev nD) : S16384.Idx → BitVec 32 := V c main_arg2
abbrev stgV (c : Dev nD) : StgBuf (F := F) c := V c main_arg1

/-- What point `t` stores. -/
def O0 (c : Dev nD) (t : Fin (cfg0 a).N) : S512x1024.Idx → Elt F .f32 :=
  blk (A0 a V c t) (rows (stgV V c) (tok (tabV V c) t.val)) (P0 a V c t) (W10 a V c t) (W20 a V c t) (W30 a V c t) (W40 a V c t)

/-- The proof data of the one pipeline on core `c`. -/
def dats (p : Fin 1) (c : Dev nD) : Dat τ (Elt F) Unit ℕ (Pipeline.UD sig nD τ) ℕ (Pipeline.pin (pcfgs (F := F)) (fun _ => a) p) c where
  A w := V c (Pipeline.arrRef spec0 w)
  after w t := match w with
    | ⟨0, _⟩ => A0 a V c t
    | ⟨1, _⟩ => P0 a V c t
    | ⟨2, _⟩ => W10 a V c t
    | ⟨3, _⟩ => W20 a V c t
    | ⟨4, _⟩ => W30 a V c t
    | ⟨5, _⟩ => W40 a V c t
    | ⟨6, _⟩ => O0 a V c t
  Φ t := held c (stgV V c) (tabV V c) t.val
  q _ := fullShare
  owed _ := 0

theorem A_eq (c : Dev nD) (w : Fin (cfg0 a).W) : (dats a V 0 c).A w = V c (Pipeline.arrRef spec0 w) := by
  dsimp only [dats]

/-- No point leaves the result's block alone. -/
theorem idle_all (w : Fin 7) (i : grid0.Coords) : (cfg0 a).idle w i = false := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- An operand's staging buffer holds its block at every point. -/
theorem before0_0 (c : Dev nD) (t : Fin (cfg0 a).N) (d) : (dats a V 0 c).before 0 t d = A0 a V c t :=
  (dats a V 0 c).before_in_eq_fetched 0 rfl (fun _ => rfl) (fun _ _ _ => rfl) (fun _ => rfl) t d
theorem before0_1 (c : Dev nD) (t : Fin (cfg0 a).N) (d) : (dats a V 0 c).before 1 t d = P0 a V c t :=
  (dats a V 0 c).before_in_eq_fetched 1 rfl (fun _ => rfl) (fun _ _ _ => rfl) (fun _ => rfl) t d
theorem before0_2 (c : Dev nD) (t : Fin (cfg0 a).N) (d) : (dats a V 0 c).before 2 t d = W10 a V c t :=
  (dats a V 0 c).before_in_eq_fetched 2 rfl (fun _ => rfl) (fun _ _ _ => rfl) (fun _ => rfl) t d
theorem before0_3 (c : Dev nD) (t : Fin (cfg0 a).N) (d) : (dats a V 0 c).before 3 t d = W20 a V c t :=
  (dats a V 0 c).before_in_eq_fetched 3 rfl (fun _ => rfl) (fun _ _ _ => rfl) (fun _ => rfl) t d
theorem before0_4 (c : Dev nD) (t : Fin (cfg0 a).N) (d) : (dats a V 0 c).before 4 t d = W30 a V c t :=
  (dats a V 0 c).before_in_eq_fetched 4 rfl (fun _ => rfl) (fun _ _ _ => rfl) (fun _ => rfl) t d
theorem before0_5 (c : Dev nD) (t : Fin (cfg0 a).N) (d) : (dats a V 0 c).before 5 t d = W40 a V c t :=
  (dats a V 0 c).before_in_eq_fetched 5 rfl (fun _ => rfl) (fun _ _ _ => rfl) (fun _ => rfl) t d

/-! ## The body's obligation -/

def bodyPre (c : Dev nD) (t : Fin (cfg0 a).N) : sProp 𝕄 :=
  iprop((dats a V 0 c).Φ t.castSucc ∗ (dats a V 0 c).owesAt () t.castSucc
    ∗ (∃ d, owns (c : Thread nD τ) (ms0_0 a t) fullShare ((dats a V 0 c).before 0 t d))
    ∗ (∃ d, owns (c : Thread nD τ) (ms0_1 a t) fullShare ((dats a V 0 c).before 1 t d))
    ∗ (∃ d, owns (c : Thread nD τ) (ms0_2 a t) fullShare ((dats a V 0 c).before 2 t d))
    ∗ (∃ d, owns (c : Thread nD τ) (ms0_3 a t) fullShare ((dats a V 0 c).before 3 t d))
    ∗ (∃ d, owns (c : Thread nD τ) (ms0_4 a t) fullShare ((dats a V 0 c).before 4 t d))
    ∗ (∃ d, owns (c : Thread nD τ) (ms0_5 a t) fullShare ((dats a V 0 c).before 5 t d))
    ∗ (∃ d, owns (c : Thread nD τ) (ms0_6 a t) fullShare ((dats a V 0 c).before 6 t d)))
def bodyPost (c : Dev nD) (t : Fin (cfg0 a).N) : sProp 𝕄 :=
  iprop((dats a V 0 c).Φ t.succ ∗ (dats a V 0 c).owesAt () t.succ
    ∗ owns (c : Thread nD τ) (ms0_0 a t) fullShare (A0 a V c t)
    ∗ owns (c : Thread nD τ) (ms0_1 a t) fullShare (P0 a V c t)
    ∗ owns (c : Thread nD τ) (ms0_2 a t) fullShare (W10 a V c t)
    ∗ owns (c : Thread nD τ) (ms0_3 a t) fullShare (W20 a V c t)
    ∗ owns (c : Thread nD τ) (ms0_4 a t) fullShare (W30 a V c t)
    ∗ owns (c : Thread nD τ) (ms0_5 a t) fullShare (W40 a V c t)
    ∗ owns (c : Thread nD τ) (ms0_6 a t) fullShare (O0 a V c t))

theorem sound_body (c : Dev nD) (htab : ∀ n, (tabAt (tabV V c) n).toNat < 18432) (t : Fin (cfg0 a).N) :
    bodyPre a V c t ⊢ wp frame (wpE (defs₀ (F := F)) Variants.none c none) Set.univ (bodyAt0 a t) (fun _ => bodyPost a V c t) := by
  have ht : t.val < 32 := lt_of_lt_of_eq t.isLt N_0
  unfold bodyPre bodyPost bodyAt0
  rw [show (dats a V 0 c).Φ t.castSucc = held c (stgV V c) (tabV V c) t.val from rfl,
    show (dats a V 0 c).Φ t.succ = held c (stgV V c) (tabV V c) (t.val + 1) from rfl]
  simp only [before0_0, before0_1, before0_2, before0_3, before0_4, before0_5]
  unfold Dat.owesAt Pipeline.owesWithin
  rw [show (dats a V 0 c).owed t.castSucc = 0 from rfl, show (dats a V 0 c).owed t.succ = 0 from rfl]
  unfold held
  iintro ⟨⟨HP0, HP1, Hr, Htb⟩, ⟨%Wt, -, HW⟩, ⟨%d0, H0⟩, ⟨%d1, H1⟩, ⟨%d2, H2⟩, ⟨%d3, H3⟩, ⟨%d4, H4⟩, ⟨%d5, H5⟩, ⟨%d6, H6⟩⟩
  ihave HP := (two_slots (fun s => pend c s t.val (shr s) (stgV V c) (tabV V c)) t.val).1 $$ [HP0 HP1]
  · isplitl [HP0]; · iexact HP0
    iexact HP1
  rw [pend_cur c t.val ht, pend_other c t.val]
  icases HP with ⟨HC, HI⟩
  iapply (body c t (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t)
    (A0 a V c t) (P0 a V c t) (W10 a V c t) (W20 a V c t) (W30 a V c t) (W40 a V c t)
    (shr (t.val % 2)) (shr ((t.val + 1) % 2)) fullShare.right (stgV V c) (tabV V c) htab Wt ((dats a V 0 c).before 6 t d6))
  isplitl [Htb]; · iexact Htb
  isplitl [HC]; · iexact HC
  isplitl [HI]; · iexact HI
  isplitl [HW]; · iexact HW
  unfold Staged
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨Htb, HI, HN, ⟨%W', HW⟩, H0, H1, H2, H3, H4, H5, H6⟩
  isplitl [Htb HI HN Hr]
  · ihave HP := (two_slots (fun s => pend c s (t.val + 1) (shr s) (stgV V c) (tabV V c)) t.val).2 $$ [HI HN]
    · rw [pend_done c t.val, pend_next c t.val ht]
      isplitl [HI]; · iexact HI
      iexact HN
    icases HP with ⟨HP0, HP1⟩
    isplitl [HP0]; · iexact HP0
    isplitl [HP1]; · iexact HP1
    isplitl [Hr]; · iexact Hr
    iexact Htb
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem idle6 (i : grid0.Coords) : (cfg0 a).idle 6 i = false := idle_all a 6 i

theorem body_obligation (c : Dev nD) (htab : ∀ n, (tabAt (tabV V c) n).toNat < 18432) :
    BodyObligation (dats (F := F) a V 0 c) (defs₀ (F := F)) Variants.none () Set.univ := fun t => by
  rw [bigSep_W0, bigSep_W0, defs₀_row]
  refine triple_restated (sound_body a V c htab t) rfl .rfl fun _ => ?_
  unfold bodyPost
  refine sep_mono .rfl (sep_mono .rfl (sep_mono .rfl (sep_mono .rfl (sep_mono .rfl (sep_mono .rfl (sep_mono .rfl (sep_mono .rfl ?_)))))))
  exact Entails.rfl

end Cert.LastIdeal.Ple

end
-- ==== Proof.LastIdeal.Run.lean ====
/-
  The whole run: what the region is handed and gives back, the run of @main with the line after the region, and the
  arguments it leaves unchanged.
-/
module

public import proofs.«01_k».proof.Proof.LastIdeal.Sched
public import Idealize.ShloMosaic.Lib.Pipeline.FrameSuffix

@[expose] public section

set_option maxRecDepth 16384

noncomputable section

namespace Cert.LastIdeal.Ple

open Cert.LastIdeal Cert.LastIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the region is handed and gives back -/

abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The buffer the body's copies read. -/
def H0 : Finset (Ref sig .tc) := {main_arg1}
theorem H0_sub : H0 ⊆ Pipeline.restRefsP sig pre0 spec0 := by decide

variable (a : (pcfg0 (F := F)).Adm) (V : (c : Dev nD) → (b : Ref sig .tc) → Buf (Elt F) ((c : Thread nD τ).loc b))

theorem hbmPts0_eq (c : Dev nD) :
    (bigSep H0 (fun b => ((c : Thread nD τ).loc b) ↦{fullShare} V c b) : sProp 𝕄)
      = iprop(stgM.view.loc (c : Thread nD τ) ↦{fullShare} stgV V c) := by
  rw [BI.bigSep_eq_bigSepL_of_eq [main_arg1] (by decide) (by decide)]; rfl

/-- The table of positions. -/
theorem tables_eq (c : Dev nD) (hpf : ∀ k, V c (pre0.ref k) = a.1 k) :
    (Pipeline.ΦT pre0 a.1 c : sProp 𝕄) = tabPt c fullShare.right (tabV V c) := by
  have e : a.1 = fun k => V c (pre0.ref k) := funext fun k => (hpf k).symm
  rw [e]
  exact bigSep_univ_eq_bigSepL [(0 : Fin 1)] (by decide) (by decide) _

theorem region_in (c : Dev nD) (hpf : ∀ k, V c (pre0.ref k) = a.1 k) :
    iprop(Pipeline.ΦD osem0 spec0 H0 V c ∗ Pipeline.ΦT pre0 a.1 c) ⊢ (dats a V 0 c).Φ 0 := by
  rw [tables_eq a V c hpf, Pipeline.ΦD_eq, scopedRest0_eq, ownSems00_eq, hbmPts0_eq]
  show _ ⊢ held c (stgV V c) (tabV V c) 0
  unfold held
  rw [show pend c 0 0 (shr 0) (stgV V c) (tabV V c) = Idle c 0 fullShare.left (stgV V c) from rfl,
    show pend c 1 0 (shr 1) (stgV V c) (tabV V c) = Idle c 1 fullShare.right (stgV V c) from rfl]
  unfold Idle
  iintro ⟨⟨⟨%f, HS⟩, Hr, ⟨Hs0, Hs1⟩, Hh⟩, Htb⟩
  ihave HS := (pointsTo_split_subset (Finset.subset_univ (slotSet 0))).1 $$ HS
  icases HS with ⟨HS0, HS1⟩
  ihave Hh := (pointsTo_share (PosShare.mem_left_op_right _)).1 $$ Hh
  icases Hh with ⟨Hh0, Hh1⟩
  isplitl [Hs0 HS0 Hh0]
  · isplitl [Hs0]; · iexact Hs0
    isplitl [HS0]; · iexists f; iexact HS0
    iexact Hh0
  isplitl [Hs1 HS1 Hh1]
  · isplitl [Hs1]; · iexact Hs1
    isplitl [HS1]
    · iexists f
      rw [← slot_univ]
      iexact HS1
    iexact Hh1
  isplitl [Hr]; · iexact Hr
  iexact Htb

theorem region_out (c : Dev nD) : (dats a V 0 c).Φ (Fin.last (cfg0 a).N) ⊢ Pipeline.ΦD osem0 spec0 H0 V c := by
  rw [Pipeline.ΦD_eq, scopedRest0_eq, ownSems00_eq, hbmPts0_eq]
  show held c (stgV V c) (tabV V c) grid0.N ⊢ _
  rw [N_0]
  unfold held
  rw [show pend c 0 32 (shr 0) (stgV V c) (tabV V c) = Idle c 0 fullShare.left (stgV V c) from rfl,
    show pend c 1 32 (shr 1) (stgV V c) (tabV V c) = Idle c 1 fullShare.right (stgV V c) from rfl]
  unfold Idle
  iintro ⟨⟨Hs0, ⟨%f0, HS0⟩, Hh0⟩, ⟨Hs1, ⟨%f1, HS1⟩, Hh1⟩, Hr, Htb⟩
  isplitl [HS0 HS1]
  · iexists (fun i => if i ∈ slotSet 0 then f0 i else f1 i : ScrBuf (F := F) c)
    iapply (pointsTo_split_subset (Finset.subset_univ (slotSet 0))).2
    isplitl [HS0]
    · iapply (Entails.of_eq (pointsTo_congr (show ∀ i ∈ slotSet 0, f0 i = (fun i => if i ∈ slotSet 0 then f0 i else f1 i : ScrBuf (F := F) c) i from fun i hi => (if_pos hi).symm)))
      iexact HS0
    · rw [show (Finset.univ : Finset S2x4096x128.Idx) \ slotSet 0 = slotSet 1 from slot_univ]
      iapply (Entails.of_eq (pointsTo_congr (show ∀ i ∈ slotSet 1, f1 i = (fun i => if i ∈ slotSet 0 then f0 i else f1 i : ScrBuf (F := F) c) i from fun i hi => (if_neg (fun h => Finset.disjoint_left.mp slot_disjoint h hi)).symm)))
      iexact HS1
  isplitl [Hr]; · iexact Hr
  isplitl [Hs0 Hs1]
  · isplitl [Hs0]; · iexact Hs0
    iexact Hs1
  iapply (pointsTo_share (PosShare.mem_left_op_right _)).2
  isplitl [Hh0]; · iexact Hh0
  iexact Hh1

/-! ## The run -/

/-- Positions in range: every row asked for is one of the 18432 rows. -/
def InRange (tab : S16384.Idx → BitVec 32) : Prop := ∀ i, (tab i).toNat < 18432

variable (m : (ℓ : Loc nD τ sig) → Buf (Elt F) ℓ) (ρ : Dev nD → PrngReg)

/-- The host lines before the region, and the line after it. -/
abbrev opss : List (List (HloOp τ sig (Elt F))) := [hostOps0]
abbrev tail : List (List (HloOp τ sig (Elt F))) := [hostOps1]

/-- What each buffer holds when the region is entered. -/
def V₀ (c : Dev nD) : Valuation τ sig (Elt F) := fun b => StableHlo.after (opss (F := F)).flatten (fun b => m (c, b)) b
def Vm (c : Dev nD) (b : Ref sig .tc) : Buf (Elt F) ((c : Thread nD τ).loc b) := V₀ m c (Proc.devRef .tc b)

/-- The buffers the host lines before the region write. -/
abbrev wr : List (Ref sig .tc) :=
  [main_v0, main_v1, main_v2, main_v3, main_v4, main_v5, main_v6, main_v7, main_v8, main_v9, main_v10]

theorem Vm_of (c : Dev nD) (b : Ref sig .tc) (h : b ∉ wr) : Vm m c b = m ((c : Thread nD τ).loc b) :=
  StableHlo.after_of_writes_sub (opss (F := F)).flatten (fun b => m (c, b)) (StableHlo.forall_writes_sub_of_map (W := wr) rfl) h

theorem hmain (𝒱₀ : Variants) : Pipeline.HMainPK (Ix := Unit) (Name := ℕ) (U := Pipeline.UD sig nD τ) (Lvl := ℕ) (pcfgs (F := F)) 0 defs₀ 𝒱₀ m (main (F := F))
    (fun c b => V₀ m c (Proc.devRef .tc b)) (fun _ => Pipeline.chain ((tail (F := F)).map StableHlo.seq)) :=
  Pipeline.hmainP_around (pcfgs (F := F)) 0 defs₀ 𝒱₀ m main (opss (F := F)) (tail (F := F))
    hostOps0_sub
    (by simp only [List.Forall]; repeat' constructor)
    (fun c => (main_chain c).trans rfl)

/-- The table as the region finds it. -/
def adm : (pcfg0 (F := F)).Adm := ⟨fun k => Vm m 0 (pre0.ref k), trivial⟩

theorem tbl_eq (c : Dev nD) (k : Fin 1) : Vm m c (pre0.ref k) = (adm m).1 k := by
  obtain rfl : c = 0 := Subsingleton.elim _ _
  rfl

theorem tab_eq (c : Dev nD) : tabV (Vm m) c = m ((c : Thread nD τ).loc main_arg2) := Vm_of m c main_arg2 (by decide)

variable (hr : InRange (m (((0 : Dev nD) : Thread nD τ).loc main_arg2)))

include hr in
theorem tab_lt (c : Dev nD) (n : ℕ) : (tabAt (tabV (Vm m) c) n).toNat < 18432 := by
  obtain rfl : c = 0 := Subsingleton.elim _ _
  rw [tab_eq]; exact hr _

theorem tail_sub : ∀ ops ∈ tail (F := F), ∀ op ∈ ops, op.bufs ⊆ Pipeline.tailRefsBut (τ := τ) sig pre0 spec0 H0 := by
  intro ops ho op h
  obtain rfl := List.mem_singleton.1 ho
  obtain rfl := List.mem_singleton.1 h
  exact Pipeline.sub_tailRefsBut pre0 spec0 H0 _ hostOps1_sub
    (show ∀ k, Proc.devRef .tc (pre0.ref k) ∉ ({Proc.devRef .tc main_v11, Proc.devRef .tc main_v12} : Finset (DevRef τ sig)) by decide)
    (show ∀ b ∈ H0, Proc.devRef .tc b ∉ ({Proc.devRef .tc main_v11, Proc.devRef .tc main_v12} : Finset (DevRef τ sig)) by decide)
theorem tail_fresh : ∀ ops ∈ tail (F := F), ∀ op ∈ ops, op.fresh = ∅ := by
  intro ops ho op h
  obtain rfl := List.mem_singleton.1 ho
  obtain rfl := List.mem_singleton.1 h
  rfl
theorem tail_keep : ∀ ops ∈ tail (F := F), ∀ op ∈ ops, ∀ w, Proc.devRef .tc (Pipeline.arrRef spec0 w) ∉ op.writes := by
  intro ops ho op h
  obtain rfl := List.mem_singleton.1 ho
  obtain rfl := List.mem_singleton.1 h
  exact (show ∀ w, Proc.devRef .tc (Pipeline.arrRef spec0 w) ∉ ({Proc.devRef .tc main_v12} : Finset (DevRef τ sig)) by decide)

/-- What every buffer holds once the line after the region has run. -/
abbrev Vt (c : Dev nD) (b : Ref sig .tc) : Buf (Elt F) ((c.tc : Thread nD τ).loc b) :=
  Pipeline.afterTail (pcfgs (F := F)) (fun _ => adm m) (dats (adm m) (Vm m)) 0 (V₀ m) (tail (F := F)) c b

include hr in
set_option backward.isDefEq.respectTransparency.types false in
/-- The run of @main: the pipeline's arrays at what the points leave there, every other buffer at what the last line makes of it. -/
theorem run_main : θ_run defs (onTc (τ := τ) (main (F := F))) (s₀ m ρ)
    (fun r => Pipeline.FramePost (Pipeline.pin (pcfgs (F := F)) fun _ => adm m) (dats (adm m) (Vm m)) 0 (Vt m) r ∧ r.2.sem = fun _ => 0) :=
  Pipeline.θ_run_frameP_dma_around (Q' := _) (pcfgs (F := F)) (fun _ => adm m) (dats (adm m) (Vm m)) (0 : Fin 1) launch0 osem0 defs₀ Variants.none ownSemFacts0
    H0 H0_sub m ρ main
    (hbody := fun c => (body_obligation (adm m) (Vm m) c (tab_lt m hr c)).loose) (hshare := fun c => (dats (adm m) (Vm m) 0 c).share_full fun _ => rfl)
    (howed := fun _ _ => rfl) (V₀ := V₀ m) (opss := tail) (hsub := tail_sub) (hfresh := tail_fresh) (hkeep := tail_keep)
    (hmain := hmain m Variants.none) (hA := A_eq (adm m) (Vm m)) (hpf := tbl_eq m)
    (hin := fun c => region_in (adm m) (Vm m) c (tbl_eq m c)) (hout := region_out (adm m) (Vm m))

/-- A buffer outside the pipeline that neither the lines before nor the line after write ends as it began. -/
theorem kept_of {r : PUnit × MemSt nD τ sig (Elt F)} (c : Dev nD)
    (h : Pipeline.FramePost (Pipeline.pin (pcfgs (F := F)) fun _ => adm m) (dats (adm m) (Vm m)) 0 (Vt m) r)
    (b : Ref sig .tc) (h1 : b ∈ Pipeline.restRefs sig spec0) (h2 : b ∉ wr) (h3 : b ∉ [main_v12]) (h4 : ∀ w, Pipeline.arrRef spec0 w ≠ b) :
    r.2.mem ((c.tc : Thread nD τ).loc b) = m ((c.tc : Thread nD τ).loc b) := by
  refine ((h c).2 b h1).trans (Eq.trans ?_ (Vm_of m c b h2))
  refine (StableHlo.after_of_writes_sub (tail (F := F)).flatten _ (StableHlo.forall_writes_sub_of_map (W := [main_v12]) rfl) h3).trans ?_
  exact Pipeline.withArrays_of_ne spec0 c (V₀ m c) _ b h4

/-- The residual, an array the pipeline only reads, ends as it began. -/
theorem kept_x {r : PUnit × MemSt nD τ sig (Elt F)} (c : Dev nD)
    (h : Pipeline.FramePost (Pipeline.pin (pcfgs (F := F)) fun _ => adm m) (dats (adm m) (Vm m)) 0 (Vt m) r) :
    r.2.mem ((c.tc : Thread nD τ).loc main_arg0) = m ((c.tc : Thread nD τ).loc main_arg0) :=
  ((h c).1 0).trans (((dats (adm m) (Vm m) 0 c).arrAt_in 0 rfl _).trans ((A_eq (adm m) (Vm m) c 0).trans (Vm_of m c main_arg0 (by decide))))

/-- The arguments of core `c` in the memory `m'` are what they were in `m`. -/
abbrev Kept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)

theorem kept_all {r : PUnit × MemSt nD τ sig (Elt F)} (c : Dev nD)
    (h : Pipeline.FramePost (Pipeline.pin (pcfgs (F := F)) fun _ => adm m) (dats (adm m) (Vm m)) 0 (Vt m) r) : Kept m r.2.mem c := by
  refine ⟨kept_x m c h, ?_, ?_, ?_, ?_, ?_, ?_, ?_⟩ <;>
    exact kept_of m c h _ (Pipeline.mem_restRefs_of _ (by decide) (by decide)) (by decide) (by decide) (by decide)

include hr in
/-- The program runs, leaves its arguments unchanged and every counter at zero. -/
theorem frame : θ_run defs (onTc (τ := τ) (main (F := F))) ⟨m, fun _ => 0, ρ⟩ (fun r => (∀ c : Dev nD, Kept m r.2.mem c) ∧ r.2.sem = fun _ => 0) :=
  (θ_run defs _ _).mono (fun _ h => ⟨fun c => kept_all m c h.1, h.2⟩) (run_main m ρ hr)

end Cert.LastIdeal.Ple

end
-- ==== Proof.LastIdeal.Out.lean ====
/-
  What the last call's kernel computes: what each window of a grid point holds of the arguments, the array that the blocks
  written back leave, and each entry of the result as the token's row.
-/
module

public import proofs.«01_k».proof.Proof.LastIdeal.Value
public import proofs.«01_k».proof.Proof.LastIdeal.Run
public import Idealize.ShloMosaic.Lib.StableHlo.ReadAt
public import Idealize.ShloMosaic.Lib.Pipeline.ValueKit

@[expose] public section

set_option maxRecDepth 16384

noncomputable section

namespace Cert.LastIdeal.Ple
open Cert.LastIdeal Cert.LastIdeal.Gen Cert.InProjection Cert.LastRow
open Idealize.ShloMosaic Idealize.ShloMosaic.TcCoe Idealize.ShloMosaic.Tactic
open Idealize.SL.Sem
variable (m : (ℓ : Loc nD τ sig) → Buf (Elt Ideal) ℓ) (c : Dev nD)
variable (a : (pcfg0 (F := Ideal)).Adm)

/-- Every grid point writes its block of the result back. -/
theorem flush_all : ∀ t : Fin grid0.N, Pipeline.Window.flushOf grid0 true cc0_transform_7 t = true := by decide +kernel
/-- Point `t` writes block row `t`. -/
theorem ix_all : ∀ t : Fin grid0.N, cc0_transform_7 (grid0.coords t) = ![t.val, 0] := by decide +kernel
/-- Point `t` reads block row `t` of the residual. -/
theorem ix_res : ∀ t : Fin grid0.N, cc0_transform_0 (grid0.coords t) = ![t.val, 0] := by decide +kernel
/-- Point `t` reads block row `t` of the second layer's embedding. -/
theorem ix_emb : ∀ t : Fin grid0.N, cc0_transform_2 (grid0.coords t) = ![1, t.val, 0] := by decide +kernel
/-- The result's block is not empty. -/
theorem pos_all : ∀ x : Fin 2, 0 < S512x1024.size x := by decide
/-- The blocks written back cover the result. -/
theorem covers6 : ((cfg0 a).win 6).Covers := by
  refine ⟨fun x => pos_all x, fun β => ?_⟩
  have n0 : ((cfg0 a).win 6).nblk (0 : Fin 2) = 32 := by
    show (16384 + 512 - 1) / 512 = 32; norm_num
  have n1 : ((cfg0 a).win 6).nblk (1 : Fin 2) = 1 := by
    show (1024 + 1024 - 1) / 1024 = 1; norm_num
  have h0 : (β (0 : Fin 2)).val < 32 := lt_of_lt_of_eq (β (0 : Fin 2)).isLt n0
  have h1 : (β (1 : Fin 2)).val < 1 := lt_of_lt_of_eq (β (1 : Fin 2)).isLt n1
  refine ⟨⟨(β (0 : Fin 2)).val, h0⟩, flush_all _, fun x => ⟨?_, Or.inl rfl⟩⟩
  show cc0_transform_7 (grid0.coords ⟨(β (0 : Fin 2)).val, h0⟩) x = _
  rw [ix_all]
  revert x
  refine (Fin.forall_fin_two (p := fun x : Fin 2 => _)).2 ⟨rfl, ?_⟩
  show 0 = (β (1 : Fin 2)).val; omega

section Windows
variable (V : (c : Dev nD) → (b : Ref sig .tc) → Buf (Elt Ideal) ((c : Thread nD τ).loc b))

/-- The residual's window holds the point's 512 tokens. -/
theorem a0_read (t : Fin (cfg0 a).N) (r : Fin 512) (k : Fin 1024) (i : Fin 16384) (hi : i.val = t.val * 512 + r.val) :
    A0 a V c t (ix2 r k) = (V c main_arg0 : S16384x1024.Idx → EReal) (ix2 i k) := by
  unfold A0
  blk_ext
  · have e : ((cfg0 a).win 0).index t (0 : Fin 2) = t.val := congrFun (ix_res t) (0 : Fin 2)
    show ((cfg0 a).win 0).index t (0 : Fin 2) * 512 + _ = _
    rw [e, hi]
  · have e : ((cfg0 a).win 0).index t (1 : Fin 2) = 0 := congrFun (ix_res t) (1 : Fin 2)
    show ((cfg0 a).win 0).index t (1 : Fin 2) * 1024 + _ = _
    rw [e]; omega
/-- The embedding's window holds their rows of the second layer's. -/
theorem p0_read (t : Fin (cfg0 a).N) (r : Fin 512) (q : Fin 256) (i : Fin 16384) (hi : i.val = t.val * 512 + r.val) :
    P0 a V c t (ix3 0 r q) = (V c main_v0 : S2x16384x256.Idx → EReal) (ix3 1 i q) := by
  unfold P0
  blk_ext
  · rfl
  · have e : ((cfg0 a).win 1).index t (1 : Fin 3) = t.val := congrFun (ix_emb t) (1 : Fin 3)
    show ((cfg0 a).win 1).index t (1 : Fin 3) * 512 + _ = _
    rw [e, hi]
  · have e : ((cfg0 a).win 1).index t (2 : Fin 3) = 0 := congrFun (ix_emb t) (2 : Fin 3)
    show ((cfg0 a).win 1).index t (2 : Fin 3) * 256 + _ = _
    rw [e]; omega
/-- The gain's window holds the gain. -/
theorem w1_read (t : Fin (cfg0 a).N) (k : Fin 1024) : W10 a V c t (ix2 0 k) = (V c main_v3 : S1x1024.Idx → EReal) (ix2 0 k) := by
  unfold W10
  blk_ext
  · rfl
  · have e : ((cfg0 a).win 2).index t (1 : Fin 2) = 0 := rfl
    show ((cfg0 a).win 2).index t (1 : Fin 2) * 1024 + _ = _
    rw [e]; omega
/-- The gate matrix's window holds the whole matrix. -/
theorem w2_read (t : Fin (cfg0 a).N) (q k : Fin 1024) : W20 a V c t (ix2 q k) = (V c main_v6 : S1024x1024.Idx → EReal) (ix2 q k) := by
  unfold W20
  blk_ext
  · have e : ((cfg0 a).win 3).index t (0 : Fin 2) = 0 := rfl
    show ((cfg0 a).win 3).index t (0 : Fin 2) * 1024 + _ = _
    rw [e]; omega
  · have e : ((cfg0 a).win 3).index t (1 : Fin 2) = 0 := rfl
    show ((cfg0 a).win 3).index t (1 : Fin 2) * 1024 + _ = _
    rw [e]; omega
/-- The embedding matrix's window holds the whole matrix. -/
theorem w3_read (t : Fin (cfg0 a).N) (q : Fin 256) (k : Fin 1024) : W30 a V c t (ix2 q k) = (V c main_v9 : S256x1024.Idx → EReal) (ix2 q k) := by
  unfold W30
  blk_ext
  · have e : ((cfg0 a).win 4).index t (0 : Fin 2) = 0 := rfl
    show ((cfg0 a).win 4).index t (0 : Fin 2) * 256 + _ = _
    rw [e]; omega
  · have e : ((cfg0 a).win 4).index t (1 : Fin 2) = 0 := rfl
    show ((cfg0 a).win 4).index t (1 : Fin 2) * 1024 + _ = _
    rw [e]; omega
/-- The final gain's window holds it. -/
theorem w4_read (t : Fin (cfg0 a).N) (k : Fin 1024) : W40 a V c t (ix2 0 k) = (V c main_v10 : S1x1024.Idx → EReal) (ix2 0 k) := by
  unfold W40
  blk_ext
  · rfl
  · have e : ((cfg0 a).win 5).index t (1 : Fin 2) = 0 := rfl
    show ((cfg0 a).win 5).index t (1 : Fin 2) * 1024 + _ = _
    rw [e]; omega
end Windows

/-! The arguments as functions of their indices. -/

abbrev a0 : S16384x1024.Idx → EReal := m ((c : Thread nD τ).loc main_arg0)
abbrev a1 : S147456x128.Idx → EReal := m ((c : Thread nD τ).loc main_arg1)
abbrev a2 : S16384.Idx → BitVec 32 := m ((c : Thread nD τ).loc main_arg2)
abbrev a3 : S2x8x2048x256.Idx → EReal := m ((c : Thread nD τ).loc main_arg3)
abbrev a4 : S2x1024.Idx → EReal := m ((c : Thread nD τ).loc main_arg4)
abbrev a5 : S2x1024x1024.Idx → EReal := m ((c : Thread nD τ).loc main_arg5)
abbrev a6 : S2x256x1024.Idx → EReal := m ((c : Thread nD τ).loc main_arg6)
abbrev a7 : S1024.Idx → EReal := m ((c : Thread nD τ).loc main_arg7)

/-- The staged embedding is the argument, batch row by batch row. -/
theorem v0_read (l : Fin 2) (i : Fin 16384) (q : Fin 256) :
    (Vm m c main_v0 : S2x16384x256.Idx → EReal) (ix3 l i q) = a3 m c (ix4 l ⟨i.val / 2048, by omega⟩ ⟨i.val % 2048, by omega⟩ q) := by
  unfold Vm V₀
  after_reads_at
/-- The staged gain is the second layer's. -/
theorem v3_read (k : Fin 1024) : (Vm m c main_v3 : S1x1024.Idx → EReal) (ix2 0 k) = a4 m c (ix2 1 k) := by
  unfold Vm V₀
  after_reads_at
/-- The staged gate matrix is the second layer's. -/
theorem v6_read (q k : Fin 1024) : (Vm m c main_v6 : S1024x1024.Idx → EReal) (ix2 q k) = a5 m c (ix3 1 q k) := by
  unfold Vm V₀
  after_reads_at
/-- The staged embedding matrix is the second layer's. -/
theorem v9_read (q : Fin 256) (k : Fin 1024) : (Vm m c main_v9 : S256x1024.Idx → EReal) (ix2 q k) = a6 m c (ix3 1 q k) := by
  unfold Vm V₀
  after_reads_at
/-- The staged final gain is the argument. -/
theorem v10_read (k : Fin 1024) : (Vm m c main_v10 : S1x1024.Idx → EReal) (ix2 0 k) = a7 m c (ix1 k) := by
  unfold Vm V₀
  after_reads_at

/-- The result's array before the last reshape: block by block what the points store. -/
def outArr (V : (c : Dev nD) → (b : Ref sig .tc) → Buf (Elt Ideal) ((c : Thread nD τ).loc b)) (c : Dev nD) : S16384x1024.Idx → EReal :=
  fun i => O0 a V c ⟨(i 0).val / 512, by have : (i 0).val < 16384 := (i 0).isLt; show _ < 32; omega⟩ (ix2 ⟨(i 0).val % 512, by omega⟩ ⟨(i 1).val, (i 1).isLt⟩)
/-- At the end of the run the array is that. -/
theorem out_arr (V : (c : Dev nD) → (b : Ref sig .tc) → Buf (Elt Ideal) ((c : Thread nD τ).loc b)) :
    (dats a V 0 c).arrAt 6 (Pipeline.pin pcfgs (fun _ => a) 0).N = outArr a V c := by
  refine Pipeline.Dat.arrAt_eq_of_covers (dats a V 0 c) 6 _ (covers6 a) fun t hf y => ?_
  blk_simp
  have e0 : (((((Pipeline.pin pcfgs (fun _ => a) 0).win 6).blk t).view.emb y) (0 : Fin 2)).val = t.val * 512 + (y (0 : Fin 2)).val := by
    have h := ix_all t
    have h' : ((cfg0 a).win 6).index t (0 : Fin 2) = t.val := congrFun h (0 : Fin 2)
    rw [← h']
    exact ValueKit.view_emb_slice_whole_unit_val main_v11 _ _ _ y (0 : Fin 2)
  have e1 : (((((Pipeline.pin pcfgs (fun _ => a) 0).win 6).blk t).view.emb y) (1 : Fin 2)).val = (y (1 : Fin 2)).val := by
    have h := ix_all t
    have h' : ((cfg0 a).win 6).index t (1 : Fin 2) = 0 := congrFun h (1 : Fin 2)
    refine Eq.trans (b := ((cfg0 a).win 6).index t (1 : Fin 2) * 1024 + (y (1 : Fin 2)).val) (ValueKit.view_emb_slice_whole_unit_val main_v11 _ _ _ y (1 : Fin 2)) ?_
    rw [h']; omega
  have y0 : (y (0 : Fin 2)).val < 512 := (y (0 : Fin 2)).isLt
  show O0 a V c t y = O0 a V c _ _
  congr 1
  · refine Fin.ext ?_
    show t.val = _ / 512
    rw [e0]; omega
  · funext x
    revert x
    refine (Fin.forall_fin_two (p := fun x : Fin 2 => _)).2 ⟨Fin.ext ?_, Fin.ext ?_⟩
    · show (y (0 : Fin 2)).val = _ % 512
      rw [e0]; omega
    · exact e1.symm

/-- A gathered row is the row of the expert rows that its position names. -/
theorem rows_apply (f : S147456x128.Idx → EReal) (tk : ℕ → ℕ) (i : Fin 4096) (l : Fin 128) :
    rows (F := Ideal) f tk (ix2 i l) = f (ix2 ⟨(8 * tk (i.val / 8) + i.val % 8) % 147456, Nat.mod_lt _ (by decide)⟩ l) := rfl

/-- A token's residual with the expert row at its position added. -/
def res (x : S16384x1024.Idx → EReal) (y : S147456x128.Idx → EReal) (pos : S16384.Idx → BitVec 32) (i : Fin 16384) (k : Fin 1024) : EReal :=
  x (ix2 i k) + y (ix2 ⟨(8 * (pos (ix1 i)).toNat + k.val / 128) % 147456, Nat.mod_lt _ (by decide)⟩ ⟨k.val % 128, Nat.mod_lt _ (by decide)⟩)

/-- The array at a token and a column: the token's row. -/
theorem out_row (i : Fin 16384) (d : Fin 1024) :
    outArr a (Vm m) c (ix2 i d)
      = out (res (a0 m c) (a1 m c) (a2 m c) i) (fun k => a4 m c (ix2 1 k)) (fun q k => a5 m c (ix3 1 q k)) (fun q => a3 m c (ix4 1 ⟨i.val / 2048, by omega⟩ ⟨i.val % 2048, by omega⟩ q))
          (fun q k => a6 m c (ix3 1 q k)) (fun k => a7 m c (ix1 k)) d := by
  have hi := i.isLt
  have ht : i.val / 512 < 32 := by omega
  unfold outArr
  show O0 a (Vm m) c ⟨i.val / 512, ht⟩ (ix2 ⟨i.val % 512, _⟩ ⟨d.val, _⟩) = _
  obtain ⟨t, et⟩ : ∃ t : Fin grid0.N, t = ⟨i.val / 512, ht⟩ := ⟨_, rfl⟩
  have etv : t.val = i.val / 512 := by rw [et]
  rw [← et]
  unfold O0
  refine blk_apply _ _ _ _ _ _ _ ⟨i.val % 512, by omega⟩ ⟨d.val, d.isLt⟩ _ _ _ _ _ _ ?_ ?_ ?_ ?_ ?_ ?_
  · intro k
    have hk := k.isLt
    refine (x49_apply _ _ _ k).trans ?_
    unfold res
    refine congrArg₂ (· + ·) ((a0_read c a (Vm m) t _ k i (by simp only []; omega)).trans (congrFun (Vm_of m c main_arg0 (by decide)) _)) ?_
    refine (rows_apply _ _ _ _).trans ((congrFun (Vm_of m c main_arg1 (by decide)) _).trans (congrArg (a1 m c) (congrArg₂ ix2 (Fin.ext ?_) rfl)))
    have e2 : tok (tabV (Vm m) c) t.val ((8 * (i.val % 512) + k.val / 128) / 8) = (a2 m c (ix1 i)).toNat := by
      unfold tok tabAt
      rw [tab_eq]
      refine congrArg BitVec.toNat (congrArg (a2 m c) (congrArg ix1 (Fin.ext ?_)))
      show (512 * t.val + (8 * (i.val % 512) + k.val / 128) / 8) % 16384 = i.val
      omega
    show (8 * tok (tabV (Vm m) c) t.val ((8 * (i.val % 512) + k.val / 128) / 8) + (8 * (i.val % 512) + k.val / 128) % 8) % 147456 = _
    rw [e2]
    simp only []
    omega
  · intro k; exact (w1_read c a (Vm m) t k).trans (v3_read m c k)
  · intro q k; exact (w2_read c a (Vm m) t q k).trans (v6_read m c q k)
  · intro q; exact (p0_read c a (Vm m) t _ q i (by simp only []; omega)).trans (v0_read m c 1 i q)
  · intro q k; exact (w3_read c a (Vm m) t q k).trans (v9_read m c q k)
  · intro k; exact (w4_read c a (Vm m) t k).trans (v10_read m c k)

/-- The result: the array reshaped to batch rows. -/
def result (c : Dev nD) : S8x2048x1024.Idx → EReal := shapeCast _ (outArr (adm m) (Vm m) c) shapeCasts_S16384x1024_S8x2048x1024

/-- The last line's reshape, of any buffers. -/
theorem tail_after (W : Valuation τ sig (Elt Ideal)) :
    (StableHlo.after (tail (F := Ideal)).flatten W (Proc.devRef .tc main_v12) : S8x2048x1024.Idx → EReal)
      = shapeCast _ (W (Proc.devRef .tc main_v11) : S16384x1024.Idx → EReal) shapeCasts_S16384x1024_S8x2048x1024 := by
  show StableHlo.after (hostOps1 (F := Ideal)) W (Proc.devRef .tc main_v12) = _
  after_results
  rfl

/-- What the last line leaves in the result. -/
theorem tail_read : (Vt m c main_v12 : S8x2048x1024.Idx → EReal) = result m c := by
  unfold result
  refine (tail_after _).trans (congrArg (fun f : S16384x1024.Idx → EReal => shapeCast _ f shapeCasts_S16384x1024_S8x2048x1024) ?_)
  exact (Pipeline.withArrays_arr spec0 (by decide) c (V₀ m c) _ 6).trans (out_arr c (adm m) (Vm m))

/-- The result is an array the pipeline does not hold. -/
theorem rest_out : main_v12 ∈ Pipeline.restRefs sig spec0 := Pipeline.mem_restRefs_of _ (by decide) (by decide)

/-- The result at a batch row, a place and a column: the token's row. -/
theorem result_read (b : Fin 8) (s : Fin 2048) (d : Fin 1024) (i : Fin 16384) (hi : i.val = b.val * 2048 + s.val) :
    result m c (ix3 b s d)
      = out (res (a0 m c) (a1 m c) (a2 m c) i) (fun k => a4 m c (ix2 1 k)) (fun q k => a5 m c (ix3 1 q k)) (fun q => a3 m c (ix4 1 b s q))
          (fun q k => a6 m c (ix3 1 q k)) (fun k => a7 m c (ix1 k)) d := by
  have e : result m c (ix3 b s d) = outArr (adm m) (Vm m) c (ix2 i d) := by
    rw [show i = ⟨b.val * 2048 + s.val, by omega⟩ from Fin.ext hi]
    unfold result
    generalize outArr (adm m) (Vm m) c = f
    pointwise []
  rw [e, out_row]
  rw [show (⟨i.val / 2048, by omega⟩ : Fin 8) = b from Fin.ext (by simp only []; omega), show (⟨i.val % 2048, by omega⟩ : Fin 2048) = s from Fin.ext (by simp only []; omega)]

variable (hr : InRange (m (((0 : Dev nD) : Thread nD τ).loc main_arg2)))
include hr in
/-- The run of @main: the result, and the arguments as they began. -/
theorem run_out (ρ : Dev nD → PrngReg) :
    θ_run defs (onTc (τ := τ) (main (F := Ideal))) ⟨m, fun _ => 0, ρ⟩
      (fun r => (∀ c : Dev nD, r.2.mem ((c.tc : Thread nD τ).loc main_v12) = result m c ∧ Kept m r.2.mem c) ∧ r.2.sem = fun _ => 0) :=
  (θ_run defs _ _).mono (fun _ h => ⟨fun c => ⟨((h.1 c).2 main_v12 rest_out).trans (tail_read m c), kept_all m c h.1⟩, h.2⟩) (run_main m ρ hr)

end Cert.LastIdeal.Ple

end
-- ==== Proof.LastReference.lean ====
/-
  What the reference of the last call computes, an entry at a time.
-/
module

public import proofs.«01_k».proof.Proof.Gen.LastReferenceIdeal.Read
public import proofs.«01_k».proof.Proof.LastSpec
public import Idealize.ShloMosaic.Lib.Pointwise

@[expose] public section

set_option maxRecDepth 16384

noncomputable section

namespace Cert.LastReferenceIdeal.Row
open Cert.LastReferenceIdeal Cert.LastReferenceIdeal.Gen Cert.LastReferenceIdeal.Read Cert.InProjection Cert.LastRow
open Idealize.ShloMosaic Idealize.ShloMosaic.TcCoe Idealize.ShloMosaic.Tactic
variable (x0 : (⟨S16384x1024, .f32⟩ : BufTy).Contents (Elt Ideal)) (x1 : (⟨S147456x128, .f32⟩ : BufTy).Contents (Elt Ideal)) (x2 : (⟨S16384, .i32⟩ : BufTy).Contents (Elt Ideal))
  (x3 : (⟨S2x8x2048x256, .f32⟩ : BufTy).Contents (Elt Ideal)) (x4 : (⟨S2x1024, .f32⟩ : BufTy).Contents (Elt Ideal)) (x5 : (⟨S2x1024x1024, .f32⟩ : BufTy).Contents (Elt Ideal))
  (x6 : (⟨S2x256x1024, .f32⟩ : BufTy).Contents (Elt Ideal)) (x7 : (⟨S1024, .f32⟩ : BufTy).Contents (Elt Ideal))

/-- A position in range is not wrapped. -/
theorem wrap_word (v : BitVec 32) (h : v.toNat < 18432) : Scalar.select (IntOp.cmpi CmpIPredicate.slt v 0#32) (IntOp.addi v 18432#32) v = v := by
  refine if_neg ?_
  show ¬ BitVec.ofBool (v.slt 0#32) = 1#1
  have : v.slt 0#32 = false := by
    rw [Bool.eq_false_iff]
    intro hs
    rw [BitVec.slt_iff_toInt_lt] at hs
    rw [BitVec.toInt_eq_toNat_of_lt (by omega)] at hs
    simp at hs
    omega
  rw [this]; decide

/-- The gathered row is the expert row at the token's position. -/
theorem row_read (s : Fin 16384) (k : Fin 1024) (h : (x2 (ix1 s)).toNat < 18432) : val_main_v7 x1 x2 (ix2 s k) = val_main_v0 x1 (ix2 ⟨(x2 (ix1 s)).toNat % 18432, Nat.mod_lt _ (by decide)⟩ k) := by
  have hv : val_main_v6 (F := Ideal) x2 (ix2 s 0) = x2 (ix1 s) := by
    pointwise [val_main_v6, val_main_v5, val_main_v4, val_main_v3, val_main_c_0, val_main_v2, val_main_v1, val_main_c]
    exact wrap_word _ h
  unfold val_main_v7 Host.gather
  refine congrArg (val_main_v0 x1) ?_
  generalize val_main_v6 (F := Ideal) x2 = idx at hv
  funext a
  revert a
  refine (Fin.forall_fin_two (p := fun a : Fin 2 => _)).2 ⟨Fin.ext ?_, Fin.ext ?_⟩
  · show (gather_S18432x1024_S16384x1_S16384x1024_1_0_n_n_0_1_11024).start (ix2 s k) idx 0 + (gather_S18432x1024_S16384x1_S16384x1024_1_0_n_n_0_1_11024).batchCoord (ix2 s k) 0 + (gather_S18432x1024_S16384x1_S16384x1024_1_0_n_n_0_1_11024).offCoord (ix2 s k) 0 = (x2 (ix1 s)).toNat % 18432
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S18432x1024_S16384x1_S16384x1024_1_0_n_n_0_1_11024).startIndexMap from List.mem_singleton.mpr rfl)]
    have hsi : (gather_S18432x1024_S16384x1_S16384x1024_1_0_n_n_0_1_11024).siIdx (ix2 s k) ⟨List.idxOf (0 : Fin 2) (gather_S18432x1024_S16384x1_S16384x1024_1_0_n_n_0_1_11024).startIndexMap,
      List.idxOf_lt_length_iff.2 (List.mem_singleton.mpr rfl)⟩ = ix2 s 0 := by
      funext b
      revert b
      refine (Fin.forall_fin_two (p := fun a : Fin 2 => _)).2 ⟨rfl, rfl⟩
    rw [hsi, hv, BitVec.toInt_eq_toNat_of_lt (by omega)]
    show min (Int.toNat ((x2 (ix1 s)).toNat : ℤ)) (18432 - 1) + 0 + 0 = _
    rw [Int.toNat_natCast]
    omega
  · show (gather_S18432x1024_S16384x1_S16384x1024_1_0_n_n_0_1_11024).start (ix2 s k) idx 1 + (gather_S18432x1024_S16384x1_S16384x1024_1_0_n_n_0_1_11024).batchCoord (ix2 s k) 1 + (gather_S18432x1024_S16384x1_S16384x1024_1_0_n_n_0_1_11024).offCoord (ix2 s k) 1 = k.val
    rw [GatherDims.batchCoord_eq_zero _ _ _ List.not_mem_nil]
    unfold GatherDims.start
    rw [dif_neg (show (1 : Fin 2) ∉ (gather_S18432x1024_S16384x1_S16384x1024_1_0_n_n_0_1_11024).startIndexMap by decide)]
    refine (Nat.zero_add _).trans ?_
    unfold GatherDims.offCoord
    rfl

/-- A token's residual with the expert row at its position added. -/
def res (i : Fin 16384) (k : Fin 1024) : EReal :=
  x0 (ix2 i k) + x1 (ix2 ⟨(8 * (x2 (ix1 i)).toNat + k.val / 128) % 147456, Nat.mod_lt _ (by decide)⟩ ⟨k.val % 128, Nat.mod_lt _ (by decide)⟩)

/-- The sum of the two, row by row. -/
theorem sum_read (i : Fin 16384) (k : Fin 1024) (h : (x2 (ix1 i)).toNat < 18432) : val_main_v8 (F := Ideal) x0 x1 x2 (ix2 i k) = res x0 x1 x2 i k := by
  have hk := k.isLt
  unfold res
  refine congrArg (x0 (ix2 i k) + ·) ((row_read x1 x2 i k h).trans ?_)
  pointwise [val_main_v0]
  refine congrArg x1 (congrArg₂ ix2 (Fin.ext ?_) (Fin.ext ?_)) <;> simp only [] <;> omega

/-- The residual by batch rows. -/
theorem x_read (b : Fin 8) (s : Fin 2048) (k : Fin 1024) (i : Fin 16384) (hi : i.val = b.val * 2048 + s.val) (h : (x2 (ix1 i)).toNat < 18432) :
    val_main_v9 (F := Ideal) x0 x1 x2 (ix3 b s k) = res x0 x1 x2 i k := by
  rw [← sum_read x0 x1 x2 i k h, show i = ⟨b.val * 2048 + s.val, by omega⟩ from Fin.ext hi]
  unfold val_main_v9
  generalize val_main_v8 (F := Ideal) x0 x1 x2 = f
  pointwise []

/-- The normed residual. -/
theorem normed_read (b : Fin 8) (s : Fin 2048) (k : Fin 1024) :
    val_main_v24 (F := Ideal) x0 x1 x2 x4 (ix3 b s k) = normed (fun k => val_main_v9 (F := Ideal) x0 x1 x2 (ix3 b s k)) (fun k => x4 (ix2 1 k)) k := by
  pointwise [val_main_v24, val_main_v23, val_main_v22, val_main_v21, val_main_v20, val_main_v19, val_main_v18, val_main_v17, val_main_v16, val_main_v15, val_main_v14, val_main_v13, val_main_v12, val_main_v11, val_main_v10, val_main_cst, val_main_cst_1, val_main_cst_2]
  unfold normed
  rfl

/-- The gate's products. -/
theorem gate_read (b : Fin 8) (s : Fin 2048) (k : Fin 1024) :
    val_main_v27 (F := Ideal) x0 x1 x2 x4 x5 (ix3 b s k) = ∑ q, val_main_v24 (F := Ideal) x0 x1 x2 x4 (ix3 b s q) * x5 (ix3 1 q k) := by
  pointwise [val_main_v27, val_main_v26, val_main_v25]

/-- The embedding's products. -/
theorem emb_read (b : Fin 8) (s : Fin 2048) (k : Fin 1024) :
    val_main_v38 (F := Ideal) x3 x6 (ix3 b s k) = ∑ q, x3 (ix4 1 b s q) * x6 (ix3 1 q k) := by
  pointwise [val_main_v38, val_main_v37, val_main_v36, val_main_v35, val_main_v34]

/-- The gate. -/
theorem sig_read (b : Fin 8) (s : Fin 2048) (k : Fin 1024) :
    val_main_v33 (F := Ideal) x0 x1 x2 x4 x5 (ix3 b s k) = Ideal.logistic (val_main_v27 (F := Ideal) x0 x1 x2 x4 x5 (ix3 b s k)) := by
  pointwise [val_main_v33, val_main_v32, val_main_v31, val_main_v30, val_main_v29, val_main_v28, val_main_cst_3, val_main_cst_4]
  rfl

/-- The residual with the gated embedding added. -/
theorem gated_read (b : Fin 8) (s : Fin 2048) (k : Fin 1024) :
    val_main_v40 (F := Ideal) x0 x1 x2 x3 x4 x5 x6 (ix3 b s k)
      = gated (fun k => val_main_v9 (F := Ideal) x0 x1 x2 (ix3 b s k)) (fun k => x4 (ix2 1 k)) (fun q k => x5 (ix3 1 q k)) (fun q => x3 (ix4 1 b s q)) (fun q k => x6 (ix3 1 q k)) k := by
  unfold val_main_v40 val_main_v39 gated
  refine congrArg (_ + ·) (congrArg₂ (· * ·) ?_ (emb_read x3 x6 b s k))
  rw [sig_read, gate_read]
  simp only [normed_read]

/-- The last norm, of any residual. -/
theorem last_read (b : Fin 8) (s : Fin 2048) (d : Fin 1024) :
    val_main_v53 (F := Ideal) x0 x1 x2 x3 x4 x5 x6 x7 (ix3 b s d) = normed (fun k => val_main_v40 (F := Ideal) x0 x1 x2 x3 x4 x5 x6 (ix3 b s k)) (fun k => x7 (ix1 k)) d := by
  pointwise [val_main_v53, val_main_v52, val_main_v51, val_main_v50, val_main_v49, val_main_v48, val_main_v47, val_main_v46, val_main_v45, val_main_v44, val_main_v43, val_main_v42, val_main_v41, val_main_cst_5, val_main_cst_6, val_main_cst_7]
  unfold normed
  rfl

/-- The reference's result at a batch row, a place and a column: the token's row. -/
theorem out_read (b : Fin 8) (s : Fin 2048) (d : Fin 1024) (i : Fin 16384) (hi : i.val = b.val * 2048 + s.val) (h : (x2 (ix1 i)).toNat < 18432) :
    val_main_v53 (F := Ideal) x0 x1 x2 x3 x4 x5 x6 x7 (ix3 b s d)
      = out (res x0 x1 x2 i) (fun k => x4 (ix2 1 k)) (fun q k => x5 (ix3 1 q k)) (fun q => x3 (ix4 1 b s q)) (fun q k => x6 (ix3 1 q k)) (fun k => x7 (ix1 k)) d := by
  rw [last_read]
  unfold out
  simp only [gated_read, fun k => x_read x0 x1 x2 b s k i hi h]

end Cert.LastReferenceIdeal.Row

end
-- ==== Proof.lean ====
/-
  The claims, assembled: the frames of the two programs and of the reference, the constant named, and the value.
-/
module

public import proofs.«01_k».proof.Defs
public import proofs.«01_k».proof.Proof.Plan
public import proofs.«01_k».proof.Proof.Ref
public import proofs.«01_k».proof.Proof.MoeIdeal.Run
public import proofs.«01_k».proof.Proof.MoeBits.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Last
public import proofs.«01_k».proof.Proof.Gen.LastIdeal
public import proofs.«01_k».proof.Proof.Gen.LastIdeal.Launch
public import proofs.«01_k».proof.Proof.Gen.LastIdeal.Skeleton
public import proofs.«01_k».proof.Proof.Gen.Last.Launch
public import proofs.«01_k».proof.Proof.Gen.Last.Skeleton
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.Pre_slot_range
public import proofs.«01_k».proof.Proof.Gen.Pre_plan_range
public import proofs.«01_k».proof.Proof.Gen.Pre_finite_routing
public import proofs.«01_k».proof.Proof.MoeIdeal.Out
public import proofs.«01_k».proof.Proof.RefValue
public import proofs.«01_k».proof.Proof.Finite
public import proofs.«01_k».proof.Proof.InProjection.Out
public import proofs.«01_k».proof.Proof.InProjection.Reference
public import proofs.«01_k».proof.Proof.LastBits.Run
public import proofs.«01_k».proof.Proof.LastIdeal.Out
public import proofs.«01_k».proof.Proof.LastReference
public import Idealize.ShloMosaic.Adequacy
public import Idealize.ShloMosaic.Init

@[expose] public section

noncomputable section

namespace Cert.Proof

open Idealize.ShloMosaic Idealize.SL.Sem

/-- The kernel runs under a plan in range. -/
theorem frame_p : Cert.quiescent_Kernel := fun m g h => Cert.Kernel.Moe.frame m g (Cert.Plan.of_plan _ _ _ _ _ _ _ _ _ _ (h 0))
/-- So does the idealized kernel. -/
theorem frame_pi : Cert.quiescent_KernelIdeal := fun m g h => Cert.KernelIdeal.Moe.frame m g (Cert.Plan.of_plan _ _ _ _ _ _ _ _ _ _ (h 0))
/-- The reference runs. -/
theorem frame_ri : Cert.quiescent_ReferenceIdeal := fun m g _ =>
  (θ_run Cert.ReferenceIdeal.defs _ _).mono
    (fun r ended => ⟨fun c => (ended c).2, sem_eq_zero_of_no_sems (by decide) r.2⟩)
    (Cert.ReferenceIdeal.Value.run (F := Ideal) m g)
/-- The mask's constant is named. -/
theorem named : Cert.preserves_Kernel_KernelIdeal :=
  IdealRules.named_const.statement Cert.KernelIdeal.κ "mask" .f32 0xF149F2CA#32 ⊥ rfl

/-- The idealized kernel runs under the value claim's precondition. -/
theorem frame_pi_finite : Cert.quiescent_KernelIdeal_pre_finite_routing := fun m g h => Cert.KernelIdeal.Moe.frame m g (Cert.Plan.of_finite _ _ _ _ _ _ _ _ _ _ (h 0)).1
/-- So does the reference. -/
theorem frame_ri_finite : Cert.quiescent_ReferenceIdeal_pre_finite_routing := fun m g _ => frame_ri m g trivial

/-- The idealized kernel's result is the reference's: at every row and lane both are the routed experts of the row's token. -/
theorem values : Cert.algebraic_KernelIdeal_ReferenceIdeal_pre_finite_routing := by
  intro m g m' g' hpre hagree
  have hr := (Cert.Plan.of_finite _ _ _ _ _ _ _ _ _ _ (hpre 0)).1
  refine ⟨fun c => Cert.KernelIdeal.Moe.outArr (Cert.KernelIdeal.Moe.adm m hr) (Cert.KernelIdeal.Moe.Vm m) c,
    (θ_run Cert.KernelIdeal.defs _ _).mono (fun _ ended => ended.1) (Cert.KernelIdeal.Moe.run_out m hr g),
    (θ_run Cert.ReferenceIdeal.defs _ _).mono (fun r ended c => ⟨(ended c).1.trans ?_, (ended c).2⟩) (Cert.ReferenceIdeal.Value.run (F := Ideal) m' g')⟩
  obtain ⟨hin, rx, rg, rbg, re, rbe⟩ := Cert.Plan.of_finite _ _ _ _ _ _ _ _ _ _ (hpre c)
  obtain ⟨h0, h1, h2, h3, h4, h5, h6, h7, h8, h9⟩ := hagree c
  rw [Cert.ReferenceIdeal.Read.val_main_v87_eq, h0, h1, h2, h3, h4, h5, h6, h7, h8, h9]
  funext i
  obtain ⟨R, l, rfl⟩ : ∃ (R : Fin 147456) (l : Fin 128), i = ix2 R l := ⟨i 0, i 1, by
    funext a
    revert a
    exact (Fin.forall_fin_two (p := fun a : Fin 2 => _)).2 ⟨rfl, rfl⟩⟩
  exact (Cert.ReferenceIdeal.Route.out_slot _ _ _ _ _ _ _ _ _ _ hin.2 rx rg rbg re rbe R l).trans
    (Cert.KernelIdeal.Moe.out_slot m c hr rx rg re R l).symm

/-- The input projections' kernel runs. -/
theorem frame_in_p : Cert.quiescent_InProj := fun m g _ => Cert.InProj.Gen.frame m g
/-- So does the idealized one. -/
theorem frame_in_pi : Cert.quiescent_InProjIdeal := fun m g _ => Cert.InProjIdeal.Gen.frame m g
/-- Their reference runs. -/
theorem frame_in_ri : Cert.quiescent_InProjReferenceIdeal := fun m g _ =>
  (θ_run Cert.InProjReferenceIdeal.defs _ _).mono
    (fun r ended => ⟨fun c => (ended c).2, sem_eq_zero_of_no_sems (by decide) r.2⟩)
    (Cert.InProjReferenceIdeal.Value.run (F := Ideal) m g)
/-- Nothing of the input projections is replaced. -/
theorem same_in : Cert.preserves_InProj_InProjIdeal := trivial

/-- The input projections' result is their reference's: at every token and lane both are the token's projection. -/
theorem values_in : Cert.algebraic_InProjIdeal_InProjReferenceIdeal := by
  intro m g m' g' _ hagree
  refine ⟨fun c => (Cert.InProjIdeal.Gen.dats m 0 c).arrAt 3 Cert.InProjIdeal.cfg0.N, Cert.InProjIdeal.Value.run_blocks m g,
    (θ_run Cert.InProjReferenceIdeal.defs _ _).mono (fun r ended c => ⟨(ended c).1.trans ?_, (ended c).2⟩) (Cert.InProjReferenceIdeal.Value.run (F := Ideal) m' g')⟩
  obtain ⟨h0, h1, h2⟩ := hagree c
  rw [h0, h1, h2]
  refine Eq.trans (b := Cert.InProjReferenceIdeal.Read.val_main_v24 (F := Ideal) (m ((c.tc : Thread Cert.InProjIdeal.nD Cert.InProjIdeal.τ).loc Cert.InProjIdeal.main_arg0))
    (m ((c.tc : Thread Cert.InProjIdeal.nD Cert.InProjIdeal.τ).loc Cert.InProjIdeal.main_arg1)) (m ((c.tc : Thread Cert.InProjIdeal.nD Cert.InProjIdeal.τ).loc Cert.InProjIdeal.main_arg2))) rfl ?_
  funext i
  obtain ⟨R, l, rfl⟩ : ∃ (R : Fin 16384) (l : Fin 3072), i = ix2 R l := ⟨i 0, i 1, by
    funext a
    revert a
    exact (Fin.forall_fin_two (p := fun a : Fin 2 => _)).2 ⟨rfl, rfl⟩⟩
  exact (Cert.InProjReferenceIdeal.Proj.out_read _ _ _ R l).trans (Cert.InProjIdeal.Proj.out_read m c R l).symm

/-- The last call's kernel runs under positions in range. -/
theorem frame_last_p : Cert.quiescent_Last := fun m g h => Cert.Last.Ple.frame m g (Cert.Plan.of_slot _ _ _ _ _ _ _ _ (h 0))
/-- So does the idealized one. -/
theorem frame_last_pi : Cert.quiescent_LastIdeal := fun m g h => Cert.LastIdeal.Ple.frame m g (Cert.Plan.of_slot _ _ _ _ _ _ _ _ (h 0))
/-- Its reference runs. -/
theorem frame_last_ri : Cert.quiescent_LastReferenceIdeal := fun m g _ =>
  (θ_run Cert.LastReferenceIdeal.defs _ _).mono
    (fun r ended => ⟨fun c => (ended c).2, sem_eq_zero_of_no_sems (by decide) r.2⟩)
    (Cert.LastReferenceIdeal.Value.run (F := Ideal) m g)
/-- So it does under the value claim's precondition. -/
theorem frame_last_ri_slot : Cert.quiescent_LastReferenceIdeal_pre_slot_range := fun m g _ => frame_last_ri m g trivial
/-- Nothing of the last call is replaced. -/
theorem same_last : Cert.preserves_Last_LastIdeal := trivial

/-- The last call's result is its reference's: at every batch row, place and column both are the token's row. -/
theorem values_last : Cert.algebraic_LastIdeal_LastReferenceIdeal := by
  intro m g m' g' hpre hagree
  have hr := Cert.Plan.of_slot _ _ _ _ _ _ _ _ (hpre 0)
  refine ⟨fun c => Cert.LastIdeal.Ple.result m c,
    (θ_run Cert.LastIdeal.defs _ _).mono (fun _ ended => ended.1) (Cert.LastIdeal.Ple.run_out m hr g),
    (θ_run Cert.LastReferenceIdeal.defs _ _).mono (fun r ended c => ⟨(ended c).1.trans ?_, (ended c).2⟩) (Cert.LastReferenceIdeal.Value.run (F := Ideal) m' g')⟩
  have hin := Cert.Plan.of_slot _ _ _ _ _ _ _ _ (hpre c)
  obtain ⟨h0, h1, h2, h3, h4, h5, h6, h7⟩ := hagree c
  rw [Cert.LastReferenceIdeal.Read.val_main_v53_eq, h0, h1, h2, h3, h4, h5, h6, h7]
  funext i
  obtain ⟨b, s, d, rfl⟩ : ∃ (b : Fin 8) (s : Fin 2048) (d : Fin 1024), i = ix3 b s d := ⟨i 0, i 1, i 2, by
    funext a
    revert a
    exact Fin.forall_fin_succ.2 ⟨rfl, (Fin.forall_fin_two (p := fun a : Fin 2 => _)).2 ⟨rfl, rfl⟩⟩⟩
  exact (Cert.LastReferenceIdeal.Row.out_read _ _ _ _ _ _ _ _ b s d ⟨b.val * 2048 + s.val, by omega⟩ rfl (hin _)).trans
    (Cert.LastIdeal.Ple.result_read m c b s d ⟨b.val * 2048 + s.val, by omega⟩ rfl).symm

/-- The certificate's claims. -/
theorem claim : Cert.Claim :=
  ⟨Cert.Kernel.Gen.facts, Cert.KernelIdeal.Gen.facts, Cert.ReferenceIdeal.Gen.facts, Cert.InProj.Gen.facts, Cert.InProjIdeal.Gen.facts, Cert.InProjReferenceIdeal.Gen.facts,
    Cert.Last.Gen.facts, Cert.LastIdeal.Gen.facts, Cert.LastReferenceIdeal.Gen.facts,
    Cert.Pre_plan_range.Gen.facts, Cert.Pre_finite_routing.Gen.facts, Cert.Pre_slot_range.Gen.facts,
    frame_p, frame_pi, frame_pi_finite, frame_ri, frame_ri_finite, frame_in_p, frame_in_pi, frame_in_ri, frame_last_p, frame_last_pi, frame_last_ri, frame_last_ri_slot,
    named, values, same_in, values_in, same_last, values_last⟩

end Cert.Proof

end
